-- ==== Defs.lean ====
def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXIdeal_tame [hPre_tame : Cert.Pre_tame.Facts] (m : (ℓ : Loc Cert.QuantXIdeal.nD Cert.QuantXIdeal.τ Cert.QuantXIdeal.sig) → Buf (Elt Ideal) ℓ) : Prop :=
  ∀ c : Dev Cert.QuantXIdeal.nD,
    (Cert.Pre_tame.fn (F := Ideal) (m ((c.tc : Thread Cert.QuantXIdeal.nD Cert.QuantXIdeal.τ).loc Cert.QuantXIdeal.main_arg0))) = (fun _ => 1#1)

def Pre_QuantXRefIdeal (m : (ℓ : Loc Cert.QuantXRefIdeal.nD Cert.QuantXRefIdeal.τ Cert.QuantXRefIdeal.sig) → Buf (Elt Ideal) ℓ) : Prop :=
  True

def Pre_QuantXRefIdeal_tame [hPre_tame : Cert.Pre_tame.Facts] (m : (ℓ : Loc Cert.QuantXRefIdeal.nD Cert.QuantXRefIdeal.τ Cert.QuantXRefIdeal.sig) → Buf (Elt Ideal) ℓ) : Prop :=
  ∀ c : Dev Cert.QuantXRefIdeal.nD,
    (Cert.Pre_tame.fn (F := Ideal) (m ((c.tc : Thread Cert.QuantXRefIdeal.nD Cert.QuantXRefIdeal.τ).loc Cert.QuantXRefIdeal.main_arg0))) = (fun _ => 1#1)

def Pre_QuantW (m : (ℓ : Loc Cert.QuantW.nD Cert.QuantW.τ Cert.QuantW.sig) → Buf (Elt Bits) ℓ) : Prop :=
  True

def Pre_QuantWIdeal (m : (ℓ : Loc Cert.QuantWIdeal.nD Cert.QuantWIdeal.τ Cert.QuantWIdeal.sig) → Buf (Elt Ideal) ℓ) : Prop :=
  True

def Pre_QuantWIdeal_tame_w [hPre_tame_w : Cert.Pre_tame_w.Facts] (m : (ℓ : Loc Cert.QuantWIdeal.nD Cert.QuantWIdeal.τ Cert.QuantWIdeal.sig) → Buf (Elt Ideal) ℓ) : Prop :=
  ∀ c : Dev Cert.QuantWIdeal.nD,
    (Cert.Pre_tame_w.fn (F := Ideal) (m ((c.tc : Thread Cert.QuantWIdeal.nD Cert.QuantWIdeal.τ).loc Cert.QuantWIdeal.main_arg0))) = (fun _ => 1#1)

def Pre_QuantWRefIdeal (m : (ℓ : Loc Cert.QuantWRefIdeal.nD Cert.QuantWRefIdeal.τ Cert.QuantWRefIdeal.sig) → Buf (Elt Ideal) ℓ) : Prop :=
  True

def Pre_QuantWRefIdeal_tame_w [hPre_tame_w : Cert.Pre_tame_w.Facts] (m : (ℓ : Loc Cert.QuantWRefIdeal.nD Cert.QuantWRefIdeal.τ Cert.QuantWRefIdeal.sig) → Buf (Elt Ideal) ℓ) : Prop :=
  ∀ c : Dev Cert.QuantWRefIdeal.nD,
    (Cert.Pre_tame_w.fn (F := Ideal) (m ((c.tc : Thread Cert.QuantWRefIdeal.nD Cert.QuantWRefIdeal.τ).loc Cert.QuantWRefIdeal.main_arg0))) = (fun _ => 1#1)

def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_MatmulRefIdeal (m : (ℓ : Loc Cert.MatmulRefIdeal.nD Cert.MatmulRefIdeal.τ Cert.MatmulRefIdeal.sig) → Buf (Elt Ideal) ℓ) : Prop :=
  True

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_QuantXIdeal_pre_tame [hQuantXIdeal : Cert.QuantXIdeal.Facts] [hPre_tame : Cert.Pre_tame.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal_tame m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_QuantXRefIdeal [hQuantXRefIdeal : Cert.QuantXRefIdeal.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0))
      ∧ r.2.sem = fun _ => 0)

def quiescent_QuantXRefIdeal_pre_tame [hQuantXRefIdeal : Cert.QuantXRefIdeal.Facts] [hPre_tame : Cert.Pre_tame.Facts] : Prop :=
  ∀ (m : (ℓ : Loc Cert.QuantXRefIdeal.nD Cert.QuantXRefIdeal.τ Cert.QuantXRefIdeal.sig) → Buf (Elt Ideal) ℓ) (g : Dev Cert.QuantXRefIdeal.nD → PrngReg), Pre_QuantXRefIdeal_tame m →
    θ_run (Cert.QuantXRefIdeal.defs (F := Ideal)) (onTc (τ := Cert.QuantXRefIdeal.τ) (Cert.QuantXRefIdeal.main (F := Ideal))) ⟨m, fun _ => 0, g⟩ (fun r => (∀ c : Dev Cert.QuantXRefIdeal.nD,
      r.2.mem ((c.tc : Thread Cert.QuantXRefIdeal.nD Cert.QuantXRefIdeal.τ).loc Cert.QuantXRefIdeal.main_arg0) = m ((c.tc : Thread Cert.QuantXRefIdeal.nD Cert.QuantXRefIdeal.τ).loc Cert.QuantXRefIdeal.main_arg0))
      ∧ r.2.sem = fun _ => 0)

def quiescent_QuantW [hQuantW : Cert.QuantW.Facts] : Prop :=
  ∀ (m : (ℓ : Loc Cert.QuantW.nD Cert.QuantW.τ Cert.QuantW.sig) → Buf (Elt Bits) ℓ) (g : Dev Cert.QuantW.nD → PrngReg), Pre_QuantW m →
    θ_run (Cert.QuantW.defs (F := Bits)) (onTc (τ := Cert.QuantW.τ) (Cert.QuantW.main (F := Bits))) ⟨m, fun _ => 0, g⟩ (fun r => (∀ c : Dev Cert.QuantW.nD,
      r.2.mem ((c.tc : Thread Cert.QuantW.nD Cert.QuantW.τ).loc Cert.QuantW.main_arg0) = m ((c.tc : Thread Cert.QuantW.nD Cert.QuantW.τ).loc Cert.QuantW.main_arg0))
      ∧ r.2.sem = fun _ => 0)

def quiescent_QuantWIdeal [hQuantWIdeal : Cert.QuantWIdeal.Facts] : Prop :=
  ∀ (m : (ℓ : Loc Cert.QuantWIdeal.nD Cert.QuantWIdeal.τ Cert.QuantWIdeal.sig) → Buf (Elt Ideal) ℓ) (g : Dev Cert.QuantWIdeal.nD → PrngReg), Pre_QuantWIdeal m →
    θ_run (Cert.QuantWIdeal.defs (F := Ideal)) (onTc (τ := Cert.QuantWIdeal.τ) (Cert.QuantWIdeal.main (F := Ideal))) ⟨m, fun _ => 0, g⟩ (fun r => (∀ c : Dev Cert.QuantWIdeal.nD,
      r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0))
      ∧ r.2.sem = fun _ => 0)

def quiescent_QuantWIdeal_pre_tame_w [hQuantWIdeal : Cert.QuantWIdeal.Facts] [hPre_tame_w : Cert.Pre_tame_w.Facts] : Prop :=
  ∀ (m : (ℓ : Loc Cert.QuantWIdeal.nD Cert.QuantWIdeal.τ Cert.QuantWIdeal.sig) → Buf (Elt Ideal) ℓ) (g : Dev Cert.QuantWIdeal.nD → PrngReg), Pre_QuantWIdeal_tame_w m →
    θ_run (Cert.QuantWIdeal.defs (F := Ideal)) (onTc (τ := Cert.QuantWIdeal.τ) (Cert.QuantWIdeal.main (F := Ideal))) ⟨m, fun _ => 0, g⟩ (fun r => (∀ c : Dev Cert.QuantWIdeal.nD,
      r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0))
      ∧ r.2.sem = fun _ => 0)

def quiescent_QuantWRefIdeal [hQuantWRefIdeal : Cert.QuantWRefIdeal.Facts] : Prop :=
  ∀ (m : (ℓ : Loc Cert.QuantWRefIdeal.nD Cert.QuantWRefIdeal.τ Cert.QuantWRefIdeal.sig) → Buf (Elt Ideal) ℓ) (g : Dev Cert.QuantWRefIdeal.nD → PrngReg), Pre_QuantWRefIdeal m →
    θ_run (Cert.QuantWRefIdeal.defs (F := Ideal)) (onTc (τ := Cert.QuantWRefIdeal.τ) (Cert.QuantWRefIdeal.main (F := Ideal))) ⟨m, fun _ => 0, g⟩ (fun r => (∀ c : Dev Cert.QuantWRefIdeal.nD,
      r.2.mem ((c.tc : Thread Cert.QuantWRefIdeal.nD Cert.QuantWRefIdeal.τ).loc Cert.QuantWRefIdeal.main_arg0) = m ((c.tc : Thread Cert.QuantWRefIdeal.nD Cert.QuantWRefIdeal.τ).loc Cert.QuantWRefIdeal.main_arg0))
      ∧ r.2.sem = fun _ => 0)

def quiescent_QuantWRefIdeal_pre_tame_w [hQuantWRefIdeal : Cert.QuantWRefIdeal.Facts] [hPre_tame_w : Cert.Pre_tame_w.Facts] : Prop :=
  ∀ (m : (ℓ : Loc Cert.QuantWRefIdeal.nD Cert.QuantWRefIdeal.τ Cert.QuantWRefIdeal.sig) → Buf (Elt Ideal) ℓ) (g : Dev Cert.QuantWRefIdeal.nD → PrngReg), Pre_QuantWRefIdeal_tame_w m →
    θ_run (Cert.QuantWRefIdeal.defs (F := Ideal)) (onTc (τ := Cert.QuantWRefIdeal.τ) (Cert.QuantWRefIdeal.main (F := Ideal))) ⟨m, fun _ => 0, g⟩ (fun r => (∀ c : Dev Cert.QuantWRefIdeal.nD,
      r.2.mem ((c.tc : Thread Cert.QuantWRefIdeal.nD Cert.QuantWRefIdeal.τ).loc Cert.QuantWRefIdeal.main_arg0) = m ((c.tc : Thread Cert.QuantWRefIdeal.nD Cert.QuantWRefIdeal.τ).loc Cert.QuantWRefIdeal.main_arg0))
      ∧ r.2.sem = fun _ => 0)

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1))
      ∧ r.2.sem = fun _ => 0)

def quiescent_MatmulRefIdeal [hMatmulRefIdeal : Cert.MatmulRefIdeal.Facts] : Prop :=
  ∀ (m : (ℓ : Loc Cert.MatmulRefIdeal.nD Cert.MatmulRefIdeal.τ Cert.MatmulRefIdeal.sig) → Buf (Elt Ideal) ℓ) (g : Dev Cert.MatmulRefIdeal.nD → PrngReg), Pre_MatmulRefIdeal m →
    θ_run (Cert.MatmulRefIdeal.defs (F := Ideal)) (onTc (τ := Cert.MatmulRefIdeal.τ) (Cert.MatmulRefIdeal.main (F := Ideal))) ⟨m, fun _ => 0, g⟩ (fun r => (∀ c : Dev Cert.MatmulRefIdeal.nD,
      r.2.mem ((c.tc : Thread Cert.MatmulRefIdeal.nD Cert.MatmulRefIdeal.τ).loc Cert.MatmulRefIdeal.main_arg0) = m ((c.tc : Thread Cert.MatmulRefIdeal.nD Cert.MatmulRefIdeal.τ).loc Cert.MatmulRefIdeal.main_arg0)
      ∧ r.2.mem ((c.tc : Thread Cert.MatmulRefIdeal.nD Cert.MatmulRefIdeal.τ).loc Cert.MatmulRefIdeal.main_arg1) = m ((c.tc : Thread Cert.MatmulRefIdeal.nD Cert.MatmulRefIdeal.τ).loc Cert.MatmulRefIdeal.main_arg1))
      ∧ r.2.sem = fun _ => 0)

def preserves_QuantX_QuantXIdeal : Prop :=
  True

def algebraic_QuantXIdeal_QuantXRefIdeal_pre_tame [hQuantXIdeal : Cert.QuantXIdeal.Facts] [hQuantXRefIdeal : Cert.QuantXRefIdeal.Facts] [hPre_tame : Cert.Pre_tame.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXRefIdeal.nD Cert.QuantXRefIdeal.τ Cert.QuantXRefIdeal.sig) → Buf (Elt Ideal) ℓ) (g' : Dev Cert.QuantXRefIdeal.nD → PrngReg), Pre_QuantXIdeal_tame m →
    (∀ c : Dev Cert.QuantXIdeal.nD,
      m' ((c.tc : Thread Cert.QuantXRefIdeal.nD Cert.QuantXRefIdeal.τ).loc Cert.QuantXRefIdeal.main_arg0) = m ((c.tc : Thread Cert.QuantXIdeal.nD Cert.QuantXIdeal.τ).loc Cert.QuantXIdeal.main_arg0)) →
    ∃ (v0 : (c : Dev Cert.QuantXIdeal.nD) → Buf (Elt Ideal) ((c.tc : Thread Cert.QuantXIdeal.nD Cert.QuantXIdeal.τ).loc Cert.QuantXIdeal.main_v24_0)) (v1 : (c : Dev Cert.QuantXIdeal.nD) → Buf (Elt Ideal) ((c.tc : Thread Cert.QuantXIdeal.nD Cert.QuantXIdeal.τ).loc Cert.QuantXIdeal.main_v24_1)) (v2 : (c : Dev Cert.QuantXIdeal.nD) → Buf (Elt Ideal) ((c.tc : Thread Cert.QuantXIdeal.nD Cert.QuantXIdeal.τ).loc Cert.QuantXIdeal.main_v24_2)) (v3 : (c : Dev Cert.QuantXIdeal.nD) → Buf (Elt Ideal) ((c.tc : Thread Cert.QuantXIdeal.nD Cert.QuantXIdeal.τ).loc Cert.QuantXIdeal.main_v24_3)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v24_0) = v0 c
          ∧ r.2.mem ((c.tc : Thread Cert.QuantXIdeal.nD Cert.QuantXIdeal.τ).loc Cert.QuantXIdeal.main_v24_1) = v1 c
          ∧ r.2.mem ((c.tc : Thread Cert.QuantXIdeal.nD Cert.QuantXIdeal.τ).loc Cert.QuantXIdeal.main_v24_2) = v2 c
          ∧ r.2.mem ((c.tc : Thread Cert.QuantXIdeal.nD Cert.QuantXIdeal.τ).loc Cert.QuantXIdeal.main_v24_3) = v3 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ θ_run (Cert.QuantXRefIdeal.defs (F := Ideal)) (onTc (τ := Cert.QuantXRefIdeal.τ) (Cert.QuantXRefIdeal.main (F := Ideal))) ⟨m', fun _ => 0, g'⟩ (fun r => ∀ c : Dev Cert.QuantXRefIdeal.nD,
          r.2.mem ((c.tc : Thread Cert.QuantXRefIdeal.nD Cert.QuantXRefIdeal.τ).loc Cert.QuantXRefIdeal.main_v46) = v0 c
          ∧ r.2.mem ((c.tc : Thread Cert.QuantXRefIdeal.nD Cert.QuantXRefIdeal.τ).loc Cert.QuantXRefIdeal.main_v28) = v1 c
          ∧ r.2.mem ((c.tc : Thread Cert.QuantXRefIdeal.nD Cert.QuantXRefIdeal.τ).loc Cert.QuantXRefIdeal.main_v35) = v2 c
          ∧ r.2.mem ((c.tc : Thread Cert.QuantXRefIdeal.nD Cert.QuantXRefIdeal.τ).loc Cert.QuantXRefIdeal.main_v47) = v3 c
          ∧ r.2.mem ((c.tc : Thread Cert.QuantXRefIdeal.nD Cert.QuantXRefIdeal.τ).loc Cert.QuantXRefIdeal.main_arg0) = m' ((c.tc : Thread Cert.QuantXRefIdeal.nD Cert.QuantXRefIdeal.τ).loc Cert.QuantXRefIdeal.main_arg0))

def preserves_QuantW_QuantWIdeal : Prop :=
  True

def algebraic_QuantWIdeal_QuantWRefIdeal_pre_tame_w [hQuantWIdeal : Cert.QuantWIdeal.Facts] [hQuantWRefIdeal : Cert.QuantWRefIdeal.Facts] [hPre_tame_w : Cert.Pre_tame_w.Facts] : Prop :=
  ∀ (m : (ℓ : Loc Cert.QuantWIdeal.nD Cert.QuantWIdeal.τ Cert.QuantWIdeal.sig) → Buf (Elt Ideal) ℓ) (g : Dev Cert.QuantWIdeal.nD → PrngReg)
    (m' : (ℓ : Loc Cert.QuantWRefIdeal.nD Cert.QuantWRefIdeal.τ Cert.QuantWRefIdeal.sig) → Buf (Elt Ideal) ℓ) (g' : Dev Cert.QuantWRefIdeal.nD → PrngReg), Pre_QuantWIdeal_tame_w m →
    (∀ c : Dev Cert.QuantWIdeal.nD,
      m' ((c.tc : Thread Cert.QuantWRefIdeal.nD Cert.QuantWRefIdeal.τ).loc Cert.QuantWRefIdeal.main_arg0) = m ((c.tc : Thread Cert.QuantWIdeal.nD Cert.QuantWIdeal.τ).loc Cert.QuantWIdeal.main_arg0)) →
    ∃ (v0 : (c : Dev Cert.QuantWIdeal.nD) → Buf (Elt Ideal) ((c.tc : Thread Cert.QuantWIdeal.nD Cert.QuantWIdeal.τ).loc Cert.QuantWIdeal.main_v23_0)) (v1 : (c : Dev Cert.QuantWIdeal.nD) → Buf (Elt Ideal) ((c.tc : Thread Cert.QuantWIdeal.nD Cert.QuantWIdeal.τ).loc Cert.QuantWIdeal.main_v23_1)) (v2 : (c : Dev Cert.QuantWIdeal.nD) → Buf (Elt Ideal) ((c.tc : Thread Cert.QuantWIdeal.nD Cert.QuantWIdeal.τ).loc Cert.QuantWIdeal.main_v23_2)) (v3 : (c : Dev Cert.QuantWIdeal.nD) → Buf (Elt Ideal) ((c.tc : Thread Cert.QuantWIdeal.nD Cert.QuantWIdeal.τ).loc Cert.QuantWIdeal.main_v23_3)),
      θ_run (Cert.QuantWIdeal.defs (F := Ideal)) (onTc (τ := Cert.QuantWIdeal.τ) (Cert.QuantWIdeal.main (F := Ideal))) ⟨m, fun _ => 0, g⟩ (fun r => ∀ c : Dev Cert.QuantWIdeal.nD,
          r.2.mem ((c.tc : Thread Cert.QuantWIdeal.nD Cert.QuantWIdeal.τ).loc Cert.QuantWIdeal.main_v23_0) = v0 c
          ∧ r.2.mem ((c.tc : Thread Cert.QuantWIdeal.nD Cert.QuantWIdeal.τ).loc Cert.QuantWIdeal.main_v23_1) = v1 c
          ∧ r.2.mem ((c.tc : Thread Cert.QuantWIdeal.nD Cert.QuantWIdeal.τ).loc Cert.QuantWIdeal.main_v23_2) = v2 c
          ∧ r.2.mem ((c.tc : Thread Cert.QuantWIdeal.nD Cert.QuantWIdeal.τ).loc Cert.QuantWIdeal.main_v23_3) = v3 c
          ∧ r.2.mem ((c.tc : Thread Cert.QuantWIdeal.nD Cert.QuantWIdeal.τ).loc Cert.QuantWIdeal.main_arg0) = m ((c.tc : Thread Cert.QuantWIdeal.nD Cert.QuantWIdeal.τ).loc Cert.QuantWIdeal.main_arg0))
      ∧ θ_run (Cert.QuantWRefIdeal.defs (F := Ideal)) (onTc (τ := Cert.QuantWRefIdeal.τ) (Cert.QuantWRefIdeal.main (F := Ideal))) ⟨m', fun _ => 0, g'⟩ (fun r => ∀ c : Dev Cert.QuantWRefIdeal.nD,
          r.2.mem ((c.tc : Thread Cert.QuantWRefIdeal.nD Cert.QuantWRefIdeal.τ).loc Cert.QuantWRefIdeal.main_v48) = v0 c
          ∧ r.2.mem ((c.tc : Thread Cert.QuantWRefIdeal.nD Cert.QuantWRefIdeal.τ).loc Cert.QuantWRefIdeal.main_v29) = v1 c
          ∧ r.2.mem ((c.tc : Thread Cert.QuantWRefIdeal.nD Cert.QuantWRefIdeal.τ).loc Cert.QuantWRefIdeal.main_v37) = v2 c
          ∧ r.2.mem ((c.tc : Thread Cert.QuantWRefIdeal.nD Cert.QuantWRefIdeal.τ).loc Cert.QuantWRefIdeal.main_v49) = v3 c
          ∧ r.2.mem ((c.tc : Thread Cert.QuantWRefIdeal.nD Cert.QuantWRefIdeal.τ).loc Cert.QuantWRefIdeal.main_arg0) = m' ((c.tc : Thread Cert.QuantWRefIdeal.nD Cert.QuantWRefIdeal.τ).loc Cert.QuantWRefIdeal.main_arg0))

def preserves_Matmul_MatmulIdeal : Prop :=
  True

def algebraic_MatmulIdeal_MatmulRefIdeal [hMatmulIdeal : Cert.MatmulIdeal.Facts] [hMatmulRefIdeal : Cert.MatmulRefIdeal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.MatmulRefIdeal.nD Cert.MatmulRefIdeal.τ Cert.MatmulRefIdeal.sig) → Buf (Elt Ideal) ℓ) (g' : Dev Cert.MatmulRefIdeal.nD → PrngReg), Pre_MatmulIdeal m →
    (∀ c : Dev Cert.MatmulIdeal.nD,
      m' ((c.tc : Thread Cert.MatmulRefIdeal.nD Cert.MatmulRefIdeal.τ).loc Cert.MatmulRefIdeal.main_arg0) = m ((c.tc : Thread Cert.MatmulIdeal.nD Cert.MatmulIdeal.τ).loc Cert.MatmulIdeal.main_arg0)
      ∧ m' ((c.tc : Thread Cert.MatmulRefIdeal.nD Cert.MatmulRefIdeal.τ).loc Cert.MatmulRefIdeal.main_arg1) = m ((c.tc : Thread Cert.MatmulIdeal.nD Cert.MatmulIdeal.τ).loc Cert.MatmulIdeal.main_arg1)) →
    ∃ (v0 : (c : Dev Cert.MatmulIdeal.nD) → Buf (Elt Ideal) ((c.tc : Thread Cert.MatmulIdeal.nD Cert.MatmulIdeal.τ).loc Cert.MatmulIdeal.main_v0)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v0) = v0 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1))
      ∧ θ_run (Cert.MatmulRefIdeal.defs (F := Ideal)) (onTc (τ := Cert.MatmulRefIdeal.τ) (Cert.MatmulRefIdeal.main (F := Ideal))) ⟨m', fun _ => 0, g'⟩ (fun r => ∀ c : Dev Cert.MatmulRefIdeal.nD,
          r.2.mem ((c.tc : Thread Cert.MatmulRefIdeal.nD Cert.MatmulRefIdeal.τ).loc Cert.MatmulRefIdeal.main_v1) = v0 c
          ∧ r.2.mem ((c.tc : Thread Cert.MatmulRefIdeal.nD Cert.MatmulRefIdeal.τ).loc Cert.MatmulRefIdeal.main_arg0) = m' ((c.tc : Thread Cert.MatmulRefIdeal.nD Cert.MatmulRefIdeal.τ).loc Cert.MatmulRefIdeal.main_arg0)
          ∧ r.2.mem ((c.tc : Thread Cert.MatmulRefIdeal.nD Cert.MatmulRefIdeal.τ).loc Cert.MatmulRefIdeal.main_arg1) = m' ((c.tc : Thread Cert.MatmulRefIdeal.nD Cert.MatmulRefIdeal.τ).loc Cert.MatmulRefIdeal.main_arg1))

def Claim : Prop :=
  ∃ (hQuantX : Cert.QuantX.Facts) (hQuantXIdeal : Cert.QuantXIdeal.Facts) (hQuantXRefIdeal : Cert.QuantXRefIdeal.Facts) (hQuantW : Cert.QuantW.Facts) (hQuantWIdeal : Cert.QuantWIdeal.Facts) (hQuantWRefIdeal : Cert.QuantWRefIdeal.Facts) (hMatmul : Cert.Matmul.Facts) (hMatmulIdeal : Cert.MatmulIdeal.Facts) (hMatmulRefIdeal : Cert.MatmulRefIdeal.Facts) (hPre_tame : Cert.Pre_tame.Facts) (hPre_tame_w : Cert.Pre_tame_w.Facts),
    quiescent_QuantX (hQuantX := hQuantX)
    ∧ quiescent_QuantXIdeal (hQuantXIdeal := hQuantXIdeal)
    ∧ quiescent_QuantXIdeal_pre_tame (hQuantXIdeal := hQuantXIdeal) (hPre_tame := hPre_tame)
    ∧ quiescent_QuantXRefIdeal (hQuantXRefIdeal := hQuantXRefIdeal)
    ∧ quiescent_QuantXRefIdeal_pre_tame (hQuantXRefIdeal := hQuantXRefIdeal) (hPre_tame := hPre_tame)
    ∧ quiescent_QuantW (hQuantW := hQuantW)
    ∧ quiescent_QuantWIdeal (hQuantWIdeal := hQuantWIdeal)
    ∧ quiescent_QuantWIdeal_pre_tame_w (hQuantWIdeal := hQuantWIdeal) (hPre_tame_w := hPre_tame_w)
    ∧ quiescent_QuantWRefIdeal (hQuantWRefIdeal := hQuantWRefIdeal)
    ∧ quiescent_QuantWRefIdeal_pre_tame_w (hQuantWRefIdeal := hQuantWRefIdeal) (hPre_tame_w := hPre_tame_w)
    ∧ quiescent_Matmul (hMatmul := hMatmul)
    ∧ quiescent_MatmulIdeal (hMatmulIdeal := hMatmulIdeal)
    ∧ quiescent_MatmulRefIdeal (hMatmulRefIdeal := hMatmulRefIdeal)
    ∧ preserves_QuantX_QuantXIdeal
    ∧ algebraic_QuantXIdeal_QuantXRefIdeal_pre_tame (hQuantXIdeal := hQuantXIdeal) (hQuantXRefIdeal := hQuantXRefIdeal) (hPre_tame := hPre_tame)
    ∧ preserves_QuantW_QuantWIdeal
    ∧ algebraic_QuantWIdeal_QuantWRefIdeal_pre_tame_w (hQuantWIdeal := hQuantWIdeal) (hQuantWRefIdeal := hQuantWRefIdeal) (hPre_tame_w := hPre_tame_w)
    ∧ preserves_Matmul_MatmulIdeal
    ∧ algebraic_MatmulIdeal_MatmulRefIdeal (hMatmulIdeal := hMatmulIdeal) (hMatmulRefIdeal := hMatmulRefIdeal)
-- ==== Pre_tame.lean ====
abbrev S8x1536x4096 : Shape := ⟨3, ![8, 1536, 4096]⟩
abbrev S_ : Shape := ⟨0, ![]⟩

class Facts : Prop where
  bcast_S_S8x1536x4096 : S_.BroadcastsInDim S8x1536x4096 (![] : Fin 0 → Fin S8x1536x4096.rank)

variable [Facts]

def fn {F : FTy → Type} [FloatOps F] (main_arg0 : FVec F S8x1536x4096 .bf16) : IVec S8x1536x4096 1 :=
  let main_cst : FVec F S_ .bf16 := constant S_ .bf16 0x0000#16
  let main_v0 : FVec F S8x1536x4096 .bf16 := broadcastInDim S8x1536x4096 ![] bcast_S_S8x1536x4096 main_cst
  let main_v1 : IVec S8x1536x4096 1 := cmpf .oeq main_arg0 main_v0
  let main_v2 : FVec F S8x1536x4096 .bf16 := Host.absf main_arg0
  let main_cst_0 : FVec F S_ .bf16 := constant S_ .bf16 0x0280#16
  let main_v3 : FVec F S8x1536x4096 .bf16 := broadcastInDim S8x1536x4096 ![] bcast_S_S8x1536x4096 main_cst_0
  let main_v4 : IVec S8x1536x4096 1 := cmpf .oge main_v2 main_v3
  let main_v5 : FVec F S8x1536x4096 .bf16 := Host.absf main_arg0
  let main_cst_1 : FVec F S_ .bf16 := constant S_ .bf16 0x7F7F#16
  let main_v6 : FVec F S8x1536x4096 .bf16 := broadcastInDim S8x1536x4096 ![] bcast_S_S8x1536x4096 main_cst_1
  let main_v7 : IVec S8x1536x4096 1 := cmpf .ole main_v5 main_v6
  let main_v8 : IVec S8x1536x4096 1 := andi main_v4 main_v7
  let main_v9 : IVec S8x1536x4096 1 := ori main_v1 main_v8
  main_v9
-- ==== Pre_tame_w.lean ====
abbrev S4096x11008 : Shape := ⟨2, ![4096, 11008]⟩
abbrev S_ : Shape := ⟨0, ![]⟩

class Facts : Prop where
  bcast_S_S4096x11008 : S_.BroadcastsInDim S4096x11008 (![] : Fin 0 → Fin S4096x11008.rank)

variable [Facts]

def fn {F : FTy → Type} [FloatOps F] (main_arg0 : FVec F S4096x11008 .bf16) : IVec S4096x11008 1 :=
  let main_cst : FVec F S_ .bf16 := constant S_ .bf16 0x0000#16
  let main_v0 : FVec F S4096x11008 .bf16 := broadcastInDim S4096x11008 ![] bcast_S_S4096x11008 main_cst
  let main_v1 : IVec S4096x11008 1 := cmpf .oeq main_arg0 main_v0
  let main_v2 : FVec F S4096x11008 .bf16 := Host.absf main_arg0
  let main_cst_0 : FVec F S_ .bf16 := constant S_ .bf16 0x0280#16
  let main_v3 : FVec F S4096x11008 .bf16 := broadcastInDim S4096x11008 ![] bcast_S_S4096x11008 main_cst_0
  let main_v4 : IVec S4096x11008 1 := cmpf .oge main_v2 main_v3
  let main_v5 : FVec F S4096x11008 .bf16 := Host.absf main_arg0
  let main_cst_1 : FVec F S_ .bf16 := constant S_ .bf16 0x7F7F#16
  let main_v6 : FVec F S4096x11008 .bf16 := broadcastInDim S4096x11008 ![] bcast_S_S4096x11008 main_cst_1
  let main_v7 : IVec S4096x11008 1 := cmpf .ole main_v5 main_v6
  let main_v8 : IVec S4096x11008 1 := andi main_v4 main_v7
  let main_v9 : IVec S4096x11008 1 := ori main_v1 main_v8
  main_v9
-- ==== QuantX.lean ====
abbrev S8x1536x4096 : Shape := ⟨3, ![8, 1536, 4096]⟩
abbrev S12288x4096 : Shape := ⟨2, ![12288, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S12288x128 : Shape := ⟨2, ![12288, 128]⟩
abbrev S12288x512 : Shape := ⟨2, ![12288, 512]⟩
abbrev S256x4096 : Shape := ⟨2, ![256, 4096]⟩
abbrev S256x128 : Shape := ⟨2, ![256, 128]⟩
abbrev S256x512 : Shape := ⟨2, ![256, 512]⟩
abbrev S32x128 : Shape := ⟨2, ![32, 128]⟩
abbrev S32x128x1 : Shape := ⟨3, ![32, 128, 1]⟩

abbrev nBuf : Space → Nat
  | .hbm => 72
  | .vmem => 12
  | .smem => 0
  | _ => 0

abbrev bufTy : (tb : Table) → Fin (tcTables nBuf tb) → BufTy
  | .hbm, ⟨0, _⟩ => ⟨S8x1536x4096, .bf16⟩
  | .hbm, ⟨1, _⟩ => ⟨S12288x4096, .bf16⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x1, .i32⟩
  | .hbm, ⟨24, _⟩ => ⟨S_, .i32⟩
  | .hbm, ⟨25, _⟩ => ⟨S_, .i32⟩
  | .hbm, ⟨26, _⟩ => ⟨S256x1, .i32⟩
  | .hbm, ⟨27, _⟩ => ⟨S256x1, .i32⟩
  | .hbm, ⟨28, _⟩ => ⟨S256x1, .i32⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S256x1, .i1⟩
  | .hbm, ⟨38, _⟩ => ⟨S_, .i32⟩
  | .hbm, ⟨39, _⟩ => ⟨S256x1, .i32⟩
  | .hbm, ⟨40, _⟩ => ⟨S256x1, .i32⟩
  | .hbm, ⟨41, _⟩ => ⟨S256x1, .i32⟩
  | .hbm, ⟨42, _⟩ => ⟨S1x256, .i32⟩
  | .hbm, ⟨43, _⟩ => ⟨S_, .i32⟩
  | .hbm, ⟨44, _⟩ => ⟨S_, .i32⟩
  | .hbm, ⟨45, _⟩ => ⟨S1x256, .i32⟩
  | .hbm, ⟨46, _⟩ => ⟨S1x256, .i32⟩
  | .hbm, ⟨47, _⟩ => ⟨S1x256, .i32⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x256, .i32⟩
  | .hbm, ⟨52, _⟩ => ⟨S1x256, .i32⟩
  | .hbm, ⟨53, _⟩ => ⟨S_, .i32⟩
  | .hbm, ⟨54, _⟩ => ⟨S1x256, .i32⟩
  | .hbm, ⟨55, _⟩ => ⟨S1x256, .i1⟩
  | .hbm, ⟨56, _⟩ => ⟨S1x256, .i1⟩
  | .hbm, ⟨57, _⟩ => ⟨S_, .i32⟩
  | .hbm, ⟨58, _⟩ => ⟨S1x256, .i32⟩
  | .hbm, ⟨59, _⟩ => ⟨S1x256, .i32⟩
  | .hbm, ⟨60, _⟩ => ⟨S1x256, .i32⟩
  | .hbm, ⟨61, _⟩ => ⟨S256x256, .i32⟩
  | .hbm, ⟨62, _⟩ => ⟨S256x256, .i32⟩
  | .hbm, ⟨63, _⟩ => ⟨S256x256, .i1⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S256x256, .bf16⟩
  | .hbm, ⟨68, _⟩ => ⟨S12288x4096, .fp8e4m3⟩
  | .hbm, ⟨69, _⟩ => ⟨S12288x128, .i8⟩
  | .hbm, ⟨70, _⟩ => ⟨S12288x512, .i8⟩
  | .hbm, ⟨71, _⟩ => ⟨S12288x4096, .bf16⟩
  | .local _ .vmem, ⟨0, _⟩ => ⟨S256x4096, .bf16⟩
  | .local _ .vmem, ⟨1, _⟩ => ⟨S256x4096, .bf16⟩
  | .local _ .vmem, ⟨2, _⟩ => ⟨S256x256, .bf16⟩
  | .local _ .vmem, ⟨3, _⟩ => ⟨S256x4096, .fp8e4m3⟩
  | .local _ .vmem, ⟨4, _⟩ => ⟨S256x4096, .fp8e4m3⟩
  | .local _ .vmem, ⟨5, _⟩ => ⟨S256x128, .i8⟩
  | .local _ .vmem, ⟨6, _⟩ => ⟨S256x128, .i8⟩
  | .local _ .vmem, ⟨7, _⟩ => ⟨S256x512, .i8⟩
  | .local _ .vmem, ⟨8, _⟩ => ⟨S256x512, .i8⟩
  | .local _ .vmem, ⟨9, _⟩ => ⟨S256x4096, .bf16⟩
  | .local _ .vmem, ⟨10, _⟩ => ⟨S256x4096, .bf16⟩
  | .local _ .vmem, ⟨11, _⟩ => ⟨S256x4096, .f32⟩
  | _, _ => ⟨S8x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_c : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_0 : Ref sig .tc := ⟨.hbm, 57, rfl⟩
abbrev main_call2_v12 : Ref sig .tc := ⟨.hbm, 58, rfl⟩
abbrev main_call2_v13 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_5 : Ref sig .tc := ⟨.hbm, 64, rfl⟩
abbrev main_call3_v0 : Ref sig .tc := ⟨.hbm, 65, rfl⟩
abbrev main_v22 : Ref sig .tc := ⟨.hbm, 66, rfl⟩
abbrev main_v23 : Ref sig .tc := ⟨.hbm, 67, rfl⟩
abbrev main_v24_0 : Ref sig .tc := ⟨.hbm, 68, rfl⟩
abbrev main_v24_1 : Ref sig .tc := ⟨.hbm, 69, rfl⟩
abbrev main_v24_2 : Ref sig .tc := ⟨.hbm, 70, rfl⟩
abbrev main_v24_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c8_i32 : BitVec 32 := 8#32
  let v160 : BitVec 32 := Scalar.addi c0_i32 c8_i32
  let c1_i32 : BitVec 32 := 1#32
  ⟨c0_i32, v160, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  v161
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v163 : Index := Scalar.indexCast v162
  let c0_112 : Index := 0#32
  ![v163.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v165 : Index := Scalar.indexCast v162
  let c128 : Index := 128#32
  ![v165.toNat, 128]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v167 : Index := Scalar.indexCast v162
  let c256_113 : Index := 256#32
  ![v167.toNat, 256]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v169 : Index := Scalar.indexCast v162
  let c384 : Index := 384#32
  ![v169.toNat, 384]
def k0_off5 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v171 : Index := Scalar.indexCast v162
  let c512_114 : Index := 512#32
  ![v171.toNat, 512]
def k0_off6 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v173 : Index := Scalar.indexCast v162
  let c640 : Index := 640#32
  ![v173.toNat, 640]
def k0_off7 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v175 : Index := Scalar.indexCast v162
  let c768_115 : Index := 768#32
  ![v175.toNat, 768]
def k0_off8 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v177 : Index := Scalar.indexCast v162
  let c896 : Index := 896#32
  ![v177.toNat, 896]
def k0_off9 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v179 : Index := Scalar.indexCast v162
  let c1024_116 : Index := 1024#32
  ![v179.toNat, 1024]
def k0_off10 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v181 : Index := Scalar.indexCast v162
  let c1152 : Index := 1152#32
  ![v181.toNat, 1152]
def k0_off11 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v183 : Index := Scalar.indexCast v162
  let c1280_117 : Index := 1280#32
  ![v183.toNat, 1280]
def k0_off12 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v185 : Index := Scalar.indexCast v162
  let c1408 : Index := 1408#32
  ![v185.toNat, 1408]
def k0_off13 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v187 : Index := Scalar.indexCast v162
  let c1536_118 : Index := 1536#32
  ![v187.toNat, 1536]
def k0_off14 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v189 : Index := Scalar.indexCast v162
  let c1664 : Index := 1664#32
  ![v189.toNat, 1664]
def k0_off15 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v191 : Index := Scalar.indexCast v162
  let c1792_119 : Index := 1792#32
  ![v191.toNat, 1792]
def k0_off16 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v193 : Index := Scalar.indexCast v162
  let c1920 : Index := 1920#32
  ![v193.toNat, 1920]
def k0_off17 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v195 : Index := Scalar.indexCast v162
  let c2048_120 : Index := 2048#32
  ![v195.toNat, 2048]
def k0_off18 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v197 : Index := Scalar.indexCast v162
  let c2176 : Index := 2176#32
  ![v197.toNat, 2176]
def k0_off19 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v199 : Index := Scalar.indexCast v162
  let c2304_121 : Index := 2304#32
  ![v199.toNat, 2304]
def k0_off20 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v201 : Index := Scalar.indexCast v162
  let c2432 : Index := 2432#32
  ![v201.toNat, 2432]
def k0_off21 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v203 : Index := Scalar.indexCast v162
  let c2560_122 : Index := 2560#32
  ![v203.toNat, 2560]
def k0_off22 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v205 : Index := Scalar.indexCast v162
  let c2688 : Index := 2688#32
  ![v205.toNat, 2688]
def k0_off23 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v207 : Index := Scalar.indexCast v162
  let c2816_123 : Index := 2816#32
  ![v207.toNat, 2816]
def k0_off24 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v209 : Index := Scalar.indexCast v162
  let c2944 : Index := 2944#32
  ![v209.toNat, 2944]
def k0_off25 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v211 : Index := Scalar.indexCast v162
  let c3072_124 : Index := 3072#32
  ![v211.toNat, 3072]
def k0_off26 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v213 : Index := Scalar.indexCast v162
  let c3200 : Index := 3200#32
  ![v213.toNat, 3200]
def k0_off27 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v215 : Index := Scalar.indexCast v162
  let c3328_125 : Index := 3328#32
  ![v215.toNat, 3328]
def k0_off28 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v217 : Index := Scalar.indexCast v162
  let c3456 : Index := 3456#32
  ![v217.toNat, 3456]
def k0_off29 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v219 : Index := Scalar.indexCast v162
  let c3584_126 : Index := 3584#32
  ![v219.toNat, 3584]
def k0_off30 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v221 : Index := Scalar.indexCast v162
  let c3712 : Index := 3712#32
  ![v221.toNat, 3712]
def k0_off31 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v223 : Index := Scalar.indexCast v162
  let c3840_127 : Index := 3840#32
  ![v223.toNat, 3840]
def k0_off32 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v225 : Index := Scalar.indexCast v162
  let c3968 : Index := 3968#32
  ![v225.toNat, 3968]
def k0_off33 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v2870 : Index := Scalar.indexCast v162
  let c0_994 : Index := 0#32
  ![v2870.toNat, 0]
def k0_off34 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v2873 : Index := Scalar.indexCast v162
  let c128_995 : Index := 128#32
  ![v2873.toNat, 128]
def k0_off35 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v2876 : Index := Scalar.indexCast v162
  let c256_996 : Index := 256#32
  ![v2876.toNat, 256]
def k0_off36 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v2879 : Index := Scalar.indexCast v162
  let c384_997 : Index := 384#32
  ![v2879.toNat, 384]
def k0_off37 (k0_t1 : Fin k0_t1_loop.trips) : Fin 2 → Nat :=
  let c0_i32 : BitVec 32 := 0#32
  let c1_i32 : BitVec 32 := 1#32
  let arg8 : BitVec 32 := Scf.iv c0_i32 c1_i32 k0_t1
  let c32_i32 : BitVec 32 := 32#32
  let v161 : BitVec 32 := Scalar.muli arg8 c32_i32
  let v162 : BitVec 32 := v161
  let v2882 : Index := Scalar.indexCast v162
  let c0_998 : Index := 0#32
  ![v2882.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantXRefIdeal.lean ====
abbrev S8x1536x4096 : Shape := ⟨3, ![8, 1536, 4096]⟩
abbrev S12288x128x32 : Shape := ⟨3, ![12288, 128, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S12288x128 : Shape := ⟨2, ![12288, 128]⟩
abbrev S12288x128x1 : Shape := ⟨3, ![12288, 128, 1]⟩
abbrev S8 : Shape := ⟨1, ![8]⟩
abbrev S12288x512x8 : Shape := ⟨3, ![12288, 512, 8]⟩
abbrev S1x1x8 : Shape := ⟨3, ![1, 1, 8]⟩
abbrev S12288x512 : Shape := ⟨2, ![12288, 512]⟩
abbrev S12288x4096 : Shape := ⟨2, ![12288, 4096]⟩

abbrev nBuf : Space → Nat
  | .hbm => 65
  | .vmem => 6
  | .smem => 0
  | _ => 0

abbrev bufTy : (tb : Table) → Fin (tcTables nBuf tb) → BufTy
  | .hbm, ⟨0, _⟩ => ⟨S8x1536x4096, .bf16⟩
  | .hbm, ⟨1, _⟩ => ⟨S12288x128x32, .bf16⟩
  | .hbm, ⟨2, _⟩ => ⟨S32, .i32⟩
  | .hbm, ⟨3, _⟩ => ⟨S32x1, .i32⟩
  | .hbm, ⟨4, _⟩ => ⟨S1x32, .i32⟩
  | .hbm, ⟨5, _⟩ => ⟨S32x32, .i32⟩
  | .hbm, ⟨6, _⟩ => ⟨S32x32, .i32⟩
  | .hbm, ⟨7, _⟩ => ⟨S32x32, .i32⟩
  | .hbm, ⟨8, _⟩ => ⟨S32x32, .i32⟩
  | .hbm, ⟨9, _⟩ => ⟨S_, .i32⟩
  | .hbm, ⟨10, _⟩ => ⟨S32x32, .i32⟩
  | .hbm, ⟨11, _⟩ => ⟨S32x32, .i32⟩
  | .hbm, ⟨12, _⟩ => ⟨S_, .i32⟩
  | .hbm, ⟨13, _⟩ => ⟨S32x32, .i32⟩
  | .hbm, ⟨14, _⟩ => ⟨S32x32, .i1⟩
  | .hbm, ⟨15, _⟩ => ⟨S_, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .bf16⟩
  | .hbm, ⟨21, _⟩ => ⟨S12288x128x32, .f32⟩
  | .hbm, ⟨22, _⟩ => ⟨S_, .f32⟩
  | .hbm, ⟨23, _⟩ => ⟨S12288x128x32, .f32⟩
  | .hbm, ⟨24, _⟩ => ⟨S12288x128x32, .f32⟩
  | .hbm, ⟨25, _⟩ => ⟨S12288x128x32, .f32⟩
  | .hbm, ⟨26, _⟩ => ⟨S_, .f32⟩
  | .hbm, ⟨27, _⟩ => ⟨S12288x128, .f32⟩
  | .hbm, ⟨28, _⟩ => ⟨S12288x128x1, .f32⟩
  | .hbm, ⟨29, _⟩ => ⟨S_, .f32⟩
  | .hbm, ⟨30, _⟩ => ⟨S12288x128x1, .f32⟩
  | .hbm, ⟨31, _⟩ => ⟨S12288x128x1, .f32⟩
  | .hbm, ⟨32, _⟩ => ⟨S12288x128x1, .f32⟩
  | .hbm, ⟨33, _⟩ => ⟨S12288x128x32, .fp8e4m3⟩
  | .hbm, ⟨34, _⟩ => ⟨S12288x128x32, .bf16⟩
  | .hbm, ⟨35, _⟩ => ⟨S12288x128x32, .i32⟩
  | .hbm, ⟨36, _⟩ => ⟨S12288x128x1, .f32⟩
  | .hbm, ⟨37, _⟩ => ⟨S_, .f32⟩
  | .hbm, ⟨38, _⟩ => ⟨S12288x128x1, .f32⟩
  | .hbm, ⟨39, _⟩ => ⟨S12288x128x1, .f32⟩
  | .hbm, ⟨40, _⟩ => ⟨S12288x128x1, .i32⟩
  | .hbm, ⟨41, _⟩ => ⟨S12288x128x1, .i8⟩
  | .hbm, ⟨42, _⟩ => ⟨S12288x128, .i8⟩
  | .hbm, ⟨43, _⟩ => ⟨S8, .i32⟩
  | .hbm, ⟨44, _⟩ => ⟨S12288x512x8, .i32⟩
  | .hbm, ⟨45, _⟩ => ⟨S1x1x8, .i32⟩
  | .hbm, ⟨46, _⟩ => ⟨S12288x512x8, .i32⟩
  | .hbm, ⟨47, _⟩ => ⟨S12288x512x8, .i32⟩
  | .hbm, ⟨48, _⟩ => ⟨S_, .i32⟩
  | .hbm, ⟨49, _⟩ => ⟨S12288x512, .i32⟩
  | .hbm, ⟨50, _⟩ => ⟨S12288x512, .i8⟩
  | .hbm, ⟨51, _⟩ => ⟨S12288x128, .i32⟩
  | .hbm, ⟨52, _⟩ => ⟨S_, .i32⟩
  | .hbm, ⟨53, _⟩ => ⟨S12288x128, .i32⟩
  | .hbm, ⟨54, _⟩ => ⟨S12288x128, .i32⟩
  | .hbm, ⟨55, _⟩ => ⟨S12288x128, .f32⟩
  | .hbm, ⟨56, _⟩ => ⟨S_, .f32⟩
  | .hbm, ⟨57, _⟩ => ⟨S12288x128, .f32⟩
  | .hbm, ⟨58, _⟩ => ⟨S12288x128, .f32⟩
  | .hbm, ⟨59, _⟩ => ⟨S12288x128, .bf16⟩
  | .hbm, ⟨60, _⟩ => ⟨S12288x128x1, .bf16⟩
  | .hbm, ⟨61, _⟩ => ⟨S12288x128x32, .bf16⟩
  | .hbm, ⟨62, _⟩ => ⟨S12288x128x32, .bf16⟩
  | .hbm, ⟨63, _⟩ => ⟨S12288x4096, .fp8e4m3⟩
  | .hbm, ⟨64, _⟩ => ⟨S12288x4096, .bf16⟩
  | .local _ .vmem, ⟨0, _⟩ => ⟨S12288x128x32, .f32⟩
  | .local _ .vmem, ⟨1, _⟩ => ⟨S12288x128x1, .f32⟩
  | .local _ .vmem, ⟨2, _⟩ => ⟨S12288x128x32, .fp8e4m3⟩
  | .local _ .vmem, ⟨3, _⟩ => ⟨S12288x128x32, .bf16⟩
  | .local _ .vmem, ⟨4, _⟩ => ⟨S12288x128x32, .i32⟩
  | .local _ .vmem, ⟨5, _⟩ => ⟨S12288x128x1, .f32⟩
  | _, _ => ⟨S8x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S12288x128x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x128x32 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x128x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x128x32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== QuantW.lean ====
abbrev S4096x11008 : Shape := ⟨2, ![4096, 11008]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S128x11008 : Shape := ⟨2, ![128, 11008]⟩
abbrev S512x11008 : Shape := ⟨2, ![512, 11008]⟩
abbrev S4096x256 : Shape := ⟨2, ![4096, 256]⟩
abbrev S128x256 : Shape := ⟨2, ![128, 256]⟩
abbrev S512x256 : Shape := ⟨2, ![512, 256]⟩
abbrev S8x256 : Shape := ⟨2, ![8, 256]⟩
abbrev S32x256 : Shape := ⟨2, ![32, 256]⟩

abbrev nBuf : Space → Nat
  | .hbm => 71
  | .vmem => 12
  | .smem => 0
  | _ => 0

abbrev bufTy : (tb : Table) → Fin (tcTables nBuf tb) → BufTy
  | .hbm, ⟨0, _⟩ => ⟨S4096x11008, .bf16⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i1⟩
  | .hbm, ⟨17, _⟩ => ⟨S_, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x1, .i32⟩
  | .hbm, ⟨23, _⟩ => ⟨S_, .i32⟩
  | .hbm, ⟨24, _⟩ => ⟨S_, .i32⟩
  | .hbm, ⟨25, _⟩ => ⟨S256x1, .i32⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S256x1, .i32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S256x1, .i1⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S1x256, .i32⟩
  | .hbm, ⟨42, _⟩ => ⟨S_, .i32⟩
  | .hbm, ⟨43, _⟩ => ⟨S_, .i32⟩
  | .hbm, ⟨44, _⟩ => ⟨S1x256, .i32⟩
  | .hbm, ⟨45, _⟩ => ⟨S1x256, .i32⟩
  | .hbm, ⟨46, _⟩ => ⟨S1x256, .i32⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x256, .i32⟩
  | .hbm, ⟨51, _⟩ => ⟨S1x256, .i32⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x256, .i1⟩
  | .hbm, ⟨56, _⟩ => ⟨S_, .i32⟩
  | .hbm, ⟨57, _⟩ => ⟨S1x256, .i32⟩
  | .hbm, ⟨58, _⟩ => ⟨S1x256, .i32⟩
  | .hbm, ⟨59, _⟩ => ⟨S1x256, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S_, .f32⟩
  | .hbm, ⟨64, _⟩ => ⟨S256x256, .f32⟩
  | .hbm, ⟨65, _⟩ => ⟨S256x256, .f32⟩
  | .hbm, ⟨66, _⟩ => ⟨S256x256, .bf16⟩
  | .hbm, ⟨67, _⟩ => ⟨S4096x11008, .fp8e4m3⟩
  | .hbm, ⟨68, _⟩ => ⟨S128x11008, .i8⟩
  | .hbm, ⟨69, _⟩ => ⟨S512x11008, .i8⟩
  | .hbm, ⟨70, _⟩ => ⟨S4096x11008, .bf16⟩
  | .local _ .vmem, ⟨0, _⟩ => ⟨S4096x256, .bf16⟩
  | .local _ .vmem, ⟨1, _⟩ => ⟨S4096x256, .bf16⟩
  | .local _ .vmem, ⟨2, _⟩ => ⟨S256x256, .bf16⟩
  | .local _ .vmem, ⟨3, _⟩ => ⟨S4096x256, .fp8e4m3⟩
  | .local _ .vmem, ⟨4, _⟩ => ⟨S4096x256, .fp8e4m3⟩
  | .local _ .vmem, ⟨5, _⟩ => ⟨S128x256, .i8⟩
  | .local _ .vmem, ⟨6, _⟩ => ⟨S128x256, .i8⟩
  | .local _ .vmem, ⟨7, _⟩ => ⟨S512x256, .i8⟩
  | .local _ .vmem, ⟨8, _⟩ => ⟨S512x256, .i8⟩
  | .local _ .vmem, ⟨9, _⟩ => ⟨S4096x256, .bf16⟩
  | .local _ .vmem, ⟨10, _⟩ => ⟨S4096x256, .bf16⟩
  | .local _ .vmem, ⟨11, _⟩ => ⟨S256x256, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v15 : Ref sig .tc := ⟨.hbm, 40, rfl⟩
abbrev main_v16 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_5 : Ref sig .tc := ⟨.hbm, 63, rfl⟩
abbrev main_call3_v0 : Ref sig .tc := ⟨.hbm, 64, rfl⟩
abbrev main_v21 : Ref sig .tc := ⟨.hbm, 65, rfl⟩
abbrev main_v22 : Ref sig .tc := ⟨.hbm, 66, rfl⟩
abbrev main_v23_0 : Ref sig .tc := ⟨.hbm, 67, rfl⟩
abbrev main_v23_1 : Ref sig .tc := ⟨.hbm, 68, rfl⟩
abbrev main_v23_2 : Ref sig .tc := ⟨.hbm, 69, rfl⟩
abbrev main_v23_3 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantWRefIdeal.lean ====
abbrev S4096x11008 : Shape := ⟨2, ![4096, 11008]⟩
abbrev S128x32x11008 : Shape := ⟨3, ![128, 32, 11008]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S32x128x11008 : Shape := ⟨3, ![32, 128, 11008]⟩
abbrev S128x11008 : Shape := ⟨2, ![128, 11008]⟩
abbrev S128x1x11008 : Shape := ⟨3, ![128, 1, 11008]⟩
abbrev S8 : Shape := ⟨1, ![8]⟩
abbrev S8x1 : Shape := ⟨2, ![8, 1]⟩
abbrev S512x8x11008 : Shape := ⟨3, ![512, 8, 11008]⟩
abbrev S1x8x1 : Shape := ⟨3, ![1, 8, 1]⟩
abbrev S512x11008 : Shape := ⟨2, ![512, 11008]⟩

abbrev nBuf : Space → Nat
  | .hbm => 67
  | .vmem => 6
  | .smem => 0
  | _ => 0

abbrev bufTy : (tb : Table) → Fin (tcTables nBuf tb) → BufTy
  | .hbm, ⟨0, _⟩ => ⟨S4096x11008, .bf16⟩
  | .hbm, ⟨1, _⟩ => ⟨S128x32x11008, .bf16⟩
  | .hbm, ⟨2, _⟩ => ⟨S32, .i32⟩
  | .hbm, ⟨3, _⟩ => ⟨S32x1, .i32⟩
  | .hbm, ⟨4, _⟩ => ⟨S1x32, .i32⟩
  | .hbm, ⟨5, _⟩ => ⟨S32x32, .i32⟩
  | .hbm, ⟨6, _⟩ => ⟨S32x32, .i32⟩
  | .hbm, ⟨7, _⟩ => ⟨S32x32, .i32⟩
  | .hbm, ⟨8, _⟩ => ⟨S32x32, .i32⟩
  | .hbm, ⟨9, _⟩ => ⟨S_, .i32⟩
  | .hbm, ⟨10, _⟩ => ⟨S32x32, .i32⟩
  | .hbm, ⟨11, _⟩ => ⟨S32x32, .i32⟩
  | .hbm, ⟨12, _⟩ => ⟨S_, .i32⟩
  | .hbm, ⟨13, _⟩ => ⟨S32x32, .i32⟩
  | .hbm, ⟨14, _⟩ => ⟨S32x32, .i1⟩
  | .hbm, ⟨15, _⟩ => ⟨S_, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .bf16⟩
  | .hbm, ⟨21, _⟩ => ⟨S32x128x11008, .f32⟩
  | .hbm, ⟨22, _⟩ => ⟨S128x32x11008, .f32⟩
  | .hbm, ⟨23, _⟩ => ⟨S_, .f32⟩
  | .hbm, ⟨24, _⟩ => ⟨S128x32x11008, .f32⟩
  | .hbm, ⟨25, _⟩ => ⟨S128x32x11008, .f32⟩
  | .hbm, ⟨26, _⟩ => ⟨S128x32x11008, .f32⟩
  | .hbm, ⟨27, _⟩ => ⟨S_, .f32⟩
  | .hbm, ⟨28, _⟩ => ⟨S128x11008, .f32⟩
  | .hbm, ⟨29, _⟩ => ⟨S128x1x11008, .f32⟩
  | .hbm, ⟨30, _⟩ => ⟨S_, .f32⟩
  | .hbm, ⟨31, _⟩ => ⟨S128x1x11008, .f32⟩
  | .hbm, ⟨32, _⟩ => ⟨S128x1x11008, .f32⟩
  | .hbm, ⟨33, _⟩ => ⟨S128x1x11008, .f32⟩
  | .hbm, ⟨34, _⟩ => ⟨S128x32x11008, .fp8e4m3⟩
  | .hbm, ⟨35, _⟩ => ⟨S128x32x11008, .bf16⟩
  | .hbm, ⟨36, _⟩ => ⟨S128x32x11008, .i32⟩
  | .hbm, ⟨37, _⟩ => ⟨S128x1x11008, .f32⟩
  | .hbm, ⟨38, _⟩ => ⟨S_, .f32⟩
  | .hbm, ⟨39, _⟩ => ⟨S128x1x11008, .f32⟩
  | .hbm, ⟨40, _⟩ => ⟨S128x1x11008, .f32⟩
  | .hbm, ⟨41, _⟩ => ⟨S128x1x11008, .i32⟩
  | .hbm, ⟨42, _⟩ => ⟨S128x1x11008, .i8⟩
  | .hbm, ⟨43, _⟩ => ⟨S128x11008, .i8⟩
  | .hbm, ⟨44, _⟩ => ⟨S8, .i32⟩
  | .hbm, ⟨45, _⟩ => ⟨S8x1, .i32⟩
  | .hbm, ⟨46, _⟩ => ⟨S512x8x11008, .i32⟩
  | .hbm, ⟨47, _⟩ => ⟨S1x8x1, .i32⟩
  | .hbm, ⟨48, _⟩ => ⟨S512x8x11008, .i32⟩
  | .hbm, ⟨49, _⟩ => ⟨S512x8x11008, .i32⟩
  | .hbm, ⟨50, _⟩ => ⟨S_, .i32⟩
  | .hbm, ⟨51, _⟩ => ⟨S512x11008, .i32⟩
  | .hbm, ⟨52, _⟩ => ⟨S512x11008, .i8⟩
  | .hbm, ⟨53, _⟩ => ⟨S128x11008, .i32⟩
  | .hbm, ⟨54, _⟩ => ⟨S_, .i32⟩
  | .hbm, ⟨55, _⟩ => ⟨S128x11008, .i32⟩
  | .hbm, ⟨56, _⟩ => ⟨S128x11008, .i32⟩
  | .hbm, ⟨57, _⟩ => ⟨S128x11008, .f32⟩
  | .hbm, ⟨58, _⟩ => ⟨S_, .f32⟩
  | .hbm, ⟨59, _⟩ => ⟨S128x11008, .f32⟩
  | .hbm, ⟨60, _⟩ => ⟨S128x11008, .f32⟩
  | .hbm, ⟨61, _⟩ => ⟨S128x11008, .bf16⟩
  | .hbm, ⟨62, _⟩ => ⟨S128x1x11008, .bf16⟩
  | .hbm, ⟨63, _⟩ => ⟨S128x32x11008, .bf16⟩
  | .hbm, ⟨64, _⟩ => ⟨S128x32x11008, .bf16⟩
  | .hbm, ⟨65, _⟩ => ⟨S4096x11008, .fp8e4m3⟩
  | .hbm, ⟨66, _⟩ => ⟨S4096x11008, .bf16⟩
  | .local _ .vmem, ⟨0, _⟩ => ⟨S128x32x11008, .f32⟩
  | .local _ .vmem, ⟨1, _⟩ => ⟨S128x1x11008, .f32⟩
  | .local _ .vmem, ⟨2, _⟩ => ⟨S128x32x11008, .fp8e4m3⟩
  | .local _ .vmem, ⟨3, _⟩ => ⟨S128x32x11008, .bf16⟩
  | .local _ .vmem, ⟨4, _⟩ => ⟨S128x32x11008, .i32⟩
  | .local _ .vmem, ⟨5, _⟩ => ⟨S128x1x11008, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S128x32x11008 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x11008 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x32x11008 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x32x11008 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x32x11008 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1x11008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Matmul.lean ====
abbrev S12288x4096 : Shape := ⟨2, ![12288, 4096]⟩
abbrev S4096x11008 : Shape := ⟨2, ![4096, 11008]⟩
abbrev S12288x11008 : Shape := ⟨2, ![12288, 11008]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S12288x4096, .bf16⟩
  | .hbm, ⟨1, _⟩ => ⟨S4096x11008, .bf16⟩
  | .hbm, ⟨2, _⟩ => ⟨S12288x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S2048x256, .bf16⟩
  | .local _ .vmem, ⟨5, _⟩ => ⟨S2048x256, .bf16⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatmulRefIdeal.lean ====
abbrev S12288x4096 : Shape := ⟨2, ![12288, 4096]⟩
abbrev S4096x11008 : Shape := ⟨2, ![4096, 11008]⟩
abbrev S12288x11008 : Shape := ⟨2, ![12288, 11008]⟩

abbrev nBuf : Space → Nat
  | .hbm => 4
  | .vmem => 0
  | .smem => 0
  | _ => 0

abbrev bufTy : (tb : Table) → Fin (tcTables nBuf tb) → BufTy
  | .hbm, ⟨0, _⟩ => ⟨S12288x4096, .bf16⟩
  | .hbm, ⟨1, _⟩ => ⟨S4096x11008, .bf16⟩
  | .hbm, ⟨2, _⟩ => ⟨S12288x11008, .f32⟩
  | .hbm, ⟨3, _⟩ => ⟨S12288x11008, .bf16⟩
  | _, _ => ⟨S12288x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.MatmulValue.lean ====
/-
  The value of the matrix product kernel at the ideal instance: the pipelined product in (2048, 256) blocks leaves, in
  its result array, the whole product of the two argument arrays, entry by entry.
-/
module

public import proofs.«01_k».proof.Proof.Gen.MatmulIdeal.Value
public import proofs.«01_k».proof.Proof.Gen.MatmulRefIdeal.Read
public import Idealize.ShloMosaic.Lib.Pipeline.Value
public import Idealize.ShloMosaic.Lib.ValueIdx
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.MatmulIdeal.Product

open Cert.MatmulIdeal Cert.MatmulIdeal.Gen

/-- The product of the two arrays at an entry, as the reference's own stage. -/
abbrev G (x : Vec Ideal S12288x4096 .bf16) (w : Vec Ideal S4096x11008 .bf16) : Vec Ideal S12288x11008 .bf16 :=
  Cert.MatmulRefIdeal.Read.val_main_v1 (F := Ideal) x w

/-- The product at an entry is the sum over the contracted axis. -/
theorem G_apply (x : Vec Ideal S12288x4096 .bf16) (w : Vec Ideal S4096x11008 .bf16) (i : S12288x11008.Idx) :
    G x w i = ∑ k : Fin 4096, x (Cert.MatmulRefIdeal.Read.lidx_main_v0 i k) * w (Cert.MatmulRefIdeal.Read.ridx_main_v0 i k) :=
  Cert.MatmulRefIdeal.Read.val_main_v0_apply x w i

abbrev D := dot_S2048x4096_S4096x256_S2048x256_1_0_0_1_n_n

theorem lhs0 (i : S2048x256.Idx) (q : D.contr.Idx) : (D.lhsIdx i q 0).val = (i 0).val := by
  unfold DotDims.lhsIdx
  rw [dif_neg (show ¬(0 : Fin S2048x4096.rank) ∈ D.lhsBatch by decide), dif_pos (show (0 : Fin S2048x4096.rank) ∈ D.lhsNonContracting by decide)]
  rfl
theorem lhs1 (i : S2048x256.Idx) (q : D.contr.Idx) : (D.lhsIdx i q 1).val = (q ⟨0, by decide⟩).val :=
  D.lhsIdx_val_of_single rfl i q
theorem rhs0 (i : S2048x256.Idx) (q : D.contr.Idx) : (D.rhsIdx i q 0).val = (q ⟨0, by decide⟩).val :=
  D.rhsIdx_val_of_single rfl i q
theorem rhs1 (i : S2048x256.Idx) (q : D.contr.Idx) : (D.rhsIdx i q 1).val = (i 1).val := by
  unfold DotDims.rhsIdx
  rw [dif_neg (show ¬(1 : Fin S4096x256.rank) ∈ D.rhsBatch by decide), dif_pos (show (1 : Fin S4096x256.rank) ∈ D.rhsNonContracting by decide)]
  rfl

/-- The left block's index at result index `i` and contraction coordinate `k`. -/
abbrev lix (i : S2048x256.Idx) (k : Fin 4096) : S2048x4096.Idx := fun a => match a with
  | ⟨0, _⟩ => ⟨(i 0).val, (i 0).isLt⟩
  | ⟨1, _⟩ => ⟨k.val, k.isLt⟩
/-- The right block's index at result index `i` and contraction coordinate `k`. -/
abbrev rix (i : S2048x256.Idx) (k : Fin 4096) : S4096x256.Idx := fun a => match a with
  | ⟨0, _⟩ => ⟨k.val, k.isLt⟩
  | ⟨1, _⟩ => ⟨(i 1).val, (i 1).isLt⟩

/-- What one grid point computes: the product of its two blocks, entry by entry. -/
theorem pay_apply (x : Vec Ideal S2048x4096 .bf16) (w : Vec Ideal S4096x256 .bf16) (i : S2048x256.Idx) :
    k0_pay1 (F := Ideal) x w i = ∑ k : Fin 4096, x (lix i k) * w (rix i k) := by
  unfold k0_pay1
  show matmul (F := Ideal) (φ₁ := .bf16) (φ₂ := .bf16) D none x w (constant S2048x256 .f32 0x00000000#32) i = _
  simp only [matmul]
  rw [Ideal.matmul_constant_zero_apply, ← Equiv.sum_comp (ValueIdx.contrEquiv1 D 4096 rfl rfl).symm]
  refine Finset.sum_congr rfl fun k _ => ?_
  have hk := ValueIdx.contrEquiv1_symm_val D 4096 rfl rfl k
  have el : D.lhsIdx i ((ValueIdx.contrEquiv1 D 4096 rfl rfl).symm k) = lix i k := funext fun a => Fin.ext (by
    match a with
    | ⟨0, _⟩ => exact lhs0 _ _
    | ⟨1, _⟩ => exact (lhs1 _ _).trans hk)
  have er : D.rhsIdx i ((ValueIdx.contrEquiv1 D 4096 rfl rfl).symm k) = rix i k := funext fun a => Fin.ext (by
    match a with
    | ⟨0, _⟩ => exact (rhs0 _ _).trans hk
    | ⟨1, _⟩ => exact rhs1 _ _)
  rw [el, er]

variable (m : (ℓ : Loc nD τ sig) → Buf (Elt Ideal) ℓ) (ρ : Dev nD → PrngReg)

theorem hz : (![0, 0] : Fin 2 → Nat) = fun _ => 0 := funext fun a => by fin_cases a <;> rfl

/-- Where each window's block lies at a grid point: row block `t / 43`, column block `t % 43`. -/
theorem idx_facts : ∀ t : Fin cfg0.N,
    win0_0.index t 0 = t.val / 43 ∧ win0_0.index t 1 = 0 ∧ win0_1.index t 0 = 0 ∧ win0_1.index t 1 = t.val % 43
    ∧ win0_2.index t 0 = t.val / 43 ∧ win0_2.index t 1 = t.val % 43
    ∧ win0_2.xsize (grid0.coords t) 0 = 2048 ∧ win0_2.xsize (grid0.coords t) 1 = 256 :=
  (by decide +kernel : ∀ t : Fin grid0.N,
    win0_0.index t 0 = t.val / 43 ∧ win0_0.index t 1 = 0 ∧ win0_1.index t 0 = 0 ∧ win0_1.index t 1 = t.val % 43
    ∧ win0_2.index t 0 = t.val / 43 ∧ win0_2.index t 1 = t.val % 43
    ∧ win0_2.xsize (grid0.coords t) 0 = 2048 ∧ win0_2.xsize (grid0.coords t) 1 = 256)

/-- The left input block at point `t` is the left array at rows `2048 (t / 43) + r`. -/
theorem blk0_apply (c : Dev nD) (t : Fin cfg0.N) (j : S2048x4096.Idx) (i : S12288x4096.Idx)
    (h0 : (i 0).val = t.val / 43 * 2048 + (j 0).val) (h1 : (i 1).val = (j 1).val) :
    iblk m c 0 t j = m ((c : Thread nD τ).loc main_arg0) i := by
  obtain ⟨e0, e1, -⟩ := idx_facts t
  show m ((c : Thread nD τ).loc main_arg0) _ = _
  refine congrArg (m ((c : Thread nD τ).loc main_arg0)) (funext fun a => Fin.ext ?_)
  match a with
  | ⟨0, _⟩ => show win0_0.index t 0 * 2048 + 1 * (j 0).val = (i 0).val; rw [e0, h0]; omega
  | ⟨1, _⟩ => show win0_0.index t 1 * 4096 + 1 * (j 1).val = (i 1).val; rw [e1, h1]; omega

/-- The right input block at point `t` is the right array at columns `256 (t % 43) + c`. -/
theorem blk1_apply (c : Dev nD) (t : Fin cfg0.N) (j : S4096x256.Idx) (i : S4096x11008.Idx)
    (h0 : (i 0).val = (j 0).val) (h1 : (i 1).val = t.val % 43 * 256 + (j 1).val) :
    iblk m c 1 t j = m ((c : Thread nD τ).loc main_arg1) i := by
  obtain ⟨-, -, e0, e1, -⟩ := idx_facts t
  show m ((c : Thread nD τ).loc main_arg1) _ = _
  refine congrArg (m ((c : Thread nD τ).loc main_arg1)) (funext fun a => Fin.ext ?_)
  match a with
  | ⟨0, _⟩ => show win0_1.index t 0 * 4096 + 1 * (j 0).val = (i 0).val; rw [e0, h0]; omega
  | ⟨1, _⟩ => show win0_1.index t 1 * 256 + 1 * (j 1).val = (i 1).val; rw [e1, h1]; omega

/-- What point `t` writes back is its block of the whole product. -/
theorem flushed_eq (c : Dev nD) (t : Fin cfg0.N) :
    (dats m 0 c).flushed 2 t = (win0_2.blk t).view.read (Elt Ideal)
      (G (m ((c : Thread nD τ).loc main_arg0)) (m ((c : Thread nD τ).loc main_arg1))) := by
  rw [Value.flushed2]
  unfold out0_2
  rw [View.canon_unit_zero hz, View.ld_unit_zero hz, View.ld_unit_zero hz]
  obtain ⟨-, -, -, -, e0, e1, -, -⟩ := idx_facts t
  funext j
  show k0_pay1 (F := Ideal) (iblk m c 0 t) (iblk m c 1 t) j = G _ _ ((win0_2.rect t).emb j)
  rw [pay_apply, G_apply]
  have h0 : (((win0_2.rect t).emb j : S12288x11008.Idx) 0).val = t.val / 43 * 2048 + (j 0).val := by
    show win0_2.index t 0 * 2048 + 1 * (j 0).val = _
    rw [e0]; omega
  have h1 : (((win0_2.rect t).emb j : S12288x11008.Idx) 1).val = t.val % 43 * 256 + (j 1).val := by
    show win0_2.index t 1 * 256 + 1 * (j 1).val = _
    rw [e1]; omega
  refine Finset.sum_congr rfl fun k _ => ?_
  exact congrArg₂ (· * ·) (blk0_apply m c t _ _ h0 rfl) (blk1_apply m c t _ _ rfl h1)

/-- An entry of the result is in point `t`'s block exactly when its coordinates are in the block's ranges. -/
theorem mem_blk (t : Fin cfg0.N) (i : S12288x11008.Idx) :
    i ∈ ((cfg0.win 2).blk t).view.set ↔
      (t.val / 43 * 2048 ≤ (i 0 : Nat) ∧ (i 0 : Nat) < t.val / 43 * 2048 + 2048)
      ∧ (t.val % 43 * 256 ≤ (i 1 : Nat) ∧ (i 1 : Nat) < t.val % 43 * 256 + 256) := by
  show i ∈ ((View.whole main_v0).slice (win0_2.rect t)).set ↔ _
  rw [View.set_slice_whole, Rect.mem_set_unit]
  obtain ⟨-, -, -, -, e0, e1, x0, x1⟩ := idx_facts t
  refine ⟨fun h => ⟨?_, ?_⟩, fun h a => ?_⟩
  · have : win0_2.index t 0 * 2048 ≤ (i 0 : Nat) ∧ (i 0 : Nat) < win0_2.index t 0 * 2048 + win0_2.xsize (grid0.coords t) 0 := h 0
    rw [e0, x0] at this; exact this
  · have : win0_2.index t 1 * 256 ≤ (i 1 : Nat) ∧ (i 1 : Nat) < win0_2.index t 1 * 256 + win0_2.xsize (grid0.coords t) 1 := h 1
    rw [e1, x1] at this; exact this
  · match a with
    | ⟨0, _⟩ => show win0_2.index t 0 * 2048 ≤ (i 0 : Nat) ∧ (i 0 : Nat) < win0_2.index t 0 * 2048 + win0_2.xsize (grid0.coords t) 0
                rw [e0, x0]; exact h.1
    | ⟨1, _⟩ => show win0_2.index t 1 * 256 ≤ (i 1 : Nat) ∧ (i 1 : Nat) < win0_2.index t 1 * 256 + win0_2.xsize (grid0.coords t) 1
                rw [e1, x1]; exact h.2

/-- The result's blocks tile its array. -/
theorem cover (i : S12288x11008.Idx) :
    ∃ t : Fin cfg0.N, (cfg0.win 2).flush t = true ∧ i ∈ ((cfg0.win 2).blk t).view.set := by
  have h0 : (i 0 : Nat) < 12288 := (i 0).isLt
  have h1 : (i 1 : Nat) < 11008 := (i 1).isLt
  refine ⟨⟨(i 0 : Nat) / 2048 * 43 + (i 1 : Nat) / 256, by show _ < grid0.N; rw [N_0]; omega⟩, flush0_2 _, ?_⟩
  rw [mem_blk]
  dsimp only
  omega

/-- The result array after the run is the whole product of the arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The run, read: the result is the product of the arguments, which end unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.MatmulIdeal.Product

end
-- ==== Proof.QuantXTrip.lean ====
/-
  One trip of the quantiser's loop: the pieces its stores write, as functions of the 32 slices of 128 columns it reads.
-/
module

public import proofs.«01_k».proof.Proof.Gen.QuantXIdeal.Value

@[expose] public section

set_option maxRecDepth 16384

noncomputable section

namespace Cert.QuantXIdeal.Trip

open Cert.QuantXIdeal Cert.QuantXIdeal.Gen Idealize.ShloMosaic Idealize.ShloMosaic.TcCoe Idealize.SL.Sem

variable {F : FTy → Type} [FloatOps F]

/-- A word at every entry. -/
abbrev bc (b : BitVec 32) : IVec S32x128 32 := broadcast S32x128 b
/-- A constant, by its bits, at every entry. -/
abbrev cst (b : BitVec 32) : FVec F S32x128 .f32 := broadcast S32x128 (Scalar.ofBits .f32 b)

/-- The lane of every entry. -/
abbrev lane : IVec S32x128 32 := iota Kind.tc S32x128 32 [1] iota_S32x128_d1_w32

/-- The entries of `a` at the lanes `idx` of the same row (a negative lane counted from the end). -/
def take {α : Type} (a : S32x128.Idx → α) (idx : IVec S32x128 32) : S32x128.Idx → α :=
  dynamicGather 1 a (shapeCast S32x128 (shapeCast S32x128x1 (select (cmpi .slt idx (bc 0#32)) (addi idx (bc 128#32)) idx)
    shapeCasts_S32x128_S32x128x1) shapeCasts_S32x128x1_S32x128)

/-- Whether a bit of the lane is set. -/
abbrev hi (d : BitVec 32) : IVec S32x128 1 := cmpi .ne (andi lane (bc d)) (bc 0#32)

/-- One merge of two partial sums: the lanes with bit `d` set carry the second's, the others the first's. -/
def merge (d : BitVec 32) (a b : FVec F S32x128 .f32) : FVec F S32x128 .f32 :=
  addf (select (hi d) b a) (take (select (hi d) a b) (xori lane (bc d)))

/-- One level of the tree of merges. -/
abbrev level (d : BitVec 32) (p : ℕ → FVec F S32x128 .f32) (i : ℕ) : FVec F S32x128 .f32 := merge d (p (2 * i)) (p (2 * i + 1))

/-- The block sums of squares, one block to a lane. -/
def sumSq (r : ℕ → FVec F S32x128 .f32) : FVec F S32x128 .f32 :=
  level 16#32 (level 8#32 (level 4#32 (level 2#32 (level 1#32 fun i => mulf (r i) (r i))))) 0

/-- The root mean squares. -/
def rms (s : FVec F S32x128 .f32) : FVec F S32x128 .f32 := sqrt (mulf s (cst 0x3D000000#32))
/-- The root mean squares times 2.92 / 6. -/
def amax (q : FVec F S32x128 .f32) : FVec F S32x128 .f32 := mulf (mulf (cst 0x403AE148#32) q) (cst 0x3E2AAAAB#32)

/-- The power of two of a field. -/
abbrev pow2 (f : IVec S32x128 32) : FVec F S32x128 .f32 := bitcastToFloat .f32 (shli f (bc 23#32))
/-- One step of the search for the exponent field of `a`. -/
def fstep (a : FVec F S32x128 .f32) (b : BitVec 32) (f : IVec S32x128 32) : IVec S32x128 32 :=
  select (cmpf .oge a (pow2 (addi f (bc b)))) (addi f (bc b)) f
/-- The exponent field of `a`. -/
def field (a : FVec F S32x128 .f32) : IVec S32x128 32 :=
  fstep a 1#32 (fstep a 2#32 (fstep a 4#32 (fstep a 8#32 (fstep a 16#32 (fstep a 32#32 (fstep a 64#32 (fstep a 128#32 (bc 0#32))))))))
/-- The scale codes. -/
def code (q : FVec F S32x128 .f32) : IVec S32x128 32 := select (cmpf .oeq q (cst 0x00000000#32)) (bc 127#32) (field (amax q))
/-- The reciprocals of the scales. -/
def inv (c : IVec S32x128 32) : FVec F S32x128 .f32 := pow2 (subi (bc 254#32) c)

/-- The lanes a slice's entries read their block's scale at. -/
def lanes (i : BitVec 32) : IVec S32x128 32 := addi (andi lane (bc 96#32)) (bc i)
/-- A slice, scaled. -/
def scaled (r : FVec F S32x128 .f32) (c : IVec S32x128 32) (i : BitVec 32) : FVec F S32x128 .f32 := mulf r (take (inv c) (lanes i))
/-- Clipped to the range of E2M1. -/
def clip (v : FVec F S32x128 .f32) : FVec F S32x128 .f32 := minimumf (cst 0x40C00000#32) (maximumf (cst 0xC0C00000#32) v)
/-- Rounded to E2M1, after the clip. -/
def roundC (c : FVec F S32x128 .f32) : FVec F S32x128 .f32 :=
  mulf (roundeven (mulf c (select (cmpf .olt (absf c) (cst 0x40000000#32)) (cst 0x40000000#32)
      (select (cmpf .olt (absf c) (cst 0x40800000#32)) (cst 0x3F800000#32) (cst 0x3F000000#32)))))
    (mulf (select (cmpf .olt (absf c) (cst 0x40000000#32)) (cst 0x3F800000#32)
      (select (cmpf .olt (absf c) (cst 0x40800000#32)) (cst 0x40000000#32) (cst 0x40800000#32))) (cst 0x3F000000#32))
/-- The quantised entries of a slice. -/
def quant (r : FVec F S32x128 .f32) (c : IVec S32x128 32) (i : BitVec 32) : FVec F S32x128 .f32 := roundC (clip (scaled r c i))
/-- The dequantised entries of a slice. -/
def dequant (r : FVec F S32x128 .f32) (c : IVec S32x128 32) (i : BitVec 32) : FVec F S32x128 .f32 :=
  mulf (quant r c i) (take (pow2 c) (lanes i))

/-- A slice's bit of the mask words added. -/
def addBit (r : FVec F S32x128 .f32) (c : IVec S32x128 32) (i bit : BitVec 32) (w : IVec S32x128 32) : IVec S32x128 32 :=
  ori w (select (cmpf .ole (absf (scaled r c i)) (cst 0x40C00000#32)) (bc bit) (bc 0#32))
/-- The mask words of the first `n` slices. -/
def words (r : ℕ → FVec F S32x128 .f32) (c : IVec S32x128 32) : ℕ → IVec S32x128 32
  | 0 => bc 0#32
  | n + 1 => addBit (r n) c (BitVec.ofNat 32 n) (1#32 <<< n) (words r c n)

/-- One level of the transposition of the 8 × 8 bits: bit `d` of the lane exchanged with bit `d` of the position. -/
def swap (d low : BitVec 32) (w : IVec S32x128 32) : IVec S32x128 32 :=
  select (hi d)
    (ori (andi (shrui (take w (xori lane (bc d))) (bc d)) (bc low)) (shli (andi (shrui w (bc d)) (bc low)) (bc d)))
    (ori (andi w (bc low)) (shli (andi (take w (xori lane (bc d))) (bc low)) (bc d)))
/-- The mask words in the order of the columns. -/
def arranged (w : IVec S32x128 32) : IVec S32x128 32 :=
  take (swap 4#32 0x0F0F0F0F#32 (swap 2#32 0x33333333#32 (swap 1#32 0x55555555#32 w)))
    (ori (shli (andi lane (bc 15#32)) (bc 3#32)) (shrsi lane (bc 4#32)))
/-- One byte of the mask words. -/
def byte (w : IVec S32x128 32) (s : BitVec 32) : IVec S32x128 8 := trunci 8 (andi (shrui (arranged w) (bc s)) (bc 255#32)) natLt_8_32
/-- The scale codes in the order of the blocks. -/
def codeRow (c : IVec S32x128 32) : IVec S32x128 8 :=
  trunci 8 (take c (ori (shli (andi lane (bc 3#32)) (bc 5#32)) (shrsi lane (bc 2#32)))) natLt_8_32

/-- The slices a trip reads from the scratch. -/
def slice (arg7 : Memref sig .tc .vmem S256x4096 .f32) (X : BufTy.Contents (Elt F) arg7.view.ty) (k : Fin k0_t1_loop.trips) : ℕ → FVec F S32x128 .f32
  | 0 => View.readAt (Elt F) arg7.view (Rect.unit (s := S256x4096) (k0_off1 k) S32x128.size (k0_off1_inb k)).toLoadRect X
  | 1 => View.readAt (Elt F) arg7.view (Rect.unit (s := S256x4096) (k0_off2 k) S32x128.size (k0_off2_inb k)).toLoadRect X
  | 2 => View.readAt (Elt F) arg7.view (Rect.unit (s := S256x4096) (k0_off3 k) S32x128.size (k0_off3_inb k)).toLoadRect X
  | 3 => View.readAt (Elt F) arg7.view (Rect.unit (s := S256x4096) (k0_off4 k) S32x128.size (k0_off4_inb k)).toLoadRect X
  | 4 => View.readAt (Elt F) arg7.view (Rect.unit (s := S256x4096) (k0_off5 k) S32x128.size (k0_off5_inb k)).toLoadRect X
  | 5 => View.readAt (Elt F) arg7.view (Rect.unit (s := S256x4096) (k0_off6 k) S32x128.size (k0_off6_inb k)).toLoadRect X
  | 6 => View.readAt (Elt F) arg7.view (Rect.unit (s := S256x4096) (k0_off7 k) S32x128.size (k0_off7_inb k)).toLoadRect X
  | 7 => View.readAt (Elt F) arg7.view (Rect.unit (s := S256x4096) (k0_off8 k) S32x128.size (k0_off8_inb k)).toLoadRect X
  | 8 => View.readAt (Elt F) arg7.view (Rect.unit (s := S256x4096) (k0_off9 k) S32x128.size (k0_off9_inb k)).toLoadRect X
  | 9 => View.readAt (Elt F) arg7.view (Rect.unit (s := S256x4096) (k0_off10 k) S32x128.size (k0_off10_inb k)).toLoadRect X
  | 10 => View.readAt (Elt F) arg7.view (Rect.unit (s := S256x4096) (k0_off11 k) S32x128.size (k0_off11_inb k)).toLoadRect X
  | 11 => View.readAt (Elt F) arg7.view (Rect.unit (s := S256x4096) (k0_off12 k) S32x128.size (k0_off12_inb k)).toLoadRect X
  | 12 => View.readAt (Elt F) arg7.view (Rect.unit (s := S256x4096) (k0_off13 k) S32x128.size (k0_off13_inb k)).toLoadRect X
  | 13 => View.readAt (Elt F) arg7.view (Rect.unit (s := S256x4096) (k0_off14 k) S32x128.size (k0_off14_inb k)).toLoadRect X
  | 14 => View.readAt (Elt F) arg7.view (Rect.unit (s := S256x4096) (k0_off15 k) S32x128.size (k0_off15_inb k)).toLoadRect X
  | 15 => View.readAt (Elt F) arg7.view (Rect.unit (s := S256x4096) (k0_off16 k) S32x128.size (k0_off16_inb k)).toLoadRect X
  | 16 => View.readAt (Elt F) arg7.view (Rect.unit (s := S256x4096) (k0_off17 k) S32x128.size (k0_off17_inb k)).toLoadRect X
  | 17 => View.readAt (Elt F) arg7.view (Rect.unit (s := S256x4096) (k0_off18 k) S32x128.size (k0_off18_inb k)).toLoadRect X
  | 18 => View.readAt (Elt F) arg7.view (Rect.unit (s := S256x4096) (k0_off19 k) S32x128.size (k0_off19_inb k)).toLoadRect X
  | 19 => View.readAt (Elt F) arg7.view (Rect.unit (s := S256x4096) (k0_off20 k) S32x128.size (k0_off20_inb k)).toLoadRect X
  | 20 => View.readAt (Elt F) arg7.view (Rect.unit (s := S256x4096) (k0_off21 k) S32x128.size (k0_off21_inb k)).toLoadRect X
  | 21 => View.readAt (Elt F) arg7.view (Rect.unit (s := S256x4096) (k0_off22 k) S32x128.size (k0_off22_inb k)).toLoadRect X
  | 22 => View.readAt (Elt F) arg7.view (Rect.unit (s := S256x4096) (k0_off23 k) S32x128.size (k0_off23_inb k)).toLoadRect X
  | 23 => View.readAt (Elt F) arg7.view (Rect.unit (s := S256x4096) (k0_off24 k) S32x128.size (k0_off24_inb k)).toLoadRect X
  | 24 => View.readAt (Elt F) arg7.view (Rect.unit (s := S256x4096) (k0_off25 k) S32x128.size (k0_off25_inb k)).toLoadRect X
  | 25 => View.readAt (Elt F) arg7.view (Rect.unit (s := S256x4096) (k0_off26 k) S32x128.size (k0_off26_inb k)).toLoadRect X
  | 26 => View.readAt (Elt F) arg7.view (Rect.unit (s := S256x4096) (k0_off27 k) S32x128.size (k0_off27_inb k)).toLoadRect X
  | 27 => View.readAt (Elt F) arg7.view (Rect.unit (s := S256x4096) (k0_off28 k) S32x128.size (k0_off28_inb k)).toLoadRect X
  | 28 => View.readAt (Elt F) arg7.view (Rect.unit (s := S256x4096) (k0_off29 k) S32x128.size (k0_off29_inb k)).toLoadRect X
  | 29 => View.readAt (Elt F) arg7.view (Rect.unit (s := S256x4096) (k0_off30 k) S32x128.size (k0_off30_inb k)).toLoadRect X
  | 30 => View.readAt (Elt F) arg7.view (Rect.unit (s := S256x4096) (k0_off31 k) S32x128.size (k0_off31_inb k)).toLoadRect X
  | 31 => View.readAt (Elt F) arg7.view (Rect.unit (s := S256x4096) (k0_off32 k) S32x128.size (k0_off32_inb k)).toLoadRect X
  | _ => cst 0#32

variable (𝒱 : Variants) (c : Dev nD) (bd : Option 𝒱.V) (i : grid0.Coords) (arg1 : Memref sig .tc .vmem S256x4096 .bf16) (harg1 : arg1.IsWhole) (arg2 : Memref sig .tc .vmem S256x256 .bf16) (harg2 : arg2.IsWhole) (arg3 : Memref sig .tc .vmem S256x4096 .fp8e4m3) (harg3 : arg3.IsWhole) (arg4 : Memref sig .tc .vmem S256x128 .i8) (harg4 : arg4.IsWhole) (arg5 : Memref sig .tc .vmem S256x512 .i8) (harg5 : arg5.IsWhole) (arg6 : Memref sig .tc .vmem S256x4096 .bf16) (harg6 : arg6.IsWhole) (arg7 : Memref sig .tc .vmem S256x4096 .f32) (harg7 : arg7.IsWhole)
  (X : BufTy.Contents (Elt F) arg7.view.ty) (k : Fin k0_t1_loop.trips)

/-- The scale codes of a trip. -/
abbrev tcode : IVec S32x128 32 := code (rms (sumSq (slice arg7 X k)))

theorem r103 : trip_k0_t1.sl.r_103 arg7 X k = rms (sumSq (slice arg7 X k)) := rfl
theorem r107 : trip_k0_t1.sl.r_107 arg7 X k = code (trip_k0_t1.sl.r_103 arg7 X k) := rfl
theorem r108 : trip_k0_t1.sl.r_108 arg7 X k = inv (code (trip_k0_t1.sl.r_103 arg7 X k)) := rfl
theorem r109 : trip_k0_t1.sl.r_109 arg7 X k = pow2 (code (trip_k0_t1.sl.r_103 arg7 X k)) := rfl

/-- The word of the masks. -/
abbrev tword : IVec S32x128 32 := words (slice arg7 X k) (tcode arg7 X k) 32

set_option maxHeartbeats 4000000 in
theorem r282 : trip_k0_t1.sl.r_282 arg7 X k = tword arg7 X k := rfl

/-- The pieces a trip writes to the codes. -/
def codePieces : List (View.Piece (Elt F) S256x4096 .fp8e4m3) :=
    [⟨Rect.unit (s := S256x4096) (k0_off32 k) S32x128.size (k0_off32_inb k), (truncf .fp8e4m3 (quant (slice arg7 X k 31) (tcode arg7 X k) 31#32) bitsLt_fp8e4m3_f32)⟩,
      ⟨Rect.unit (s := S256x4096) (k0_off31 k) S32x128.size (k0_off31_inb k), (truncf .fp8e4m3 (quant (slice arg7 X k 30) (tcode arg7 X k) 30#32) bitsLt_fp8e4m3_f32)⟩,
      ⟨Rect.unit (s := S256x4096) (k0_off30 k) S32x128.size (k0_off30_inb k), (truncf .fp8e4m3 (quant (slice arg7 X k 29) (tcode arg7 X k) 29#32) bitsLt_fp8e4m3_f32)⟩,
      ⟨Rect.unit (s := S256x4096) (k0_off29 k) S32x128.size (k0_off29_inb k), (truncf .fp8e4m3 (quant (slice arg7 X k 28) (tcode arg7 X k) 28#32) bitsLt_fp8e4m3_f32)⟩,
      ⟨Rect.unit (s := S256x4096) (k0_off28 k) S32x128.size (k0_off28_inb k), (truncf .fp8e4m3 (quant (slice arg7 X k 27) (tcode arg7 X k) 27#32) bitsLt_fp8e4m3_f32)⟩,
      ⟨Rect.unit (s := S256x4096) (k0_off27 k) S32x128.size (k0_off27_inb k), (truncf .fp8e4m3 (quant (slice arg7 X k 26) (tcode arg7 X k) 26#32) bitsLt_fp8e4m3_f32)⟩,
      ⟨Rect.unit (s := S256x4096) (k0_off26 k) S32x128.size (k0_off26_inb k), (truncf .fp8e4m3 (quant (slice arg7 X k 25) (tcode arg7 X k) 25#32) bitsLt_fp8e4m3_f32)⟩,
      ⟨Rect.unit (s := S256x4096) (k0_off25 k) S32x128.size (k0_off25_inb k), (truncf .fp8e4m3 (quant (slice arg7 X k 24) (tcode arg7 X k) 24#32) bitsLt_fp8e4m3_f32)⟩,
      ⟨Rect.unit (s := S256x4096) (k0_off24 k) S32x128.size (k0_off24_inb k), (truncf .fp8e4m3 (quant (slice arg7 X k 23) (tcode arg7 X k) 23#32) bitsLt_fp8e4m3_f32)⟩,
      ⟨Rect.unit (s := S256x4096) (k0_off23 k) S32x128.size (k0_off23_inb k), (truncf .fp8e4m3 (quant (slice arg7 X k 22) (tcode arg7 X k) 22#32) bitsLt_fp8e4m3_f32)⟩,
      ⟨Rect.unit (s := S256x4096) (k0_off22 k) S32x128.size (k0_off22_inb k), (truncf .fp8e4m3 (quant (slice arg7 X k 21) (tcode arg7 X k) 21#32) bitsLt_fp8e4m3_f32)⟩,
      ⟨Rect.unit (s := S256x4096) (k0_off21 k) S32x128.size (k0_off21_inb k), (truncf .fp8e4m3 (quant (slice arg7 X k 20) (tcode arg7 X k) 20#32) bitsLt_fp8e4m3_f32)⟩,
      ⟨Rect.unit (s := S256x4096) (k0_off20 k) S32x128.size (k0_off20_inb k), (truncf .fp8e4m3 (quant (slice arg7 X k 19) (tcode arg7 X k) 19#32) bitsLt_fp8e4m3_f32)⟩,
      ⟨Rect.unit (s := S256x4096) (k0_off19 k) S32x128.size (k0_off19_inb k), (truncf .fp8e4m3 (quant (slice arg7 X k 18) (tcode arg7 X k) 18#32) bitsLt_fp8e4m3_f32)⟩,
      ⟨Rect.unit (s := S256x4096) (k0_off18 k) S32x128.size (k0_off18_inb k), (truncf .fp8e4m3 (quant (slice arg7 X k 17) (tcode arg7 X k) 17#32) bitsLt_fp8e4m3_f32)⟩,
      ⟨Rect.unit (s := S256x4096) (k0_off17 k) S32x128.size (k0_off17_inb k), (truncf .fp8e4m3 (quant (slice arg7 X k 16) (tcode arg7 X k) 16#32) bitsLt_fp8e4m3_f32)⟩,
      ⟨Rect.unit (s := S256x4096) (k0_off16 k) S32x128.size (k0_off16_inb k), (truncf .fp8e4m3 (quant (slice arg7 X k 15) (tcode arg7 X k) 15#32) bitsLt_fp8e4m3_f32)⟩,
      ⟨Rect.unit (s := S256x4096) (k0_off15 k) S32x128.size (k0_off15_inb k), (truncf .fp8e4m3 (quant (slice arg7 X k 14) (tcode arg7 X k) 14#32) bitsLt_fp8e4m3_f32)⟩,
      ⟨Rect.unit (s := S256x4096) (k0_off14 k) S32x128.size (k0_off14_inb k), (truncf .fp8e4m3 (quant (slice arg7 X k 13) (tcode arg7 X k) 13#32) bitsLt_fp8e4m3_f32)⟩,
      ⟨Rect.unit (s := S256x4096) (k0_off13 k) S32x128.size (k0_off13_inb k), (truncf .fp8e4m3 (quant (slice arg7 X k 12) (tcode arg7 X k) 12#32) bitsLt_fp8e4m3_f32)⟩,
      ⟨Rect.unit (s := S256x4096) (k0_off12 k) S32x128.size (k0_off12_inb k), (truncf .fp8e4m3 (quant (slice arg7 X k 11) (tcode arg7 X k) 11#32) bitsLt_fp8e4m3_f32)⟩,
      ⟨Rect.unit (s := S256x4096) (k0_off11 k) S32x128.size (k0_off11_inb k), (truncf .fp8e4m3 (quant (slice arg7 X k 10) (tcode arg7 X k) 10#32) bitsLt_fp8e4m3_f32)⟩,
      ⟨Rect.unit (s := S256x4096) (k0_off10 k) S32x128.size (k0_off10_inb k), (truncf .fp8e4m3 (quant (slice arg7 X k 9) (tcode arg7 X k) 9#32) bitsLt_fp8e4m3_f32)⟩,
      ⟨Rect.unit (s := S256x4096) (k0_off9 k) S32x128.size (k0_off9_inb k), (truncf .fp8e4m3 (quant (slice arg7 X k 8) (tcode arg7 X k) 8#32) bitsLt_fp8e4m3_f32)⟩,
      ⟨Rect.unit (s := S256x4096) (k0_off8 k) S32x128.size (k0_off8_inb k), (truncf .fp8e4m3 (quant (slice arg7 X k 7) (tcode arg7 X k) 7#32) bitsLt_fp8e4m3_f32)⟩,
      ⟨Rect.unit (s := S256x4096) (k0_off7 k) S32x128.size (k0_off7_inb k), (truncf .fp8e4m3 (quant (slice arg7 X k 6) (tcode arg7 X k) 6#32) bitsLt_fp8e4m3_f32)⟩,
      ⟨Rect.unit (s := S256x4096) (k0_off6 k) S32x128.size (k0_off6_inb k), (truncf .fp8e4m3 (quant (slice arg7 X k 5) (tcode arg7 X k) 5#32) bitsLt_fp8e4m3_f32)⟩,
      ⟨Rect.unit (s := S256x4096) (k0_off5 k) S32x128.size (k0_off5_inb k), (truncf .fp8e4m3 (quant (slice arg7 X k 4) (tcode arg7 X k) 4#32) bitsLt_fp8e4m3_f32)⟩,
      ⟨Rect.unit (s := S256x4096) (k0_off4 k) S32x128.size (k0_off4_inb k), (truncf .fp8e4m3 (quant (slice arg7 X k 3) (tcode arg7 X k) 3#32) bitsLt_fp8e4m3_f32)⟩,
      ⟨Rect.unit (s := S256x4096) (k0_off3 k) S32x128.size (k0_off3_inb k), (truncf .fp8e4m3 (quant (slice arg7 X k 2) (tcode arg7 X k) 2#32) bitsLt_fp8e4m3_f32)⟩,
      ⟨Rect.unit (s := S256x4096) (k0_off2 k) S32x128.size (k0_off2_inb k), (truncf .fp8e4m3 (quant (slice arg7 X k 1) (tcode arg7 X k) 1#32) bitsLt_fp8e4m3_f32)⟩,
      ⟨Rect.unit (s := S256x4096) (k0_off1 k) S32x128.size (k0_off1_inb k), (truncf .fp8e4m3 (quant (slice arg7 X k 0) (tcode arg7 X k) 0#32) bitsLt_fp8e4m3_f32)⟩]

/-- The pieces a trip writes to the dequantised operand. -/
def deqPieces : List (View.Piece (Elt F) S256x4096 .bf16) :=
    [⟨Rect.unit (s := S256x4096) (k0_off32 k) S32x128.size (k0_off32_inb k), (truncf .bf16 (dequant (slice arg7 X k 31) (tcode arg7 X k) 31#32) bitsLt_bf16_f32)⟩,
      ⟨Rect.unit (s := S256x4096) (k0_off31 k) S32x128.size (k0_off31_inb k), (truncf .bf16 (dequant (slice arg7 X k 30) (tcode arg7 X k) 30#32) bitsLt_bf16_f32)⟩,
      ⟨Rect.unit (s := S256x4096) (k0_off30 k) S32x128.size (k0_off30_inb k), (truncf .bf16 (dequant (slice arg7 X k 29) (tcode arg7 X k) 29#32) bitsLt_bf16_f32)⟩,
      ⟨Rect.unit (s := S256x4096) (k0_off29 k) S32x128.size (k0_off29_inb k), (truncf .bf16 (dequant (slice arg7 X k 28) (tcode arg7 X k) 28#32) bitsLt_bf16_f32)⟩,
      ⟨Rect.unit (s := S256x4096) (k0_off28 k) S32x128.size (k0_off28_inb k), (truncf .bf16 (dequant (slice arg7 X k 27) (tcode arg7 X k) 27#32) bitsLt_bf16_f32)⟩,
      ⟨Rect.unit (s := S256x4096) (k0_off27 k) S32x128.size (k0_off27_inb k), (truncf .bf16 (dequant (slice arg7 X k 26) (tcode arg7 X k) 26#32) bitsLt_bf16_f32)⟩,
      ⟨Rect.unit (s := S256x4096) (k0_off26 k) S32x128.size (k0_off26_inb k), (truncf .bf16 (dequant (slice arg7 X k 25) (tcode arg7 X k) 25#32) bitsLt_bf16_f32)⟩,
      ⟨Rect.unit (s := S256x4096) (k0_off25 k) S32x128.size (k0_off25_inb k), (truncf .bf16 (dequant (slice arg7 X k 24) (tcode arg7 X k) 24#32) bitsLt_bf16_f32)⟩,
      ⟨Rect.unit (s := S256x4096) (k0_off24 k) S32x128.size (k0_off24_inb k), (truncf .bf16 (dequant (slice arg7 X k 23) (tcode arg7 X k) 23#32) bitsLt_bf16_f32)⟩,
      ⟨Rect.unit (s := S256x4096) (k0_off23 k) S32x128.size (k0_off23_inb k), (truncf .bf16 (dequant (slice arg7 X k 22) (tcode arg7 X k) 22#32) bitsLt_bf16_f32)⟩,
      ⟨Rect.unit (s := S256x4096) (k0_off22 k) S32x128.size (k0_off22_inb k), (truncf .bf16 (dequant (slice arg7 X k 21) (tcode arg7 X k) 21#32) bitsLt_bf16_f32)⟩,
      ⟨Rect.unit (s := S256x4096) (k0_off21 k) S32x128.size (k0_off21_inb k), (truncf .bf16 (dequant (slice arg7 X k 20) (tcode arg7 X k) 20#32) bitsLt_bf16_f32)⟩,
      ⟨Rect.unit (s := S256x4096) (k0_off20 k) S32x128.size (k0_off20_inb k), (truncf .bf16 (dequant (slice arg7 X k 19) (tcode arg7 X k) 19#32) bitsLt_bf16_f32)⟩,
      ⟨Rect.unit (s := S256x4096) (k0_off19 k) S32x128.size (k0_off19_inb k), (truncf .bf16 (dequant (slice arg7 X k 18) (tcode arg7 X k) 18#32) bitsLt_bf16_f32)⟩,
      ⟨Rect.unit (s := S256x4096) (k0_off18 k) S32x128.size (k0_off18_inb k), (truncf .bf16 (dequant (slice arg7 X k 17) (tcode arg7 X k) 17#32) bitsLt_bf16_f32)⟩,
      ⟨Rect.unit (s := S256x4096) (k0_off17 k) S32x128.size (k0_off17_inb k), (truncf .bf16 (dequant (slice arg7 X k 16) (tcode arg7 X k) 16#32) bitsLt_bf16_f32)⟩,
      ⟨Rect.unit (s := S256x4096) (k0_off16 k) S32x128.size (k0_off16_inb k), (truncf .bf16 (dequant (slice arg7 X k 15) (tcode arg7 X k) 15#32) bitsLt_bf16_f32)⟩,
      ⟨Rect.unit (s := S256x4096) (k0_off15 k) S32x128.size (k0_off15_inb k), (truncf .bf16 (dequant (slice arg7 X k 14) (tcode arg7 X k) 14#32) bitsLt_bf16_f32)⟩,
      ⟨Rect.unit (s := S256x4096) (k0_off14 k) S32x128.size (k0_off14_inb k), (truncf .bf16 (dequant (slice arg7 X k 13) (tcode arg7 X k) 13#32) bitsLt_bf16_f32)⟩,
      ⟨Rect.unit (s := S256x4096) (k0_off13 k) S32x128.size (k0_off13_inb k), (truncf .bf16 (dequant (slice arg7 X k 12) (tcode arg7 X k) 12#32) bitsLt_bf16_f32)⟩,
      ⟨Rect.unit (s := S256x4096) (k0_off12 k) S32x128.size (k0_off12_inb k), (truncf .bf16 (dequant (slice arg7 X k 11) (tcode arg7 X k) 11#32) bitsLt_bf16_f32)⟩,
      ⟨Rect.unit (s := S256x4096) (k0_off11 k) S32x128.size (k0_off11_inb k), (truncf .bf16 (dequant (slice arg7 X k 10) (tcode arg7 X k) 10#32) bitsLt_bf16_f32)⟩,
      ⟨Rect.unit (s := S256x4096) (k0_off10 k) S32x128.size (k0_off10_inb k), (truncf .bf16 (dequant (slice arg7 X k 9) (tcode arg7 X k) 9#32) bitsLt_bf16_f32)⟩,
      ⟨Rect.unit (s := S256x4096) (k0_off9 k) S32x128.size (k0_off9_inb k), (truncf .bf16 (dequant (slice arg7 X k 8) (tcode arg7 X k) 8#32) bitsLt_bf16_f32)⟩,
      ⟨Rect.unit (s := S256x4096) (k0_off8 k) S32x128.size (k0_off8_inb k), (truncf .bf16 (dequant (slice arg7 X k 7) (tcode arg7 X k) 7#32) bitsLt_bf16_f32)⟩,
      ⟨Rect.unit (s := S256x4096) (k0_off7 k) S32x128.size (k0_off7_inb k), (truncf .bf16 (dequant (slice arg7 X k 6) (tcode arg7 X k) 6#32) bitsLt_bf16_f32)⟩,
      ⟨Rect.unit (s := S256x4096) (k0_off6 k) S32x128.size (k0_off6_inb k), (truncf .bf16 (dequant (slice arg7 X k 5) (tcode arg7 X k) 5#32) bitsLt_bf16_f32)⟩,
      ⟨Rect.unit (s := S256x4096) (k0_off5 k) S32x128.size (k0_off5_inb k), (truncf .bf16 (dequant (slice arg7 X k 4) (tcode arg7 X k) 4#32) bitsLt_bf16_f32)⟩,
      ⟨Rect.unit (s := S256x4096) (k0_off4 k) S32x128.size (k0_off4_inb k), (truncf .bf16 (dequant (slice arg7 X k 3) (tcode arg7 X k) 3#32) bitsLt_bf16_f32)⟩,
      ⟨Rect.unit (s := S256x4096) (k0_off3 k) S32x128.size (k0_off3_inb k), (truncf .bf16 (dequant (slice arg7 X k 2) (tcode arg7 X k) 2#32) bitsLt_bf16_f32)⟩,
      ⟨Rect.unit (s := S256x4096) (k0_off2 k) S32x128.size (k0_off2_inb k), (truncf .bf16 (dequant (slice arg7 X k 1) (tcode arg7 X k) 1#32) bitsLt_bf16_f32)⟩,
      ⟨Rect.unit (s := S256x4096) (k0_off1 k) S32x128.size (k0_off1_inb k), (truncf .bf16 (dequant (slice arg7 X k 0) (tcode arg7 X k) 0#32) bitsLt_bf16_f32)⟩]

/-- The pieces a trip writes to the masks. -/
def maskPieces : List (View.Piece (Elt F) S256x512 .i8) :=
    [⟨Rect.unit (s := S256x512) (k0_off36 k) S32x128.size (k0_off36_inb k), byte (tword arg7 X k) 24#32⟩, ⟨Rect.unit (s := S256x512) (k0_off35 k) S32x128.size (k0_off35_inb k), byte (tword arg7 X k) 16#32⟩, ⟨Rect.unit (s := S256x512) (k0_off34 k) S32x128.size (k0_off34_inb k), byte (tword arg7 X k) 8#32⟩, ⟨Rect.unit (s := S256x512) (k0_off33 k) S32x128.size (k0_off33_inb k), byte (tword arg7 X k) 0#32⟩]

set_option maxHeartbeats 4000000 in
theorem trip_codes : (tripL_k0_t1 (F := F) 𝒱 c bd i arg1 harg1 arg2 harg2 arg3 harg3 arg4 harg4 arg5 harg5 arg6 harg6 arg7 harg7 X k).1 = codePieces arg7 X k := by
  unfold tripL_k0_t1 trip_k0_t1 codePieces; exact rfl

set_option maxHeartbeats 4000000 in
theorem trip_scales : (tripL_k0_t1 (F := F) 𝒱 c bd i arg1 harg1 arg2 harg2 arg3 harg3 arg4 harg4 arg5 harg5 arg6 harg6 arg7 harg7 X k).2.1 = [⟨Rect.unit (s := S256x128) (k0_off37 k) S32x128.size (k0_off37_inb k), codeRow (tcode arg7 X k)⟩] := by
  unfold tripL_k0_t1 trip_k0_t1; exact rfl

set_option maxHeartbeats 4000000 in
theorem trip_masks : (tripL_k0_t1 (F := F) 𝒱 c bd i arg1 harg1 arg2 harg2 arg3 harg3 arg4 harg4 arg5 harg5 arg6 harg6 arg7 harg7 X k).2.2.1 = maskPieces arg7 X k := by
  unfold tripL_k0_t1 trip_k0_t1 maskPieces; exact rfl

set_option maxHeartbeats 4000000 in
theorem trip_deq : (tripL_k0_t1 (F := F) 𝒱 c bd i arg1 harg1 arg2 harg2 arg3 harg3 arg4 harg4 arg5 harg5 arg6 harg6 arg7 harg7 X k).2.2.2 = deqPieces arg7 X k := by
  unfold tripL_k0_t1 trip_k0_t1 deqPieces; exact rfl

end Cert.QuantXIdeal.Trip
-- ==== Proof.QuantXMath.lean ====
/-
  The quantiser's mathematics over the reals: the power of two below a positive real, found by its exponent field; the
  rounding to E2M1; the bound of a block's scale.
-/
module

public import Idealize.ShloMosaic.PureOps.Ideal.Laws
public import Idealize.ShloMosaic.Lib.IdealHost

@[expose] public section

noncomputable section

namespace Cert.Quantiser

open Idealize.ShloMosaic

/-! ## Constants -/

/-- The normalisation of the Hadamard transform, as f32 holds it. -/
abbrev norm : ℝ := 11863283 / 67108864
/-- 2.92, as f32 holds it. -/
abbrev alpha : ℝ := 12247368 / 4194304
/-- 1 / 6, as f32 holds it. -/
abbrev sixth : ℝ := 11184811 / 67108864

theorem bits_norm : Ideal.ofBits .f32 0x3E3504F3#32 = (norm : EReal) := by
  simp [Ideal.ofBits, Ideal.ieee, -EReal.coe_mul]; norm_num
theorem bits_alpha : Ideal.ofBits .f32 0x403AE148#32 = (alpha : EReal) := by
  simp [Ideal.ofBits, Ideal.ieee, -EReal.coe_mul]; norm_num
theorem bits_sixth : Ideal.ofBits .f32 0x3E2AAAAB#32 = (sixth : EReal) := by
  simp [Ideal.ofBits, Ideal.ieee, -EReal.coe_mul]; norm_num
theorem bits_32nd : Ideal.ofBits .f32 0x3D000000#32 = ((1 / 32 : ℝ) : EReal) := by
  simp [Ideal.ofBits, Ideal.ieee, -EReal.coe_mul]; norm_num
theorem bits_32 : Ideal.ofBits .f32 0x42000000#32 = ((32 : ℝ) : EReal) := by
  simp [Ideal.ofBits, Ideal.ieee, -EReal.coe_mul]; norm_num
theorem bits_127 : Ideal.ofBits .f32 0x42FE0000#32 = ((127 : ℝ) : EReal) := by
  simp [Ideal.ofBits, Ideal.ieee, -EReal.coe_mul]; norm_num
theorem bits_6 : Ideal.ofBits .f32 0x40C00000#32 = ((6 : ℝ) : EReal) := by
  simp [Ideal.ofBits, Ideal.ieee, -EReal.coe_mul]; norm_num
theorem bits_m6 : Ideal.ofBits .f32 0xC0C00000#32 = ((-6 : ℝ) : EReal) := by
  simp [Ideal.ofBits, Ideal.ieee, -EReal.coe_mul]; norm_num
theorem bits_4 : Ideal.ofBits .f32 0x40800000#32 = ((4 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_1 : Ideal.ofBits .f32 0x3F800000#32 = ((1 : ℝ) : EReal) := by
  simp [Ideal.ofBits, Ideal.ieee, -EReal.coe_mul]; norm_num
theorem bits_m1 : Ideal.ofBits .f32 0xBF800000#32 = ((-1 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_0 : Ideal.ofBits .f32 0x00000000#32 = ((0 : ℝ) : EReal) := by
  simp [Ideal.ofBits, Ideal.ieee]

/-- A normal exponent field alone is a power of two. -/
theorem bits_field (k : ℕ) (h1 : 1 ≤ k) (h2 : k ≤ 254) :
    Ideal.ofBits .f32 (BitVec.ofNat 32 k <<< 23) = (((2 : ℝ) ^ ((k : ℤ) - 127) : ℝ) : EReal) := by
  have hx : ∀ k : Fin 255, ((BitVec.ofNat 32 k.val <<< 23).extractLsb' 23 8).toNat = k.val
      ∧ ((BitVec.ofNat 32 k.val <<< 23).extractLsb' 0 23).toNat = 0
      ∧ ((BitVec.ofNat 32 k.val <<< 23).extractLsb' 31 1 == 1#1) = false := by decide +kernel
  obtain ⟨e1, e2, e3⟩ := hx ⟨k, by omega⟩
  dsimp only at e1 e2 e3
  show Ideal.ieee 8 23 _ = _
  generalize BitVec.ofNat 32 k <<< 23 = b at e1 e2 e3 ⊢
  unfold Ideal.ieee
  dsimp only
  simp only [Nat.reduceAdd, e1, e2, e3, Nat.reducePow, Nat.reduceSub]
  rw [if_neg (by omega), if_neg (by omega)]
  congr 1
  have : (2 : ℝ) ^ ((k : ℤ) - 127) = 2 ^ (23 : ℤ) * 2 ^ ((k : ℤ) - 127 - 23) := by
    rw [← zpow_add₀ (by norm_num)]; congr 1; omega
  rw [this]
  norm_num

/-- The field of all ones is infinity. -/
theorem bits_field_top : Ideal.ofBits .f32 (BitVec.ofNat 32 255 <<< 23) = ⊤ := by
  simp [Ideal.ofBits, Ideal.ieee]

/-! ## The exponent field -/

/-- One step of a binary search on the fields. -/
def step (p : ℕ → Bool) (b f : ℕ) : ℕ := if p (f + b) then f + b else f
/-- The binary search. -/
def search (p : ℕ → Bool) : ℕ :=
  step p 1 (step p 2 (step p 4 (step p 8 (step p 16 (step p 32 (step p 64 (step p 128 0)))))))

theorem search_le : ∀ n : Fin 256, search (fun k => decide (k ≤ n.val)) = n.val := by decide +kernel

/-- The binary exponent of a positive real. -/
def expo (a : ℝ) : ℤ := ⌊Real.log a * (Real.log 2)⁻¹⌋

theorem zpow_le_iff (a : ℝ) (ha : 0 < a) (n : ℤ) : (2 : ℝ) ^ n ≤ a ↔ n ≤ expo a := by
  have h2 : 0 < Real.log 2 := Real.log_pos (by norm_num)
  rw [expo, Int.le_floor, ← div_eq_mul_inv, le_div_iff₀ h2, ← Real.log_zpow,
    Real.log_le_log_iff (zpow_pos (by norm_num) _) ha]

theorem expo_ge (a : ℝ) (n : ℤ) (h : (2 : ℝ) ^ n ≤ a) : n ≤ expo a :=
  (zpow_le_iff a (lt_of_lt_of_le (zpow_pos (by norm_num) _) h) n).1 h
theorem expo_lt (a : ℝ) (ha : 0 < a) (n : ℤ) (h : a < (2 : ℝ) ^ n) : expo a < n := by
  by_contra hc
  exact absurd ((zpow_le_iff a ha n).2 (not_lt.1 hc)) (not_le.2 h)

/-! ## Rounding -/

theorem roundHalfEven_neg (r : ℝ) : Ideal.roundHalfEven (-r) = -Ideal.roundHalfEven r := by
  unfold Ideal.roundHalfEven
  dsimp only
  have h1 := Int.floor_le r
  have h2 := Int.lt_floor_add_one r
  set f := ⌊r⌋ with hf
  by_cases hi : r = f
  · have : ⌊-r⌋ = -f := by rw [hi, ← Int.cast_neg, Int.floor_intCast]
    rw [this, if_pos (by push_cast; rw [hi]; norm_num), if_pos (by rw [hi]; norm_num)]
  · have hlt : (f : ℝ) < r := lt_of_le_of_ne h1 (Ne.symm hi)
    have : ⌊-r⌋ = -f - 1 := by
      rw [Int.floor_eq_iff]; push_cast; constructor <;> linarith
    rw [this]
    push_cast
    rcases lt_trichotomy (r - f) (1 / 2) with h | h | h
    · rw [if_neg (by linarith), if_pos (by linarith), if_pos h]; ring
    · have a1 : ¬(-r - (-(f : ℝ) - 1) < 1 / 2) := by linarith
      have a2 : ¬(1 / 2 < -r - (-(f : ℝ) - 1)) := by linarith
      have a3 : ¬(r - (f : ℝ) < 1 / 2) := by linarith
      have a4 : ¬(1 / 2 < r - (f : ℝ)) := by linarith
      simp only [if_neg a1, if_neg a2, if_neg a3, if_neg a4]
      by_cases he : Even f
      · have : ¬Even (-f - 1) := by rw [Int.even_sub_one]; simpa using he
        simp only [if_pos he, if_neg this]; ring
      · have : Even (-f - 1) := by rw [Int.even_sub_one]; simpa using he
        simp only [if_neg he, if_pos this]; ring
    · rw [if_pos (by linarith), if_neg (by linarith), if_pos h]; ring

/-- The clip. -/
def clipR (v : ℝ) : ℝ := min 6 (max (-6) v)
/-- The step of E2M1 at a magnitude. -/
def stepR (a : ℝ) : ℝ := if a < 2 then 1 / 2 else if a < 4 then 1 else 2

/-- The nearest E2M1 value of a clipped real. -/
def roundR (c : ℝ) : ℝ :=
  (Ideal.roundHalfEven (c * (if |c| < 2 then 2 else if |c| < 4 then 1 else 1 / 2)) : ℝ)
    * ((if |c| < 2 then 1 else if |c| < 4 then 2 else 4) * (1 / 2))

/-- Rounding the magnitude and restoring the sign. -/
theorem roundR_eq (c : ℝ) :
    (if c < 0 then -1 else if 0 < c then 1 else 0) * stepR |c| * (Ideal.roundHalfEven (|c| * (1 / stepR |c|)) : ℝ) = roundR c := by
  have key : ∀ s : ℝ, (if c < 0 then (-1 : ℝ) else if 0 < c then 1 else 0) * (Ideal.roundHalfEven (|c| * s) : ℝ)
      = (Ideal.roundHalfEven (c * s) : ℝ) := by
    intro s
    rcases lt_trichotomy c 0 with h | h | h
    · rw [if_pos h, abs_of_neg h, show -c * s = -(c * s) by ring, roundHalfEven_neg]; push_cast; ring
    · subst h; simp [Ideal.roundHalfEven]
    · rw [if_neg (not_lt.2 h.le), if_pos h, abs_of_pos h]; ring
  rw [mul_right_comm, key]
  unfold roundR stepR
  by_cases h1 : |c| < 2
  · simp only [if_pos h1]; norm_num
  · by_cases h2 : |c| < 4
    · simp only [if_neg h1, if_pos h2]; norm_num
    · simp only [if_neg h1, if_neg h2]; norm_num

/-! ## A block -/

/-- The sum of squares of block `b` of a row. -/
def sumSqR (A : ℕ → ℝ) (b : ℕ) : ℝ := ∑ k ∈ Finset.range 32, A (32 * b + k) * A (32 * b + k)
/-- The root mean square. -/
def rmsR (A : ℕ → ℝ) (b : ℕ) : ℝ := Real.sqrt (sumSqR A b * (1 / 32))
/-- 2.92 / 6 of it. -/
def ampR (A : ℕ → ℝ) (b : ℕ) : ℝ := alpha * rmsR A b * sixth
/-- The exponent of the block's scale. -/
def expR (A : ℕ → ℝ) (b : ℕ) : ℤ := if rmsR A b = 0 then 0 else expo (ampR A b)
/-- A column's entry, scaled. -/
def scaledR (A : ℕ → ℝ) (c : ℕ) : ℝ := A c * (2 : ℝ) ^ (-expR A (c / 32))
/-- A column's quantised entry. -/
def quantR (A : ℕ → ℝ) (c : ℕ) : ℝ := roundR (clipR (scaledR A c))
/-- A column's dequantised entry. -/
def deqR (A : ℕ → ℝ) (c : ℕ) : ℝ := quantR A c * (2 : ℝ) ^ expR A (c / 32)
/-- Whether a column's entry is not clipped. -/
def keptR (A : ℕ → ℝ) (c : ℕ) : Bool := decide (|scaledR A c| ≤ 6)

/-- A block whose scale and its reciprocal are normal. -/
def TameBlock (A : ℕ → ℝ) (b : ℕ) : Prop := rmsR A b = 0 ∨ ((2 : ℝ) ^ (-126 : ℤ) ≤ ampR A b ∧ ampR A b < (2 : ℝ) ^ (127 : ℤ))

theorem sumSqR_nonneg (A : ℕ → ℝ) (b : ℕ) : 0 ≤ sumSqR A b := Finset.sum_nonneg fun _ _ => mul_self_nonneg _

theorem expR_bounds {A : ℕ → ℝ} {b : ℕ} (h : TameBlock A b) : -126 ≤ expR A b ∧ expR A b ≤ 126 := by
  unfold expR
  split
  · omega
  · rename_i hne
    obtain ⟨h1, h2⟩ := h.resolve_left hne
    have hp : 0 < ampR A b := lt_of_lt_of_le (zpow_pos (by norm_num) _) h1
    have := expo_ge _ _ h1
    have := expo_lt _ hp _ h2
    omega

/-- The scale code. -/
def codeR (A : ℕ → ℝ) (b : ℕ) : ℕ := (expR A b + 127).toNat

theorem codeR_cast {A : ℕ → ℝ} {b : ℕ} (h : TameBlock A b) : (codeR A b : ℤ) = expR A b + 127 ∧ 1 ≤ codeR A b ∧ codeR A b ≤ 253 := by
  have := expR_bounds h
  unfold codeR
  omega

end Cert.Quantiser

end
-- ==== Proof.QuantXRead.lean ====
/-
  The trip's vectors over the extended reals, entry by entry: from a slab of a real matrix, the scale codes, the quantised and
  the dequantised entries and the masks are the quantiser's.
-/
module

public import proofs.«01_k».proof.Proof.QuantXTrip
public import proofs.«01_k».proof.Proof.QuantXMath
public import Idealize.ShloMosaic.Lib.ValueIdx

@[expose] public section

set_option maxRecDepth 16384

noncomputable section

namespace Cert.QuantXIdeal.Trip

open Cert.QuantXIdeal Cert.QuantXIdeal.Gen Cert.Quantiser Idealize.ShloMosaic Idealize.ShloMosaic.TcCoe Idealize.SL.Sem

/-! ## Extended reals -/

theorem coe_sum' {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]
theorem coe_max' (a b : ℝ) : ((max a b : ℝ) : EReal) = max (a : EReal) b := EReal.coe_strictMono.monotone.map_max
theorem coe_min' (a b : ℝ) : ((min a b : ℝ) : EReal) = min (a : EReal) b := EReal.coe_strictMono.monotone.map_min
theorem coe_abs' (a : ℝ) : max (a : EReal) (-(a : EReal)) = ((|a| : ℝ) : EReal) := by
  rw [← EReal.coe_neg, ← coe_max']; rfl

theorem select_ofBool {α : Type} (p : Bool) (x y : α) : Scalar.select (BitVec.ofBool p) x y = if p then x else y := by
  cases p <;> rfl

/-! ## Lanes -/

/-- Entry `(i, l)` of a slab. -/
abbrev ix (i : Fin 32) (l : Fin 128) : S32x128.Idx := fun a => match a with
  | ⟨0, _⟩ => ⟨i.val, i.isLt⟩
  | ⟨1, _⟩ => ⟨l.val, l.isLt⟩

theorem eq_ix (x : S32x128.Idx) : x = ix (x 0) (x 1) := funext fun a => by
  match a with
  | ⟨0, _⟩ => rfl
  | ⟨1, _⟩ => rfl

theorem lane_ix (i : Fin 32) (l : Fin 128) : lane (ix i l) = BitVec.ofNat 32 l.val := iota_single_apply _ _ _ 1 _ _

theorem take_ix {α : Type} (a : S32x128.Idx → α) (idx : IVec S32x128 32) (i : Fin 32) (l t : Fin 128)
    (h : (idx (ix i l)).toNat = t.val) : take a idx (ix i l) = a (ix i t) := by
  unfold take dynamicGather
  rw [shapeCast_shapeCast]
  have hw : select (cmpi .slt idx (bc 0#32)) (addi idx (bc 128#32)) idx (ix i l) = idx (ix i l) := by
    show Scalar.select (BitVec.ofBool ((idx (ix i l)).slt 0#32)) _ _ = _
    rw [select_ofBool]
    have : (idx (ix i l)).slt 0#32 = false := by
      rw [BitVec.slt_eq_decide, decide_eq_false_iff_not, BitVec.toInt_eq_toNat_of_lt (by omega)]
      simp
    rw [this]; rfl
  refine congrArg a (funext fun b => Fin.ext ?_)
  match b with
  | ⟨0, _⟩ => rfl
  | ⟨1, _⟩ =>
    show (select (cmpi .slt idx (bc 0#32)) (addi idx (bc 128#32)) idx (ix i l)).toNat % 128 = t.val
    rw [hw, h]; omega

/-- The lane with bits flipped. -/
def flip (l : Fin 128) (d : ℕ) : Fin 128 := ⟨(l.val ^^^ d) % 128, Nat.mod_lt _ (by decide)⟩
/-- Whether the lane has a bit. -/
def has (d : BitVec 32) (l : Fin 128) : Bool := BitVec.ofNat 32 l.val &&& d != 0#32

theorem select_hi {α : Type} (d : BitVec 32) (a b : S32x128.Idx → α) (i : Fin 32) (l : Fin 128) :
    select (hi d) a b (ix i l) = if has d l then a (ix i l) else b (ix i l) := by
  show Scalar.select (BitVec.ofBool ((lane (ix i l) &&& d) != 0#32)) _ _ = _
  rw [lane_ix, select_ofBool]; rfl

/-! ## The tree of sums -/

theorem flip_facts : ∀ k : Fin 5, ∀ l : Fin 128,
    (BitVec.ofNat 32 l.val ^^^ BitVec.ofNat 32 (2 ^ k.val)).toNat = (flip l (2 ^ k.val)).val
    ∧ has (BitVec.ofNat 32 (2 ^ k.val)) (flip l (2 ^ k.val)) = !has (BitVec.ofNat 32 (2 ^ k.val)) l
    ∧ l.val % 2 ^ (k.val + 1) = (if has (BitVec.ofNat 32 (2 ^ k.val)) l then 2 ^ k.val else 0) + l.val % 2 ^ k.val
    ∧ (flip l (2 ^ k.val)).val % 2 ^ k.val = l.val % 2 ^ k.val := by decide +kernel

theorem flip_add : ∀ k : Fin 5, ∀ l : Fin 128, ∀ m : Fin 32, m.val < 2 ^ k.val →
    flip l (2 ^ k.val + m.val) = flip (flip l (2 ^ k.val)) m.val := by decide +kernel

/-- The levels of the tree. -/
def tree (p : ℕ → FVec Ideal S32x128 .f32) : ℕ → ℕ → FVec Ideal S32x128 .f32
  | 0 => p
  | k + 1 => level (BitVec.ofNat 32 (2 ^ k)) (tree p k)

theorem tree_ix (p : ℕ → FVec Ideal S32x128 .f32) (k : ℕ) (hk : k ≤ 5) (n : ℕ) (i : Fin 32) (l : Fin 128) :
    tree p k n (ix i l) = ∑ m ∈ Finset.range (2 ^ k), (p (2 ^ k * n + l.val % 2 ^ k) (ix i (flip l m)) : EReal) := by
  induction k generalizing n l with
  | zero =>
    have : flip l 0 = l := Fin.ext (by simp [flip])
    simp [tree, this, Nat.mod_one]
  | succ k ih =>
    obtain ⟨f1, f2, f3, f4⟩ := flip_facts ⟨k, by omega⟩ l
    have f5 := flip_add ⟨k, by omega⟩ l
    dsimp only at f1 f2 f3 f4 f5
    show merge (BitVec.ofNat 32 (2 ^ k)) (tree p k (2 * n)) (tree p k (2 * n + 1)) (ix i l) = _
    show (select (hi _) _ _ (ix i l) : EReal) + take (select (hi _) _ _) _ (ix i l) = _
    rw [take_ix _ _ i l (flip l (2 ^ k)) (by show (lane (ix i l) ^^^ _).toNat = _; rw [lane_ix]; exact f1), select_hi, select_hi, f2,
      ih (by omega), ih (by omega), ih (by omega), ih (by omega), f4, pow_succ, mul_two, Finset.sum_range_add, ← mul_two, ← pow_succ, f3]
    have h5 : ∀ q : ℕ, ∑ m ∈ Finset.range (2 ^ k), (p q (ix i (flip l (2 ^ k + m))) : EReal)
        = ∑ m ∈ Finset.range (2 ^ k), (p q (ix i (flip (flip l (2 ^ k)) m)) : EReal) := fun q =>
      Finset.sum_congr rfl fun m hm => by
        have hm' := Finset.mem_range.1 hm
        have : 2 ^ k ≤ 2 ^ 4 := Nat.pow_le_pow_right (by decide) (by omega)
        rw [f5 ⟨m, by omega⟩ hm']
    rw [h5]
    cases has (BitVec.ofNat 32 (2 ^ k)) l
    · simp only [Bool.false_eq_true, if_false, Bool.not_false, if_true]
      rw [show 2 ^ (k + 1) * n + (0 + l.val % 2 ^ k) = 2 ^ k * (2 * n) + l.val % 2 ^ k by rw [pow_succ]; ring]
    · simp only [Bool.not_true, Bool.false_eq_true, if_false, if_true]
      rw [show 2 ^ (k + 1) * n + (2 ^ k + l.val % 2 ^ k) = 2 ^ k * (2 * n + 1) + l.val % 2 ^ k by rw [pow_succ]; ring]

theorem group_facts : ∀ l : Fin 128, ∀ m : Fin 32,
    (l.val % 32) ^^^ m.val < 32 ∧ (l.val % 32) ^^^ ((l.val % 32) ^^^ m.val) = m.val
    ∧ (flip l m.val).val = 32 * (l.val / 32) + ((l.val % 32) ^^^ m.val) := by decide +kernel

/-- A lane of a slice's group of 32. -/
def inGroup (g k : ℕ) : Fin 128 := ⟨(32 * g + k) % 128, Nat.mod_lt _ (by decide)⟩

theorem sumSq_ix (r : ℕ → FVec Ideal S32x128 .f32) (i : Fin 32) (l : Fin 128) :
    sumSq r (ix i l) = ∑ k ∈ Finset.range 32,
      (r (l.val % 32) (ix i (inGroup (l.val / 32) k)) * r (l.val % 32) (ix i (inGroup (l.val / 32) k)) : EReal) := by
  have h := tree_ix (fun i => mulf (r i) (r i)) 5 le_rfl 0 i l
  refine (show sumSq r (ix i l) = tree (fun i => mulf (r i) (r i)) 5 0 (ix i l) from rfl).trans (h.trans ?_)
  simp only [Nat.reducePow, mul_zero, zero_add]
  have gf := group_facts l
  refine Finset.sum_nbij' (fun m => (l.val % 32) ^^^ m) (fun m => (l.val % 32) ^^^ m) ?_ ?_ ?_ ?_ ?_
  · intro m hm; exact Finset.mem_range.2 (gf ⟨m, Finset.mem_range.1 hm⟩).1
  · intro m hm; exact Finset.mem_range.2 (gf ⟨m, Finset.mem_range.1 hm⟩).1
  · intro m hm; exact (gf ⟨m, Finset.mem_range.1 hm⟩).2.1
  · intro m hm; exact (gf ⟨m, Finset.mem_range.1 hm⟩).2.1
  · intro m hm
    obtain ⟨g1, g2, g3⟩ := gf ⟨m, Finset.mem_range.1 hm⟩
    have : flip l m = inGroup (l.val / 32) ((l.val % 32) ^^^ m) := Fin.ext (by
      rw [g3]; show _ = (32 * (l.val / 32) + ((l.val % 32) ^^^ m)) % 128
      dsimp only at g1; rw [Nat.mod_eq_of_lt (show 32 * (l.val / 32) + ((l.val % 32) ^^^ m) < 128 by omega)])
    rw [this]; rfl

/-! ## A slab of a real matrix -/

variable {r : ℕ → FVec Ideal S32x128 .f32} {A : Fin 32 → ℕ → ℝ}

/-- The slices are the columns of a real matrix. -/
def Slab (r : ℕ → FVec Ideal S32x128 .f32) (A : Fin 32 → ℕ → ℝ) : Prop :=
  ∀ j < 32, ∀ i l, r j (ix i l) = ((A i (128 * j + l.val) : ℝ) : EReal)

/-- The block whose sum lane `l` holds. -/
abbrev blk (l : Fin 128) : ℕ := 4 * (l.val % 32) + l.val / 32

theorem sumSq_real (hr : Slab r A) (i : Fin 32) (l : Fin 128) : sumSq r (ix i l) = ((sumSqR (A i) (blk l) : ℝ) : EReal) := by
  rw [sumSq_ix, sumSqR, coe_sum']
  refine Finset.sum_congr rfl fun k hk => ?_
  have hk := Finset.mem_range.1 hk
  rw [hr _ (Nat.mod_lt _ (by decide)), ← EReal.coe_mul]
  have : 128 * (l.val % 32) + (inGroup (l.val / 32) k).val = 32 * blk l + k := by
    show 128 * (l.val % 32) + (32 * (l.val / 32) + k) % 128 = _
    rw [Nat.mod_eq_of_lt (show 32 * (l.val / 32) + k < 128 by omega)]; unfold blk; omega
  rw [this]

theorem rms_real (hr : Slab r A) (i : Fin 32) (l : Fin 128) : rms (sumSq r) (ix i l) = ((rmsR (A i) (blk l) : ℝ) : EReal) := by
  show Ideal.sqrt (sumSq r (ix i l) * Ideal.ofBits .f32 0x3D000000#32) = _
  rw [sumSq_real hr, bits_32nd, ← EReal.coe_mul, Ideal.sqrt_coe, if_neg (not_lt.2 (mul_nonneg (sumSqR_nonneg _ _) (by norm_num)))]
  rfl

theorem amax_real (hr : Slab r A) (i : Fin 32) (l : Fin 128) : amax (rms (sumSq r)) (ix i l) = ((ampR (A i) (blk l) : ℝ) : EReal) := by
  show Ideal.ofBits .f32 0x403AE148#32 * rms (sumSq r) (ix i l) * Ideal.ofBits .f32 0x3E2AAAAB#32 = _
  rw [rms_real hr, bits_alpha, bits_sixth, ← EReal.coe_mul, ← EReal.coe_mul]
  rfl

theorem pow2_ix (f : IVec S32x128 32) (x : S32x128.Idx) (k : ℕ) (h : f x = BitVec.ofNat 32 k) :
    pow2 (F := Ideal) f x = Ideal.ofBits .f32 (BitVec.ofNat 32 k <<< 23) := by
  show Ideal.ofBits .f32 (IntOp.shli .vector (f x) 23#32) = _
  rw [h]; rfl

theorem fstep_ix (a : FVec Ideal S32x128 .f32) (x : S32x128.Idx) (p : ℕ → Bool)
    (hp : ∀ k, 1 ≤ k → k ≤ 255 → decide (Ideal.ofBits .f32 (BitVec.ofNat 32 k <<< 23) ≤ (a x : EReal)) = p k)
    (f : IVec S32x128 32) (b n : ℕ) (hb : 1 ≤ b) (hn : n + b ≤ 255) (hf : f x = BitVec.ofNat 32 n) :
    fstep a (BitVec.ofNat 32 b) f x = BitVec.ofNat 32 (step p b n) ∧ step p b n ≤ n + b := by
  have e : addi f (bc (BitVec.ofNat 32 b)) x = BitVec.ofNat 32 (n + b) := by
    show f x + BitVec.ofNat 32 b = _
    rw [hf, BitVec.ofNat_add]
  refine ⟨?_, by unfold step; split <;> omega⟩
  show Scalar.select (BitVec.ofBool (decide ((pow2 (F := Ideal) (addi f (bc (BitVec.ofNat 32 b))) x : EReal) ≤ a x)))
    (addi f (bc (BitVec.ofNat 32 b)) x) (f x) = _
  rw [select_ofBool, pow2_ix _ _ _ e, hp _ (by omega) (by omega), e, hf]
  unfold step
  split <;> rfl

theorem field_ix (a : FVec Ideal S32x128 .f32) (x : S32x128.Idx) (p : ℕ → Bool)
    (hp : ∀ k, 1 ≤ k → k ≤ 255 → decide (Ideal.ofBits .f32 (BitVec.ofNat 32 k <<< 23) ≤ (a x : EReal)) = p k) :
    field a x = BitVec.ofNat 32 (search p) := by
  obtain ⟨h1, b1⟩ := fstep_ix a x p hp (bc 0#32) 128 0 (by omega) (by omega) rfl
  obtain ⟨h2, b2⟩ := fstep_ix a x p hp _ 64 _ (by omega) (by omega) h1
  obtain ⟨h3, b3⟩ := fstep_ix a x p hp _ 32 _ (by omega) (by omega) h2
  obtain ⟨h4, b4⟩ := fstep_ix a x p hp _ 16 _ (by omega) (by omega) h3
  obtain ⟨h5, b5⟩ := fstep_ix a x p hp _ 8 _ (by omega) (by omega) h4
  obtain ⟨h6, b6⟩ := fstep_ix a x p hp _ 4 _ (by omega) (by omega) h5
  obtain ⟨h7, b7⟩ := fstep_ix a x p hp _ 2 _ (by omega) (by omega) h6
  exact (fstep_ix a x p hp _ 1 _ (by omega) (by omega) h7).1

theorem field_real (a : FVec Ideal S32x128 .f32) (x : S32x128.Idx) (y : ℝ) (h : (a x : EReal) = (y : EReal))
    (h1 : (2 : ℝ) ^ (-126 : ℤ) ≤ y) (h2 : y < (2 : ℝ) ^ (127 : ℤ)) : field a x = BitVec.ofNat 32 (expo y + 127).toNat := by
  have hp : 0 < y := lt_of_lt_of_le (zpow_pos (by norm_num) _) h1
  have g1 := expo_ge _ _ h1
  have g2 := expo_lt _ hp _ h2
  rw [field_ix a x (fun k => decide (k ≤ (expo y + 127).toNat))]
  · rw [search_le ⟨(expo y + 127).toNat, by omega⟩]
  · intro k k1 k2
    rw [h]
    by_cases hk : k = 255
    · subst hk
      rw [bits_field_top]
      rw [decide_eq_false (by simp), decide_eq_false (by omega)]
    · rw [bits_field k k1 (by omega)]
      refine decide_eq_decide.2 ?_
      rw [EReal.coe_le_coe_iff, zpow_le_iff _ hp]
      omega

theorem code_real (hr : Slab r A) (i : Fin 32) (l : Fin 128) (ht : TameBlock (A i) (blk l)) :
    code (rms (sumSq r)) (ix i l) = BitVec.ofNat 32 (codeR (A i) (blk l)) := by
  show Scalar.select (BitVec.ofBool (decide ((rms (sumSq r) (ix i l) : EReal) = Ideal.ofBits .f32 0x00000000#32))) 127#32 _ = _
  rw [select_ofBool, rms_real hr, bits_0]
  by_cases h0 : rmsR (A i) (blk l) = 0
  · rw [h0]; unfold codeR expR; rw [if_pos h0]; simp
  · have : ¬(((rmsR (A i) (blk l) : ℝ) : EReal) = ((0 : ℝ) : EReal)) := by
      rw [EReal.coe_eq_coe_iff]; exact h0
    obtain ⟨h1, h2⟩ := ht.resolve_left h0
    simp only [this, decide_false, Bool.false_eq_true, if_false]
    rw [field_real _ _ _ (amax_real hr i l) h1 h2]
    unfold codeR expR; rw [if_neg h0]

theorem inv_ix (c : IVec S32x128 32) (x : S32x128.Idx) (k : ℕ) (h : c x = BitVec.ofNat 32 k) (h1 : 1 ≤ k) (h2 : k ≤ 253) :
    inv (F := Ideal) c x = (((2 : ℝ) ^ (-((k : ℤ) - 127)) : ℝ) : EReal) := by
  unfold inv
  rw [pow2_ix _ _ (254 - k) (by
    show 254#32 - c x = _
    rw [h]; exact (BitVec.ofNat_sub_ofNat_of_le 254 k (by omega) (by omega)).trans rfl), bits_field _ (by omega) (by omega)]
  congr 2; omega

theorem lanes_facts : ∀ j : Fin 32, ∀ l : Fin 128,
    ((BitVec.ofNat 32 l.val &&& 96#32) + BitVec.ofNat 32 j.val).toNat = (inGroup (l.val / 32) j.val).val
    ∧ blk (inGroup (l.val / 32) j.val) = (128 * j.val + l.val) / 32 := by decide +kernel

variable (hr : Slab r A) (ht : ∀ i, ∀ b < 128, TameBlock (A i) b)
include hr ht

theorem inv_real (j : Fin 32) (i : Fin 32) (l : Fin 128) :
    take (inv (F := Ideal) (code (rms (sumSq r)))) (lanes (BitVec.ofNat 32 j.val)) (ix i l)
      = (((2 : ℝ) ^ (-expR (A i) ((128 * j.val + l.val) / 32)) : ℝ) : EReal) := by
  obtain ⟨e1, e2⟩ := lanes_facts j l
  have hb : blk (inGroup (l.val / 32) j.val) < 128 := by rw [e2]; omega
  have h := codeR_cast (ht i _ hb)
  rw [take_ix _ _ i l (inGroup (l.val / 32) j.val) (by
    show ((lane (ix i l) &&& 96#32) + BitVec.ofNat 32 j.val).toNat = _; rw [lane_ix]; exact e1),
    inv_ix _ _ _ (code_real hr i _ (ht i _ hb)) h.2.1 h.2.2, ← e2, h.1]
  congr 2; ring_nf

theorem pow2_real (j : Fin 32) (i : Fin 32) (l : Fin 128) :
    take (pow2 (F := Ideal) (code (rms (sumSq r)))) (lanes (BitVec.ofNat 32 j.val)) (ix i l)
      = (((2 : ℝ) ^ (expR (A i) ((128 * j.val + l.val) / 32)) : ℝ) : EReal) := by
  obtain ⟨e1, e2⟩ := lanes_facts j l
  have hb : blk (inGroup (l.val / 32) j.val) < 128 := by rw [e2]; omega
  have h := codeR_cast (ht i _ hb)
  rw [take_ix _ _ i l (inGroup (l.val / 32) j.val) (by
    show ((lane (ix i l) &&& 96#32) + BitVec.ofNat 32 j.val).toNat = _; rw [lane_ix]; exact e1),
    pow2_ix _ _ _ (code_real hr i _ (ht i _ hb)), bits_field _ h.2.1 (by omega), ← e2, h.1]
  congr 2; ring_nf

theorem scaled_real (j : Fin 32) (i : Fin 32) (l : Fin 128) :
    scaled (r j.val) (code (rms (sumSq r))) (BitVec.ofNat 32 j.val) (ix i l) = ((scaledR (A i) (128 * j.val + l.val) : ℝ) : EReal) := by
  show (r j.val (ix i l) : EReal) * take _ _ (ix i l) = _
  rw [inv_real hr ht, hr _ j.isLt, ← EReal.coe_mul]
  rfl

omit hr ht in
theorem roundC_real (v : FVec Ideal S32x128 .f32) (x : S32x128.Idx) (y : ℝ) (h : (v x : EReal) = (y : EReal)) :
    roundC (clip v) x = ((roundR (clipR y) : ℝ) : EReal) := by
  have hc : clip v x = ((clipR y : ℝ) : EReal) := by
    show min (Ideal.ofBits .f32 0x40C00000#32) (max (Ideal.ofBits .f32 0xC0C00000#32) (v x : EReal)) = _
    rw [h, bits_6, bits_m6, ← coe_max', ← coe_min']; rfl
  generalize clip v = c at hc ⊢
  generalize clipR y = z at hc ⊢
  show Ideal.liftRound Ideal.roundHalfEven ((c x : EReal) *
      Scalar.select (BitVec.ofBool (decide (max (c x : EReal) (-(c x)) < Ideal.ofBits .f32 0x40000000#32))) (Ideal.ofBits .f32 0x40000000#32)
        (Scalar.select (BitVec.ofBool (decide (max (c x : EReal) (-(c x)) < Ideal.ofBits .f32 0x40800000#32))) (Ideal.ofBits .f32 0x3F800000#32)
          (Ideal.ofBits .f32 0x3F000000#32)))
    * (Scalar.select (BitVec.ofBool (decide (max (c x : EReal) (-(c x)) < Ideal.ofBits .f32 0x40000000#32))) (Ideal.ofBits .f32 0x3F800000#32)
        (Scalar.select (BitVec.ofBool (decide (max (c x : EReal) (-(c x)) < Ideal.ofBits .f32 0x40800000#32))) (Ideal.ofBits .f32 0x40000000#32)
          (Ideal.ofBits .f32 0x40800000#32)) * Ideal.ofBits .f32 0x3F000000#32) = _
  rw [hc, coe_abs', bits_2, bits_4, bits_1, bits_half]
  simp only [select_ofBool, EReal.coe_lt_coe_iff, decide_eq_true_eq]
  unfold roundR
  by_cases h1 : |z| < 2
  · simp only [if_pos h1, ← EReal.coe_mul]; rfl
  · by_cases h2 : |z| < 4
    · simp only [if_neg h1, if_pos h2, ← EReal.coe_mul]; rfl
    · simp only [if_neg h1, if_neg h2, ← EReal.coe_mul]; rfl

theorem quant_real (j : Fin 32) (i : Fin 32) (l : Fin 128) :
    quant (r j.val) (code (rms (sumSq r))) (BitVec.ofNat 32 j.val) (ix i l) = ((quantR (A i) (128 * j.val + l.val) : ℝ) : EReal) :=
  roundC_real _ _ _ (scaled_real hr ht j i l)

theorem dequant_real (j : Fin 32) (i : Fin 32) (l : Fin 128) :
    dequant (r j.val) (code (rms (sumSq r))) (BitVec.ofNat 32 j.val) (ix i l) = ((deqR (A i) (128 * j.val + l.val) : ℝ) : EReal) := by
  show (quant (r j.val) (code (rms (sumSq r))) (BitVec.ofNat 32 j.val) (ix i l) : EReal) * take _ _ (ix i l) = _
  rw [quant_real hr ht, pow2_real hr ht, ← EReal.coe_mul]
  rfl

/-! ## The scale codes in order -/

omit hr ht in
theorem codeRow_facts : ∀ l : Fin 128,
    (((BitVec.ofNat 32 l.val &&& 3#32) <<< 5) ||| (BitVec.ofNat 32 l.val).sshiftRight 2).toNat = (inGroup (l.val % 4) (l.val / 4)).val
    ∧ blk (inGroup (l.val % 4) (l.val / 4)) = l.val := by decide +kernel

theorem codeRow_real (i : Fin 32) (l : Fin 128) :
    codeRow (code (rms (sumSq r))) (ix i l) = BitVec.ofNat 8 (codeR (A i) l.val) := by
  obtain ⟨e1, e2⟩ := codeRow_facts l
  show BitVec.setWidth 8 (take (code (rms (sumSq r))) (ori (shli (andi lane (bc 3#32)) (bc 5#32)) (shrsi lane (bc 2#32))) (ix i l)) = _
  rw [take_ix _ _ i l (inGroup (l.val % 4) (l.val / 4)) (by
    show (((lane (ix i l) &&& 3#32) <<< 5) ||| (lane (ix i l)).sshiftRight 2).toNat = _; rw [lane_ix]; exact e1),
    code_real hr i _ (ht i _ (by rw [e2]; exact l.isLt)), e2, BitVec.setWidth_ofNat_of_le (by decide)]

/-! ## The masks -/

theorem addBit_ix (j i : Fin 32) (l : Fin 128) (bit : BitVec 32) (w : IVec S32x128 32) :
    addBit (r j.val) (code (rms (sumSq r))) (BitVec.ofNat 32 j.val) bit w (ix i l)
      = w (ix i l) ||| if keptR (A i) (128 * j.val + l.val) then bit else 0#32 := by
  show w (ix i l) ||| Scalar.select (BitVec.ofBool (decide (max (scaled (r j.val) _ _ (ix i l) : EReal) (-(scaled (r j.val) _ _ (ix i l))) ≤
    Ideal.ofBits .f32 0x40C00000#32))) bit 0#32 = _
  rw [scaled_real hr ht, coe_abs', bits_6, select_ofBool]
  simp only [EReal.coe_le_coe_iff]
  rfl

theorem words_bit (n : ℕ) (hn : n ≤ 32) (i : Fin 32) (l : Fin 128) (t : Fin 32) :
    (words r (code (rms (sumSq r))) n (ix i l)).getLsbD t.val = (decide (t.val < n) && keptR (A i) (128 * t.val + l.val)) := by
  induction n with
  | zero =>
    show (0#32).getLsbD t.val = _
    simp
  | succ n ih =>
    have h := addBit_ix hr ht ⟨n, by omega⟩ i l (1#32 <<< n) (words r (code (rms (sumSq r))) n)
    show (addBit (r n) _ (BitVec.ofNat 32 n) (1#32 <<< n) (words r _ n) (ix i l)).getLsbD t.val = _
    refine (congrArg (fun w => BitVec.getLsbD w t.val) h).trans ?_
    rw [BitVec.getLsbD_or, ih (by omega)]
    dsimp only
    have hb : ((if keptR (A i) (128 * n + l.val) then 1#32 <<< n else 0#32) : BitVec 32).getLsbD t.val
        = (decide (t.val = n) && keptR (A i) (128 * n + l.val)) := by
      have ho : ∀ n t : Fin 32, (1#32 <<< n.val).getLsbD t.val = decide (t.val = n.val) := by decide +kernel
      cases keptR (A i) (128 * n + l.val)
      · simp
      · simpa using ho ⟨n, by omega⟩ t
    rw [hb]
    by_cases h1 : t.val = n
    · subst h1; simp
    · rw [decide_eq_false h1, Bool.false_and, Bool.or_false]
      congr 1
      exact decide_eq_decide.2 (by omega)

/-! The transposition of the 8 × 8 bits. -/

omit hr ht in
/-- Where one level takes a bit from: lane and position. -/
def source (d : ℕ) (l : Fin 128) (t : Fin 32) : Fin 128 × Fin 32 :=
  if (l.val &&& d != 0) = (t.val &&& d != 0) then (l, t) else (flip l d, ⟨(t.val ^^^ d) % 32, Nat.mod_lt _ (by decide)⟩)

omit hr ht in
theorem bits_has (d : ℕ) (low : BitVec 32) (hd : d = 1 ∧ low = 0x55555555#32 ∨ d = 2 ∧ low = 0x33333333#32 ∨ d = 4 ∧ low = 0x0F0F0F0F#32)
    (a b : BitVec 32) (t : Fin 32) :
    (((b >>> d) &&& low) ||| (((a >>> d) &&& low) <<< d)).getLsbD t.val
      = (if t.val &&& d != 0 then a.getLsbD t.val else b.getLsbD ((t.val ^^^ d) % 32))
    ∧ ((a &&& low) ||| ((b &&& low) <<< d)).getLsbD t.val
      = (if t.val &&& d != 0 then b.getLsbD ((t.val ^^^ d) % 32) else a.getLsbD t.val) := by
  rcases hd with ⟨rfl, rfl⟩ | ⟨rfl, rfl⟩ | ⟨rfl, rfl⟩ <;> fin_cases t <;>
    simp [BitVec.getLsbD_or, BitVec.getLsbD_and, BitVec.getLsbD_shiftLeft, BitVec.getLsbD_ushiftRight]

omit hr ht in
theorem has_facts : ∀ k : Fin 3, ∀ l : Fin 128, has (BitVec.ofNat 32 (2 ^ k.val)) l = (l.val &&& 2 ^ k.val != 0)
    ∧ (BitVec.ofNat 32 l.val ^^^ BitVec.ofNat 32 (2 ^ k.val)).toNat = (flip l (2 ^ k.val)).val := by decide +kernel

omit hr ht in
theorem swap_bit (k : Fin 3) (low : BitVec 32)
    (hd : 2 ^ k.val = 1 ∧ low = 0x55555555#32 ∨ 2 ^ k.val = 2 ∧ low = 0x33333333#32 ∨ 2 ^ k.val = 4 ∧ low = 0x0F0F0F0F#32)
    (w : IVec S32x128 32) (i : Fin 32) (l : Fin 128) (t : Fin 32) :
    (swap (BitVec.ofNat 32 (2 ^ k.val)) low w (ix i l)).getLsbD t.val
      = (w (ix i (source (2 ^ k.val) l t).1)).getLsbD (source (2 ^ k.val) l t).2.val := by
  obtain ⟨f1, f2⟩ := has_facts k l
  have ht := take_ix w (xori lane (bc (BitVec.ofNat 32 (2 ^ k.val)))) i l (flip l (2 ^ k.val)) (by
    show (lane (ix i l) ^^^ _).toNat = _; rw [lane_ix]; exact f2)
  obtain ⟨b1, b2⟩ := bits_has (2 ^ k.val) low hd (w (ix i l)) (w (ix i (flip l (2 ^ k.val)))) t
  have hs : ∀ x : BitVec 32, IntOp.shrui .vector x (BitVec.ofNat 32 (2 ^ k.val)) = x >>> 2 ^ k.val
      ∧ IntOp.shli .vector x (BitVec.ofNat 32 (2 ^ k.val)) = x <<< 2 ^ k.val := by
    intro x; fin_cases k <;> exact ⟨rfl, rfl⟩
  unfold swap
  rw [select_hi, f1]
  have e1 : ori (andi (shrui (take w (xori lane (bc (BitVec.ofNat 32 (2 ^ k.val))))) (bc (BitVec.ofNat 32 (2 ^ k.val)))) (bc low))
      (shli (andi (shrui w (bc (BitVec.ofNat 32 (2 ^ k.val)))) (bc low)) (bc (BitVec.ofNat 32 (2 ^ k.val)))) (ix i l)
      = ((w (ix i (flip l (2 ^ k.val))) >>> 2 ^ k.val) &&& low) ||| (((w (ix i l) >>> 2 ^ k.val) &&& low) <<< 2 ^ k.val) := by
    show (IntOp.shrui .vector (take w _ (ix i l)) (BitVec.ofNat 32 (2 ^ k.val)) &&& low)
      ||| IntOp.shli .vector (IntOp.shrui .vector (w (ix i l)) (BitVec.ofNat 32 (2 ^ k.val)) &&& low) (BitVec.ofNat 32 (2 ^ k.val)) = _
    rw [ht, (hs _).1, (hs _).1, (hs _).2]
  have e2 : ori (andi w (bc low)) (shli (andi (take w (xori lane (bc (BitVec.ofNat 32 (2 ^ k.val))))) (bc low)) (bc (BitVec.ofNat 32 (2 ^ k.val)))) (ix i l)
      = (w (ix i l) &&& low) ||| ((w (ix i (flip l (2 ^ k.val))) &&& low) <<< 2 ^ k.val) := by
    show (w (ix i l) &&& low)
      ||| IntOp.shli .vector (take w _ (ix i l) &&& low) (BitVec.ofNat 32 (2 ^ k.val)) = _
    rw [ht, (hs _).2]
  rw [e1, e2, apply_ite (fun v : BitVec 32 => v.getLsbD t.val), b1, b2]
  unfold source
  cases l.val &&& 2 ^ k.val != 0 <;> cases t.val &&& 2 ^ k.val != 0 <;> rfl

omit hr ht in
theorem source_facts : ∀ l : Fin 128, ∀ t : Fin 32,
    let p := source 4 l t
    let q := source 2 p.1 p.2
    let s := source 1 q.1 q.2
    128 * s.2.val + s.1.val = 128 * (8 * (t.val / 8) + l.val % 8) + 8 * (l.val / 8) + t.val % 8 := by decide +kernel

omit hr ht in
theorem arranged_facts : ∀ l : Fin 128,
    (((BitVec.ofNat 32 l.val &&& 15#32) <<< 3) ||| (BitVec.ofNat 32 l.val).sshiftRight 4).toNat = 8 * (l.val % 16) + l.val / 16 := by
  decide +kernel

theorem arranged_bit (i : Fin 32) (l : Fin 128) (t : Fin 32) :
    (arranged (words r (code (rms (sumSq r))) 32) (ix i l)).getLsbD t.val
      = keptR (A i) (1024 * (t.val / 8) + 8 * l.val + t.val % 8) := by
  unfold arranged
  rw [take_ix _ _ i l ⟨8 * (l.val % 16) + l.val / 16, by omega⟩ (by
    show (((lane (ix i l) &&& 15#32) <<< 3) ||| (lane (ix i l)).sshiftRight 4).toNat = _
    rw [lane_ix]; exact arranged_facts l)]
  refine (swap_bit 2 0x0F0F0F0F#32 (by simp) _ i _ t).trans ?_
  refine (swap_bit 1 0x33333333#32 (by simp) _ i _ _).trans ?_
  refine (swap_bit 0 0x55555555#32 (by simp) _ i _ _).trans ?_
  rw [words_bit hr ht 32 le_rfl]
  refine (congrArg₂ (· && ·) (decide_eq_true (Fin.isLt _)) (congrArg (keptR (A i)) (source_facts ⟨8 * (l.val % 16) + l.val / 16, by omega⟩ t))).trans ?_
  rw [Bool.true_and]
  congr 1
  dsimp only
  omega

/-- Bit `c` of the byte of lane `l` in the part `b` of the masks. -/
theorem byte_bit (b : Fin 4) (i : Fin 32) (l : Fin 128) (c : Fin 8) :
    (byte (words r (code (rms (sumSq r))) 32) (BitVec.ofNat 32 (8 * b.val)) (ix i l)).getLsbD c.val
      = keptR (A i) (8 * (128 * b.val + l.val) + c.val) := by
  have h := arranged_bit hr ht i l ⟨8 * b.val + c.val, by omega⟩
  show (BitVec.setWidth 8 (IntOp.shrui .vector (arranged (words r (code (rms (sumSq r))) 32) (ix i l)) (BitVec.ofNat 32 (8 * b.val)) &&& 255#32)).getLsbD c.val = _
  have hs : ∀ x : BitVec 32, IntOp.shrui .vector x (BitVec.ofNat 32 (8 * b.val)) = x >>> (8 * b.val) := by
    intro x; fin_cases b <;> rfl
  have hm : ∀ c : Fin 8, (255#32).getLsbD c.val = true := by decide
  rw [hs, BitVec.getLsbD_setWidth, BitVec.getLsbD_and, BitVec.getLsbD_ushiftRight, hm, h]
  simp only [Bool.and_true, c.isLt, decide_true, Bool.true_and]
  congr 1
  omega

end Cert.QuantXIdeal.Trip

end
-- ==== Proof.QuantXScratch.lean ====
/-
  What the quantiser's body leaves in its scratch: the block of rows times the block Hadamard matrix, normalised, entry by entry.
-/
module

public import proofs.«01_k».proof.Proof.Gen.QuantXIdeal.Value
public import proofs.«01_k».proof.Proof.QuantXMath
public import Idealize.ShloMosaic.Lib.Pipeline.Value
public import Idealize.ShloMosaic.Lib.ValueIdx
public import Idealize.ShloMosaic.Lib.WholeRead
public import Idealize.ShloMosaic.PureOps.Ideal.Laws

@[expose] public section

set_option maxRecDepth 16384

noncomputable section

namespace Cert.QuantXIdeal.Scratch

open Cert.QuantXIdeal Cert.QuantXIdeal.Gen Cert.Quantiser Idealize.ShloMosaic Idealize.ShloMosaic.TcCoe Idealize.SL.Sem

/-- The normalised product of one block of columns and the Hadamard block. -/
def prod {F : FTy → Type} [FloatOps F] (x h : FVec F S256x256 .bf16) : FVec F S256x256 .f32 :=
  shapeCast S256x256 (mulf (matmul dot_S256x256_S256x256_S256x256_1_0_0_1_n_n none (shapeCast S256x256 x shapeCasts_S256x256_S256x256)
    (shapeCast S256x256 h shapeCasts_S256x256_S256x256) (constant S256x256 .f32 0x00000000#32))
    (broadcast S256x256 (Scalar.ofBits .f32 0x3E3504F3#32))) shapeCasts_S256x256_S256x256

section
variable {F : FTy → Type} [FloatOps F]
variable (c : Dev nD) (arg1 : Memref sig .tc .vmem S256x4096 .bf16) (harg1 : arg1.IsWhole) (arg2 : Memref sig .tc .vmem S256x256 .bf16) (harg2 : arg2.IsWhole)
  (x0 : Vec F S256x4096 .bf16) (x1 : Vec F S256x256 .bf16)

/-- The piece of the scratch with columns from `o`. -/
def piece (o : ℕ) (h : ∀ a, (![0, o] : Fin 2 → Nat) a + S256x256.size a ≤ S256x4096.size a) : View.Piece (Elt F) S256x4096 .f32 :=
  ⟨Rect.unit (s := S256x4096) ![0, o] S256x256.size h,
    prod (View.readAt (Elt F) arg1.view (Rect.unit (s := S256x4096) ![0, o] S256x256.size h).toLoadRect (harg1.unread x0))
      (View.readAt (Elt F) arg2.view (Rect.unit (s := S256x256) ![0, 0] S256x256.size inb_S256x256_S256x256_0_0).toLoadRect (harg2.unread x1))⟩

theorem pieces : kernelRun0_A.sl.HS0_16 (F := F) c arg1 harg1 arg2 harg2 x0 x1 =
    [piece arg1 harg1 arg2 harg2 x0 x1 3840 inb_S256x4096_S256x256_0_3840,
     piece arg1 harg1 arg2 harg2 x0 x1 3584 inb_S256x4096_S256x256_0_3584,
     piece arg1 harg1 arg2 harg2 x0 x1 3328 inb_S256x4096_S256x256_0_3328,
     piece arg1 harg1 arg2 harg2 x0 x1 3072 inb_S256x4096_S256x256_0_3072,
     piece arg1 harg1 arg2 harg2 x0 x1 2816 inb_S256x4096_S256x256_0_2816,
     piece arg1 harg1 arg2 harg2 x0 x1 2560 inb_S256x4096_S256x256_0_2560,
     piece arg1 harg1 arg2 harg2 x0 x1 2304 inb_S256x4096_S256x256_0_2304,
     piece arg1 harg1 arg2 harg2 x0 x1 2048 inb_S256x4096_S256x256_0_2048,
     piece arg1 harg1 arg2 harg2 x0 x1 1792 inb_S256x4096_S256x256_0_1792,
     piece arg1 harg1 arg2 harg2 x0 x1 1536 inb_S256x4096_S256x256_0_1536,
     piece arg1 harg1 arg2 harg2 x0 x1 1280 inb_S256x4096_S256x256_0_1280,
     piece arg1 harg1 arg2 harg2 x0 x1 1024 inb_S256x4096_S256x256_0_1024,
     piece arg1 harg1 arg2 harg2 x0 x1 768 inb_S256x4096_S256x256_0_768,
     piece arg1 harg1 arg2 harg2 x0 x1 512 inb_S256x4096_S256x256_0_512,
     piece arg1 harg1 arg2 harg2 x0 x1 256 inb_S256x4096_S256x256_0_256,
     piece arg1 harg1 arg2 harg2 x0 x1 0 inb_S256x4096_S256x256_0_0] := by
  unfold kernelRun0_A.sl.HS0_16
  exact rfl
end

/-! ## The product at an entry -/

abbrev D := dot_S256x256_S256x256_S256x256_1_0_0_1_n_n

theorem lhs0 (i : S256x256.Idx) (q : D.contr.Idx) : (D.lhsIdx i q 0).val = (i 0).val := by
  unfold DotDims.lhsIdx
  rw [dif_neg (show ¬(0 : Fin S256x256.rank) ∈ D.lhsBatch by decide), dif_pos (show (0 : Fin S256x256.rank) ∈ D.lhsNonContracting by decide)]
  rfl
theorem lhs1 (i : S256x256.Idx) (q : D.contr.Idx) : (D.lhsIdx i q 1).val = (q ⟨0, by decide⟩).val :=
  D.lhsIdx_val_of_single rfl i q
theorem rhs0 (i : S256x256.Idx) (q : D.contr.Idx) : (D.rhsIdx i q 0).val = (q ⟨0, by decide⟩).val :=
  D.rhsIdx_val_of_single rfl i q
theorem rhs1 (i : S256x256.Idx) (q : D.contr.Idx) : (D.rhsIdx i q 1).val = (i 1).val := by
  unfold DotDims.rhsIdx
  rw [dif_neg (show ¬(1 : Fin S256x256.rank) ∈ D.rhsBatch by decide), dif_pos (show (1 : Fin S256x256.rank) ∈ D.rhsNonContracting by decide)]
  rfl

/-- An entry of a 256 × 256 block. -/
abbrev sq (i j : Fin 256) : S256x256.Idx := fun a => match a with
  | ⟨0, _⟩ => ⟨i.val, i.isLt⟩
  | ⟨1, _⟩ => ⟨j.val, j.isLt⟩
/-- An entry of a block of rows. -/
abbrev wide (i : Fin 256) (j : Fin 4096) : S256x4096.Idx := fun a => match a with
  | ⟨0, _⟩ => ⟨i.val, i.isLt⟩
  | ⟨1, _⟩ => ⟨j.val, j.isLt⟩

theorem prod_apply (x h : FVec Ideal S256x256 .bf16) (i : S256x256.Idx) :
    prod (F := Ideal) x h i = ((∑ k : Fin 256, x (sq ⟨(i 0).val, (i 0).isLt⟩ k) * h (sq k ⟨(i 1).val, (i 1).isLt⟩)) * (norm : ℝ) : EReal) := by
  unfold prod
  rw [shapeCast_self, shapeCast_self, shapeCast_self]
  show matmul (F := Ideal) (φ₁ := .bf16) (φ₂ := .bf16) D none x h (constant S256x256 .f32 0x00000000#32) i * Ideal.ofBits .f32 0x3E3504F3#32 = _
  rw [bits_norm]
  congr 1
  simp only [matmul]
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  have el : D.lhsIdx i ((ValueIdx.contrEquiv1 D 256 rfl rfl).symm k) = sq ⟨(i 0).val, (i 0).isLt⟩ k := funext fun a => Fin.ext (by
    match a with
    | ⟨0, _⟩ => exact lhs0 _ _
    | ⟨1, _⟩ => exact (lhs1 _ _).trans hk)
  have er : D.rhsIdx i ((ValueIdx.contrEquiv1 D 256 rfl rfl).symm k) = sq k ⟨(i 1).val, (i 1).isLt⟩ := funext fun a => Fin.ext (by
    match a with
    | ⟨0, _⟩ => exact (rhs0 _ _).trans hk
    | ⟨1, _⟩ => exact rhs1 _ _)
  rw [el, er]

variable (c : Dev nD) (arg1 : Memref sig .tc .vmem S256x4096 .bf16) (harg1 : arg1.IsWhole) (arg2 : Memref sig .tc .vmem S256x256 .bf16) (harg2 : arg2.IsWhole)
  (x0 : Vec Ideal S256x4096 .bf16) (x1 : Vec Ideal S256x256 .bf16)

/-- The scratch at an entry. -/
def G (y : S256x4096.Idx) : EReal :=
  (∑ k : Fin 256, x0 (wide ⟨(y 0).val, (y 0).isLt⟩ ⟨(256 * ((y 1).val / 256) + k.val) % 4096, Nat.mod_lt _ (by decide)⟩)
    * x1 (sq k ⟨(y 1).val % 256, Nat.mod_lt _ (by decide)⟩)) * ((norm : ℝ) : EReal)

theorem piece_apply (n : Fin 16) (o : ℕ) (ho : o = 256 * n.val) (h : ∀ a, (![0, o] : Fin 2 → Nat) a + S256x256.size a ≤ S256x4096.size a) (i : S256x256.Idx) :
    (piece arg1 harg1 arg2 harg2 x0 x1 o h).2 i = G x0 x1 ((piece arg1 harg1 arg2 harg2 x0 x1 o h).1.emb i) := by
  subst ho
  have h1 : (i 1).val < 256 := (i 1).isLt
  show prod (F := Ideal) _ _ i = G x0 x1 ((Rect.unit (s := S256x4096) ![0, 256 * n.val] S256x256.size h).emb i)
  rw [prod_apply]
  unfold G
  congr 1
  have e0 : (((Rect.unit (s := S256x4096) ![0, 256 * n.val] S256x256.size h).emb i : S256x4096.Idx) 0).val = (i 0).val := by
    show 0 + 1 * (i 0).val = _; omega
  have e1 : (((Rect.unit (s := S256x4096) ![0, 256 * n.val] S256x256.size h).emb i : S256x4096.Idx) 1).val = 256 * n.val + (i 1).val := by
    show 256 * n.val + 1 * (i 1).val = _; omega
  refine Finset.sum_congr rfl fun k _ => congrArg₂ (· * ·) ?_ ?_
  · refine (Memref.IsWhole.readAt_unread harg1 x0 _ _).trans (congrArg x0 (funext fun a => Fin.ext ?_))
    match a with
    | ⟨0, _⟩ =>
      refine (show 0 + 1 * (i 0).val = (i 0).val by omega).trans ?_
      exact e0.symm
    | ⟨1, _⟩ =>
      show 256 * n.val + 1 * k.val = (256 * (_ / 256) + k.val) % 4096
      rw [e1]; omega
  · refine (Memref.IsWhole.readAt_unread harg2 x1 _ _).trans (congrArg x1 (funext fun a => Fin.ext ?_))
    match a with
    | ⟨0, _⟩ => show 0 + 1 * k.val = k.val; omega
    | ⟨1, _⟩ =>
      show 0 + 1 * (i 1).val = _ % 256
      rw [e1]; omega

/-- The scratch's contents, written piece by piece. -/
theorem canon_eq (y : S256x4096.Idx) : View.canon (kernelRun0_A.sl.HS0_16 (F := Ideal) c arg1 harg1 arg2 harg2 x0 x1) y = G x0 x1 y := by
  rw [pieces]
  refine View.canon_apply_of_pieces (Val := Elt Ideal) (e := .f32) (G x0 x1) _ ?_ y ?_
  swap
  · exact View.cover_of_tiledL (s := S256x4096) _ S256x256.size (by sl_kernel_rfl) y
  intro p hp
  simp only [List.mem_cons, List.not_mem_nil, or_false] at hp
  rcases hp with rfl | rfl | rfl | rfl | rfl | rfl | rfl | rfl | rfl | rfl | rfl | rfl | rfl | rfl | rfl | rfl
  · exact piece_apply arg1 harg1 arg2 harg2 x0 x1 15 _ rfl _
  · exact piece_apply arg1 harg1 arg2 harg2 x0 x1 14 _ rfl _
  · exact piece_apply arg1 harg1 arg2 harg2 x0 x1 13 _ rfl _
  · exact piece_apply arg1 harg1 arg2 harg2 x0 x1 12 _ rfl _
  · exact piece_apply arg1 harg1 arg2 harg2 x0 x1 11 _ rfl _
  · exact piece_apply arg1 harg1 arg2 harg2 x0 x1 10 _ rfl _
  · exact piece_apply arg1 harg1 arg2 harg2 x0 x1 9 _ rfl _
  · exact piece_apply arg1 harg1 arg2 harg2 x0 x1 8 _ rfl _
  · exact piece_apply arg1 harg1 arg2 harg2 x0 x1 7 _ rfl _
  · exact piece_apply arg1 harg1 arg2 harg2 x0 x1 6 _ rfl _
  · exact piece_apply arg1 harg1 arg2 harg2 x0 x1 5 _ rfl _
  · exact piece_apply arg1 harg1 arg2 harg2 x0 x1 4 _ rfl _
  · exact piece_apply arg1 harg1 arg2 harg2 x0 x1 3 _ rfl _
  · exact piece_apply arg1 harg1 arg2 harg2 x0 x1 2 _ rfl _
  · exact piece_apply arg1 harg1 arg2 harg2 x0 x1 1 _ rfl _
  · exact piece_apply arg1 harg1 arg2 harg2 x0 x1 0 _ rfl _

end Cert.QuantXIdeal.Scratch

end
-- ==== Proof.QuantXPoint.lean ====
/-
  What one grid point of the quantiser leaves in its four output blocks, entry by entry, from the rows its scratch holds.
-/
module

public import proofs.«01_k».proof.Proof.QuantXRead
public import proofs.«01_k».proof.Proof.QuantXScratch
public import Idealize.ShloMosaic.Lib.Pipeline.Value

@[expose] public section

set_option maxRecDepth 16384

noncomputable section

namespace Cert.Quantiser

/-- Eight bits as a byte, the first the lowest. -/
def packed (p : ℕ → Bool) : BitVec 8 :=
  BitVec.ofNat 8 (∑ c ∈ Finset.range 8, if p c then 2 ^ c else 0)

theorem packed_bits : ∀ b0 b1 b2 b3 b4 b5 b6 b7 : Bool, ∀ c : Fin 8,
    (BitVec.ofNat 8 (((((((((if b0 then 1 else 0) + if b1 then 2 else 0) + if b2 then 4 else 0) + if b3 then 8 else 0) + if b4 then 16 else 0)
      + if b5 then 32 else 0) + if b6 then 64 else 0) + if b7 then 128 else 0))).getLsbD c.val
    = (match c with | 0 => b0 | 1 => b1 | 2 => b2 | 3 => b3 | 4 => b4 | 5 => b5 | 6 => b6 | 7 => b7 : Bool) := by decide +kernel

theorem packed_bit (p : ℕ → Bool) (c : Fin 8) : (packed p).getLsbD c.val = p c.val := by
  have h := packed_bits (p 0) (p 1) (p 2) (p 3) (p 4) (p 5) (p 6) (p 7) c
  unfold packed
  simp only [Finset.sum_range_succ, Finset.sum_range_zero, zero_add]
  exact h.trans (by fin_cases c <;> rfl)

theorem eq_packed (w : BitVec 8) (p : ℕ → Bool) (h : ∀ c : Fin 8, w.getLsbD c.val = p c.val) : w = packed p :=
  BitVec.eq_of_getLsbD_eq fun i hi => (h ⟨i, hi⟩).trans (packed_bit p ⟨i, hi⟩).symm

/-- The mask of eight columns. -/
def maskR (A : ℕ → ℝ) (n : ℕ) : BitVec 8 := packed fun c => keptR A (8 * n + c)

end Cert.Quantiser

namespace Cert.QuantXIdeal.Point

open Cert.QuantXIdeal Cert.QuantXIdeal.Gen Cert.QuantXIdeal.Trip Cert.Quantiser Idealize.ShloMosaic Idealize.ShloMosaic.TcCoe Idealize.SL.Sem

/-- The codes of a block of rows. -/
def codes (R : ℕ → ℕ → ℝ) (y : S256x4096.Idx) : Elt Ideal .fp8e4m3 := ((quantR (R (y 0).val) (y 1).val : ℝ) : EReal)
/-- The dequantised block of rows. -/
def deq (R : ℕ → ℕ → ℝ) (y : S256x4096.Idx) : Elt Ideal .bf16 := ((deqR (R (y 0).val) (y 1).val : ℝ) : EReal)
/-- The scale codes of a block of rows. -/
def scales (R : ℕ → ℕ → ℝ) (y : S256x128.Idx) : Elt Ideal .i8 := BitVec.ofNat 8 (codeR (R (y 0).val) (y 1).val)
/-- The masks of a block of rows. -/
def masks (R : ℕ → ℕ → ℝ) (y : S256x512.Idx) : Elt Ideal .i8 := maskR (R (y 0).val) (y 1).val

/-- The scratch's contents are the rows `R`, none of whose blocks leaves the exponent range. -/
structure Rows (arg7 : Memref sig .tc .vmem S256x4096 .f32) (X : BufTy.Contents (Elt Ideal) arg7.view.ty) (R : ℕ → ℕ → ℝ) : Prop where
  read : ∀ (B : LoadRect S256x4096) j, View.readAt (Elt Ideal) arg7.view B X j = ((R (B.idx j 0).val (B.idx j 1).val : ℝ) : EReal)
  tame : ∀ i < 256, ∀ b < 128, TameBlock (R i) b

variable {arg7 : Memref sig .tc .vmem S256x4096 .f32} {X : BufTy.Contents (Elt Ideal) arg7.view.ty} {R : ℕ → ℕ → ℝ}
variable (hR : Rows arg7 X R) (k : Fin k0_t1_loop.trips)
include hR

omit hR in
theorem trips_lt : k.val < 8 := by
  have h : k0_t1_loop.trips = 8 := by decide +kernel
  have := k.isLt
  omega

theorem slab : Slab (slice arg7 X k) (fun i => R (32 * k.val + i.val)) := by
  intro j hj i l
  interval_cases j
  · refine (hR.read _ _).trans ?_
    have e0 : ((Rect.unit (s := S256x4096) (k0_off1 k) S32x128.size (k0_off1_inb k)).toLoadRect.idx (ix i l) 0).val = 32 * k.val + i.val := by
      show k0_off1 k 0 + 1 * i.val = _
      rw [k0_off1_eq, one_mul]; rfl
    have e1 : ((Rect.unit (s := S256x4096) (k0_off1 k) S32x128.size (k0_off1_inb k)).toLoadRect.idx (ix i l) 1).val = 128 * 0 + l.val := by
      show k0_off1 k 1 + 1 * l.val = _
      rw [k0_off1_eq, one_mul]; rfl
    rw [e0, e1]
  · refine (hR.read _ _).trans ?_
    have e0 : ((Rect.unit (s := S256x4096) (k0_off2 k) S32x128.size (k0_off2_inb k)).toLoadRect.idx (ix i l) 0).val = 32 * k.val + i.val := by
      show k0_off2 k 0 + 1 * i.val = _
      rw [k0_off2_eq, one_mul]; rfl
    have e1 : ((Rect.unit (s := S256x4096) (k0_off2 k) S32x128.size (k0_off2_inb k)).toLoadRect.idx (ix i l) 1).val = 128 * 1 + l.val := by
      show k0_off2 k 1 + 1 * l.val = _
      rw [k0_off2_eq, one_mul]; rfl
    rw [e0, e1]
  · refine (hR.read _ _).trans ?_
    have e0 : ((Rect.unit (s := S256x4096) (k0_off3 k) S32x128.size (k0_off3_inb k)).toLoadRect.idx (ix i l) 0).val = 32 * k.val + i.val := by
      show k0_off3 k 0 + 1 * i.val = _
      rw [k0_off3_eq, one_mul]; rfl
    have e1 : ((Rect.unit (s := S256x4096) (k0_off3 k) S32x128.size (k0_off3_inb k)).toLoadRect.idx (ix i l) 1).val = 128 * 2 + l.val := by
      show k0_off3 k 1 + 1 * l.val = _
      rw [k0_off3_eq, one_mul]; rfl
    rw [e0, e1]
  · refine (hR.read _ _).trans ?_
    have e0 : ((Rect.unit (s := S256x4096) (k0_off4 k) S32x128.size (k0_off4_inb k)).toLoadRect.idx (ix i l) 0).val = 32 * k.val + i.val := by
      show k0_off4 k 0 + 1 * i.val = _
      rw [k0_off4_eq, one_mul]; rfl
    have e1 : ((Rect.unit (s := S256x4096) (k0_off4 k) S32x128.size (k0_off4_inb k)).toLoadRect.idx (ix i l) 1).val = 128 * 3 + l.val := by
      show k0_off4 k 1 + 1 * l.val = _
      rw [k0_off4_eq, one_mul]; rfl
    rw [e0, e1]
  · refine (hR.read _ _).trans ?_
    have e0 : ((Rect.unit (s := S256x4096) (k0_off5 k) S32x128.size (k0_off5_inb k)).toLoadRect.idx (ix i l) 0).val = 32 * k.val + i.val := by
      show k0_off5 k 0 + 1 * i.val = _
      rw [k0_off5_eq, one_mul]; rfl
    have e1 : ((Rect.unit (s := S256x4096) (k0_off5 k) S32x128.size (k0_off5_inb k)).toLoadRect.idx (ix i l) 1).val = 128 * 4 + l.val := by
      show k0_off5 k 1 + 1 * l.val = _
      rw [k0_off5_eq, one_mul]; rfl
    rw [e0, e1]
  · refine (hR.read _ _).trans ?_
    have e0 : ((Rect.unit (s := S256x4096) (k0_off6 k) S32x128.size (k0_off6_inb k)).toLoadRect.idx (ix i l) 0).val = 32 * k.val + i.val := by
      show k0_off6 k 0 + 1 * i.val = _
      rw [k0_off6_eq, one_mul]; rfl
    have e1 : ((Rect.unit (s := S256x4096) (k0_off6 k) S32x128.size (k0_off6_inb k)).toLoadRect.idx (ix i l) 1).val = 128 * 5 + l.val := by
      show k0_off6 k 1 + 1 * l.val = _
      rw [k0_off6_eq, one_mul]; rfl
    rw [e0, e1]
  · refine (hR.read _ _).trans ?_
    have e0 : ((Rect.unit (s := S256x4096) (k0_off7 k) S32x128.size (k0_off7_inb k)).toLoadRect.idx (ix i l) 0).val = 32 * k.val + i.val := by
      show k0_off7 k 0 + 1 * i.val = _
      rw [k0_off7_eq, one_mul]; rfl
    have e1 : ((Rect.unit (s := S256x4096) (k0_off7 k) S32x128.size (k0_off7_inb k)).toLoadRect.idx (ix i l) 1).val = 128 * 6 + l.val := by
      show k0_off7 k 1 + 1 * l.val = _
      rw [k0_off7_eq, one_mul]; rfl
    rw [e0, e1]
  · refine (hR.read _ _).trans ?_
    have e0 : ((Rect.unit (s := S256x4096) (k0_off8 k) S32x128.size (k0_off8_inb k)).toLoadRect.idx (ix i l) 0).val = 32 * k.val + i.val := by
      show k0_off8 k 0 + 1 * i.val = _
      rw [k0_off8_eq, one_mul]; rfl
    have e1 : ((Rect.unit (s := S256x4096) (k0_off8 k) S32x128.size (k0_off8_inb k)).toLoadRect.idx (ix i l) 1).val = 128 * 7 + l.val := by
      show k0_off8 k 1 + 1 * l.val = _
      rw [k0_off8_eq, one_mul]; rfl
    rw [e0, e1]
  · refine (hR.read _ _).trans ?_
    have e0 : ((Rect.unit (s := S256x4096) (k0_off9 k) S32x128.size (k0_off9_inb k)).toLoadRect.idx (ix i l) 0).val = 32 * k.val + i.val := by
      show k0_off9 k 0 + 1 * i.val = _
      rw [k0_off9_eq, one_mul]; rfl
    have e1 : ((Rect.unit (s := S256x4096) (k0_off9 k) S32x128.size (k0_off9_inb k)).toLoadRect.idx (ix i l) 1).val = 128 * 8 + l.val := by
      show k0_off9 k 1 + 1 * l.val = _
      rw [k0_off9_eq, one_mul]; rfl
    rw [e0, e1]
  · refine (hR.read _ _).trans ?_
    have e0 : ((Rect.unit (s := S256x4096) (k0_off10 k) S32x128.size (k0_off10_inb k)).toLoadRect.idx (ix i l) 0).val = 32 * k.val + i.val := by
      show k0_off10 k 0 + 1 * i.val = _
      rw [k0_off10_eq, one_mul]; rfl
    have e1 : ((Rect.unit (s := S256x4096) (k0_off10 k) S32x128.size (k0_off10_inb k)).toLoadRect.idx (ix i l) 1).val = 128 * 9 + l.val := by
      show k0_off10 k 1 + 1 * l.val = _
      rw [k0_off10_eq, one_mul]; rfl
    rw [e0, e1]
  · refine (hR.read _ _).trans ?_
    have e0 : ((Rect.unit (s := S256x4096) (k0_off11 k) S32x128.size (k0_off11_inb k)).toLoadRect.idx (ix i l) 0).val = 32 * k.val + i.val := by
      show k0_off11 k 0 + 1 * i.val = _
      rw [k0_off11_eq, one_mul]; rfl
    have e1 : ((Rect.unit (s := S256x4096) (k0_off11 k) S32x128.size (k0_off11_inb k)).toLoadRect.idx (ix i l) 1).val = 128 * 10 + l.val := by
      show k0_off11 k 1 + 1 * l.val = _
      rw [k0_off11_eq, one_mul]; rfl
    rw [e0, e1]
  · refine (hR.read _ _).trans ?_
    have e0 : ((Rect.unit (s := S256x4096) (k0_off12 k) S32x128.size (k0_off12_inb k)).toLoadRect.idx (ix i l) 0).val = 32 * k.val + i.val := by
      show k0_off12 k 0 + 1 * i.val = _
      rw [k0_off12_eq, one_mul]; rfl
    have e1 : ((Rect.unit (s := S256x4096) (k0_off12 k) S32x128.size (k0_off12_inb k)).toLoadRect.idx (ix i l) 1).val = 128 * 11 + l.val := by
      show k0_off12 k 1 + 1 * l.val = _
      rw [k0_off12_eq, one_mul]; rfl
    rw [e0, e1]
  · refine (hR.read _ _).trans ?_
    have e0 : ((Rect.unit (s := S256x4096) (k0_off13 k) S32x128.size (k0_off13_inb k)).toLoadRect.idx (ix i l) 0).val = 32 * k.val + i.val := by
      show k0_off13 k 0 + 1 * i.val = _
      rw [k0_off13_eq, one_mul]; rfl
    have e1 : ((Rect.unit (s := S256x4096) (k0_off13 k) S32x128.size (k0_off13_inb k)).toLoadRect.idx (ix i l) 1).val = 128 * 12 + l.val := by
      show k0_off13 k 1 + 1 * l.val = _
      rw [k0_off13_eq, one_mul]; rfl
    rw [e0, e1]
  · refine (hR.read _ _).trans ?_
    have e0 : ((Rect.unit (s := S256x4096) (k0_off14 k) S32x128.size (k0_off14_inb k)).toLoadRect.idx (ix i l) 0).val = 32 * k.val + i.val := by
      show k0_off14 k 0 + 1 * i.val = _
      rw [k0_off14_eq, one_mul]; rfl
    have e1 : ((Rect.unit (s := S256x4096) (k0_off14 k) S32x128.size (k0_off14_inb k)).toLoadRect.idx (ix i l) 1).val = 128 * 13 + l.val := by
      show k0_off14 k 1 + 1 * l.val = _
      rw [k0_off14_eq, one_mul]; rfl
    rw [e0, e1]
  · refine (hR.read _ _).trans ?_
    have e0 : ((Rect.unit (s := S256x4096) (k0_off15 k) S32x128.size (k0_off15_inb k)).toLoadRect.idx (ix i l) 0).val = 32 * k.val + i.val := by
      show k0_off15 k 0 + 1 * i.val = _
      rw [k0_off15_eq, one_mul]; rfl
    have e1 : ((Rect.unit (s := S256x4096) (k0_off15 k) S32x128.size (k0_off15_inb k)).toLoadRect.idx (ix i l) 1).val = 128 * 14 + l.val := by
      show k0_off15 k 1 + 1 * l.val = _
      rw [k0_off15_eq, one_mul]; rfl
    rw [e0, e1]
  · refine (hR.read _ _).trans ?_
    have e0 : ((Rect.unit (s := S256x4096) (k0_off16 k) S32x128.size (k0_off16_inb k)).toLoadRect.idx (ix i l) 0).val = 32 * k.val + i.val := by
      show k0_off16 k 0 + 1 * i.val = _
      rw [k0_off16_eq, one_mul]; rfl
    have e1 : ((Rect.unit (s := S256x4096) (k0_off16 k) S32x128.size (k0_off16_inb k)).toLoadRect.idx (ix i l) 1).val = 128 * 15 + l.val := by
      show k0_off16 k 1 + 1 * l.val = _
      rw [k0_off16_eq, one_mul]; rfl
    rw [e0, e1]
  · refine (hR.read _ _).trans ?_
    have e0 : ((Rect.unit (s := S256x4096) (k0_off17 k) S32x128.size (k0_off17_inb k)).toLoadRect.idx (ix i l) 0).val = 32 * k.val + i.val := by
      show k0_off17 k 0 + 1 * i.val = _
      rw [k0_off17_eq, one_mul]; rfl
    have e1 : ((Rect.unit (s := S256x4096) (k0_off17 k) S32x128.size (k0_off17_inb k)).toLoadRect.idx (ix i l) 1).val = 128 * 16 + l.val := by
      show k0_off17 k 1 + 1 * l.val = _
      rw [k0_off17_eq, one_mul]; rfl
    rw [e0, e1]
  · refine (hR.read _ _).trans ?_
    have e0 : ((Rect.unit (s := S256x4096) (k0_off18 k) S32x128.size (k0_off18_inb k)).toLoadRect.idx (ix i l) 0).val = 32 * k.val + i.val := by
      show k0_off18 k 0 + 1 * i.val = _
      rw [k0_off18_eq, one_mul]; rfl
    have e1 : ((Rect.unit (s := S256x4096) (k0_off18 k) S32x128.size (k0_off18_inb k)).toLoadRect.idx (ix i l) 1).val = 128 * 17 + l.val := by
      show k0_off18 k 1 + 1 * l.val = _
      rw [k0_off18_eq, one_mul]; rfl
    rw [e0, e1]
  · refine (hR.read _ _).trans ?_
    have e0 : ((Rect.unit (s := S256x4096) (k0_off19 k) S32x128.size (k0_off19_inb k)).toLoadRect.idx (ix i l) 0).val = 32 * k.val + i.val := by
      show k0_off19 k 0 + 1 * i.val = _
      rw [k0_off19_eq, one_mul]; rfl
    have e1 : ((Rect.unit (s := S256x4096) (k0_off19 k) S32x128.size (k0_off19_inb k)).toLoadRect.idx (ix i l) 1).val = 128 * 18 + l.val := by
      show k0_off19 k 1 + 1 * l.val = _
      rw [k0_off19_eq, one_mul]; rfl
    rw [e0, e1]
  · refine (hR.read _ _).trans ?_
    have e0 : ((Rect.unit (s := S256x4096) (k0_off20 k) S32x128.size (k0_off20_inb k)).toLoadRect.idx (ix i l) 0).val = 32 * k.val + i.val := by
      show k0_off20 k 0 + 1 * i.val = _
      rw [k0_off20_eq, one_mul]; rfl
    have e1 : ((Rect.unit (s := S256x4096) (k0_off20 k) S32x128.size (k0_off20_inb k)).toLoadRect.idx (ix i l) 1).val = 128 * 19 + l.val := by
      show k0_off20 k 1 + 1 * l.val = _
      rw [k0_off20_eq, one_mul]; rfl
    rw [e0, e1]
  · refine (hR.read _ _).trans ?_
    have e0 : ((Rect.unit (s := S256x4096) (k0_off21 k) S32x128.size (k0_off21_inb k)).toLoadRect.idx (ix i l) 0).val = 32 * k.val + i.val := by
      show k0_off21 k 0 + 1 * i.val = _
      rw [k0_off21_eq, one_mul]; rfl
    have e1 : ((Rect.unit (s := S256x4096) (k0_off21 k) S32x128.size (k0_off21_inb k)).toLoadRect.idx (ix i l) 1).val = 128 * 20 + l.val := by
      show k0_off21 k 1 + 1 * l.val = _
      rw [k0_off21_eq, one_mul]; rfl
    rw [e0, e1]
  · refine (hR.read _ _).trans ?_
    have e0 : ((Rect.unit (s := S256x4096) (k0_off22 k) S32x128.size (k0_off22_inb k)).toLoadRect.idx (ix i l) 0).val = 32 * k.val + i.val := by
      show k0_off22 k 0 + 1 * i.val = _
      rw [k0_off22_eq, one_mul]; rfl
    have e1 : ((Rect.unit (s := S256x4096) (k0_off22 k) S32x128.size (k0_off22_inb k)).toLoadRect.idx (ix i l) 1).val = 128 * 21 + l.val := by
      show k0_off22 k 1 + 1 * l.val = _
      rw [k0_off22_eq, one_mul]; rfl
    rw [e0, e1]
  · refine (hR.read _ _).trans ?_
    have e0 : ((Rect.unit (s := S256x4096) (k0_off23 k) S32x128.size (k0_off23_inb k)).toLoadRect.idx (ix i l) 0).val = 32 * k.val + i.val := by
      show k0_off23 k 0 + 1 * i.val = _
      rw [k0_off23_eq, one_mul]; rfl
    have e1 : ((Rect.unit (s := S256x4096) (k0_off23 k) S32x128.size (k0_off23_inb k)).toLoadRect.idx (ix i l) 1).val = 128 * 22 + l.val := by
      show k0_off23 k 1 + 1 * l.val = _
      rw [k0_off23_eq, one_mul]; rfl
    rw [e0, e1]
  · refine (hR.read _ _).trans ?_
    have e0 : ((Rect.unit (s := S256x4096) (k0_off24 k) S32x128.size (k0_off24_inb k)).toLoadRect.idx (ix i l) 0).val = 32 * k.val + i.val := by
      show k0_off24 k 0 + 1 * i.val = _
      rw [k0_off24_eq, one_mul]; rfl
    have e1 : ((Rect.unit (s := S256x4096) (k0_off24 k) S32x128.size (k0_off24_inb k)).toLoadRect.idx (ix i l) 1).val = 128 * 23 + l.val := by
      show k0_off24 k 1 + 1 * l.val = _
      rw [k0_off24_eq, one_mul]; rfl
    rw [e0, e1]
  · refine (hR.read _ _).trans ?_
    have e0 : ((Rect.unit (s := S256x4096) (k0_off25 k) S32x128.size (k0_off25_inb k)).toLoadRect.idx (ix i l) 0).val = 32 * k.val + i.val := by
      show k0_off25 k 0 + 1 * i.val = _
      rw [k0_off25_eq, one_mul]; rfl
    have e1 : ((Rect.unit (s := S256x4096) (k0_off25 k) S32x128.size (k0_off25_inb k)).toLoadRect.idx (ix i l) 1).val = 128 * 24 + l.val := by
      show k0_off25 k 1 + 1 * l.val = _
      rw [k0_off25_eq, one_mul]; rfl
    rw [e0, e1]
  · refine (hR.read _ _).trans ?_
    have e0 : ((Rect.unit (s := S256x4096) (k0_off26 k) S32x128.size (k0_off26_inb k)).toLoadRect.idx (ix i l) 0).val = 32 * k.val + i.val := by
      show k0_off26 k 0 + 1 * i.val = _
      rw [k0_off26_eq, one_mul]; rfl
    have e1 : ((Rect.unit (s := S256x4096) (k0_off26 k) S32x128.size (k0_off26_inb k)).toLoadRect.idx (ix i l) 1).val = 128 * 25 + l.val := by
      show k0_off26 k 1 + 1 * l.val = _
      rw [k0_off26_eq, one_mul]; rfl
    rw [e0, e1]
  · refine (hR.read _ _).trans ?_
    have e0 : ((Rect.unit (s := S256x4096) (k0_off27 k) S32x128.size (k0_off27_inb k)).toLoadRect.idx (ix i l) 0).val = 32 * k.val + i.val := by
      show k0_off27 k 0 + 1 * i.val = _
      rw [k0_off27_eq, one_mul]; rfl
    have e1 : ((Rect.unit (s := S256x4096) (k0_off27 k) S32x128.size (k0_off27_inb k)).toLoadRect.idx (ix i l) 1).val = 128 * 26 + l.val := by
      show k0_off27 k 1 + 1 * l.val = _
      rw [k0_off27_eq, one_mul]; rfl
    rw [e0, e1]
  · refine (hR.read _ _).trans ?_
    have e0 : ((Rect.unit (s := S256x4096) (k0_off28 k) S32x128.size (k0_off28_inb k)).toLoadRect.idx (ix i l) 0).val = 32 * k.val + i.val := by
      show k0_off28 k 0 + 1 * i.val = _
      rw [k0_off28_eq, one_mul]; rfl
    have e1 : ((Rect.unit (s := S256x4096) (k0_off28 k) S32x128.size (k0_off28_inb k)).toLoadRect.idx (ix i l) 1).val = 128 * 27 + l.val := by
      show k0_off28 k 1 + 1 * l.val = _
      rw [k0_off28_eq, one_mul]; rfl
    rw [e0, e1]
  · refine (hR.read _ _).trans ?_
    have e0 : ((Rect.unit (s := S256x4096) (k0_off29 k) S32x128.size (k0_off29_inb k)).toLoadRect.idx (ix i l) 0).val = 32 * k.val + i.val := by
      show k0_off29 k 0 + 1 * i.val = _
      rw [k0_off29_eq, one_mul]; rfl
    have e1 : ((Rect.unit (s := S256x4096) (k0_off29 k) S32x128.size (k0_off29_inb k)).toLoadRect.idx (ix i l) 1).val = 128 * 28 + l.val := by
      show k0_off29 k 1 + 1 * l.val = _
      rw [k0_off29_eq, one_mul]; rfl
    rw [e0, e1]
  · refine (hR.read _ _).trans ?_
    have e0 : ((Rect.unit (s := S256x4096) (k0_off30 k) S32x128.size (k0_off30_inb k)).toLoadRect.idx (ix i l) 0).val = 32 * k.val + i.val := by
      show k0_off30 k 0 + 1 * i.val = _
      rw [k0_off30_eq, one_mul]; rfl
    have e1 : ((Rect.unit (s := S256x4096) (k0_off30 k) S32x128.size (k0_off30_inb k)).toLoadRect.idx (ix i l) 1).val = 128 * 29 + l.val := by
      show k0_off30 k 1 + 1 * l.val = _
      rw [k0_off30_eq, one_mul]; rfl
    rw [e0, e1]
  · refine (hR.read _ _).trans ?_
    have e0 : ((Rect.unit (s := S256x4096) (k0_off31 k) S32x128.size (k0_off31_inb k)).toLoadRect.idx (ix i l) 0).val = 32 * k.val + i.val := by
      show k0_off31 k 0 + 1 * i.val = _
      rw [k0_off31_eq, one_mul]; rfl
    have e1 : ((Rect.unit (s := S256x4096) (k0_off31 k) S32x128.size (k0_off31_inb k)).toLoadRect.idx (ix i l) 1).val = 128 * 30 + l.val := by
      show k0_off31 k 1 + 1 * l.val = _
      rw [k0_off31_eq, one_mul]; rfl
    rw [e0, e1]
  · refine (hR.read _ _).trans ?_
    have e0 : ((Rect.unit (s := S256x4096) (k0_off32 k) S32x128.size (k0_off32_inb k)).toLoadRect.idx (ix i l) 0).val = 32 * k.val + i.val := by
      show k0_off32 k 0 + 1 * i.val = _
      rw [k0_off32_eq, one_mul]; rfl
    have e1 : ((Rect.unit (s := S256x4096) (k0_off32 k) S32x128.size (k0_off32_inb k)).toLoadRect.idx (ix i l) 1).val = 128 * 31 + l.val := by
      show k0_off32 k 1 + 1 * l.val = _
      rw [k0_off32_eq, one_mul]; rfl
    rw [e0, e1]

theorem tameRows : ∀ i : Fin 32, ∀ b < 128, TameBlock (R (32 * k.val + i.val)) b := fun i b hb =>
  hR.tame _ (by have := trips_lt k; omega) b hb

/-! ## The pieces of a trip -/

theorem code_piece (j : Fin 32) (off : Fin 2 → ℕ) (h : ∀ a, off a + S32x128.size a ≤ S256x4096.size a) (ho : off = ![32 * k.val, 128 * j.val]) (x : S32x128.Idx) :
    (truncf .fp8e4m3 (quant (slice arg7 X k j.val) (tcode arg7 X k) (BitVec.ofNat 32 j.val)) bitsLt_fp8e4m3_f32 : FVec Ideal S32x128 .fp8e4m3) x
      = codes R ((Rect.unit (s := S256x4096) off S32x128.size h).emb x) := by
  subst ho
  obtain ⟨i, l, rfl⟩ : ∃ i l, x = ix i l := ⟨_, _, eq_ix x⟩
  refine (quant_real (slab hR k) (tameRows hR k) j i l).trans ?_
  have e0 : (((Rect.unit (s := S256x4096) ![32 * k.val, 128 * j.val] S32x128.size h).emb (ix i l) : S256x4096.Idx) 0).val = 32 * k.val + i.val := by
    show 32 * k.val + 1 * i.val = _; omega
  have e1 : (((Rect.unit (s := S256x4096) ![32 * k.val, 128 * j.val] S32x128.size h).emb (ix i l) : S256x4096.Idx) 1).val = 128 * j.val + l.val := by
    show 128 * j.val + 1 * l.val = _; omega
  unfold codes; rw [e0, e1]

theorem deq_piece (j : Fin 32) (off : Fin 2 → ℕ) (h : ∀ a, off a + S32x128.size a ≤ S256x4096.size a) (ho : off = ![32 * k.val, 128 * j.val]) (x : S32x128.Idx) :
    (truncf .bf16 (dequant (slice arg7 X k j.val) (tcode arg7 X k) (BitVec.ofNat 32 j.val)) bitsLt_bf16_f32 : FVec Ideal S32x128 .bf16) x
      = deq R ((Rect.unit (s := S256x4096) off S32x128.size h).emb x) := by
  subst ho
  obtain ⟨i, l, rfl⟩ : ∃ i l, x = ix i l := ⟨_, _, eq_ix x⟩
  refine (dequant_real (slab hR k) (tameRows hR k) j i l).trans ?_
  have e0 : (((Rect.unit (s := S256x4096) ![32 * k.val, 128 * j.val] S32x128.size h).emb (ix i l) : S256x4096.Idx) 0).val = 32 * k.val + i.val := by
    show 32 * k.val + 1 * i.val = _; omega
  have e1 : (((Rect.unit (s := S256x4096) ![32 * k.val, 128 * j.val] S32x128.size h).emb (ix i l) : S256x4096.Idx) 1).val = 128 * j.val + l.val := by
    show 128 * j.val + 1 * l.val = _; omega
  unfold deq; rw [e0, e1]

theorem mask_piece (b : Fin 4) (off : Fin 2 → ℕ) (h : ∀ a, off a + S32x128.size a ≤ S256x512.size a) (ho : off = ![32 * k.val, 128 * b.val]) (x : S32x128.Idx) :
    byte (tword arg7 X k) (BitVec.ofNat 32 (8 * b.val)) x = masks R ((Rect.unit (s := S256x512) off S32x128.size h).emb x) := by
  subst ho
  obtain ⟨i, l, rfl⟩ : ∃ i l, x = ix i l := ⟨_, _, eq_ix x⟩
  have e0 : (((Rect.unit (s := S256x512) ![32 * k.val, 128 * b.val] S32x128.size h).emb (ix i l) : S256x512.Idx) 0).val = 32 * k.val + i.val := by
    show 32 * k.val + 1 * i.val = _; omega
  have e1 : (((Rect.unit (s := S256x512) ![32 * k.val, 128 * b.val] S32x128.size h).emb (ix i l) : S256x512.Idx) 1).val = 128 * b.val + l.val := by
    show 128 * b.val + 1 * l.val = _; omega
  unfold masks; rw [e0, e1]
  exact eq_packed _ _ fun c => byte_bit (slab hR k) (tameRows hR k) b i l c

theorem scale_piece (off : Fin 2 → ℕ) (h : ∀ a, off a + S32x128.size a ≤ S256x128.size a) (ho : off = ![32 * k.val, 0]) (x : S32x128.Idx) :
    codeRow (tcode arg7 X k) x = scales R ((Rect.unit (s := S256x128) off S32x128.size h).emb x) := by
  subst ho
  obtain ⟨i, l, rfl⟩ : ∃ i l, x = ix i l := ⟨_, _, eq_ix x⟩
  have e0 : (((Rect.unit (s := S256x128) ![32 * k.val, 0] S32x128.size h).emb (ix i l) : S256x128.Idx) 0).val = 32 * k.val + i.val := by
    show 32 * k.val + 1 * i.val = _; omega
  have e1 : (((Rect.unit (s := S256x128) ![32 * k.val, 0] S32x128.size h).emb (ix i l) : S256x128.Idx) 1).val = l.val := by
    show 0 + 1 * l.val = _; omega
  unfold scales; rw [e0, e1]
  exact codeRow_real (slab hR k) (tameRows hR k) i l

theorem codes_trip : ∀ p ∈ codePieces arg7 X k, ∀ x : p.1.shape.Idx, p.2 x = codes R (p.1.emb x) := by
  intro p hp
  unfold codePieces at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact code_piece hR k 31 _ (k0_off32_inb k) (k0_off32_eq k)
  · exact code_piece hR k 30 _ (k0_off31_inb k) (k0_off31_eq k)
  · exact code_piece hR k 29 _ (k0_off30_inb k) (k0_off30_eq k)
  · exact code_piece hR k 28 _ (k0_off29_inb k) (k0_off29_eq k)
  · exact code_piece hR k 27 _ (k0_off28_inb k) (k0_off28_eq k)
  · exact code_piece hR k 26 _ (k0_off27_inb k) (k0_off27_eq k)
  · exact code_piece hR k 25 _ (k0_off26_inb k) (k0_off26_eq k)
  · exact code_piece hR k 24 _ (k0_off25_inb k) (k0_off25_eq k)
  · exact code_piece hR k 23 _ (k0_off24_inb k) (k0_off24_eq k)
  · exact code_piece hR k 22 _ (k0_off23_inb k) (k0_off23_eq k)
  · exact code_piece hR k 21 _ (k0_off22_inb k) (k0_off22_eq k)
  · exact code_piece hR k 20 _ (k0_off21_inb k) (k0_off21_eq k)
  · exact code_piece hR k 19 _ (k0_off20_inb k) (k0_off20_eq k)
  · exact code_piece hR k 18 _ (k0_off19_inb k) (k0_off19_eq k)
  · exact code_piece hR k 17 _ (k0_off18_inb k) (k0_off18_eq k)
  · exact code_piece hR k 16 _ (k0_off17_inb k) (k0_off17_eq k)
  · exact code_piece hR k 15 _ (k0_off16_inb k) (k0_off16_eq k)
  · exact code_piece hR k 14 _ (k0_off15_inb k) (k0_off15_eq k)
  · exact code_piece hR k 13 _ (k0_off14_inb k) (k0_off14_eq k)
  · exact code_piece hR k 12 _ (k0_off13_inb k) (k0_off13_eq k)
  · exact code_piece hR k 11 _ (k0_off12_inb k) (k0_off12_eq k)
  · exact code_piece hR k 10 _ (k0_off11_inb k) (k0_off11_eq k)
  · exact code_piece hR k 9 _ (k0_off10_inb k) (k0_off10_eq k)
  · exact code_piece hR k 8 _ (k0_off9_inb k) (k0_off9_eq k)
  · exact code_piece hR k 7 _ (k0_off8_inb k) (k0_off8_eq k)
  · exact code_piece hR k 6 _ (k0_off7_inb k) (k0_off7_eq k)
  · exact code_piece hR k 5 _ (k0_off6_inb k) (k0_off6_eq k)
  · exact code_piece hR k 4 _ (k0_off5_inb k) (k0_off5_eq k)
  · exact code_piece hR k 3 _ (k0_off4_inb k) (k0_off4_eq k)
  · exact code_piece hR k 2 _ (k0_off3_inb k) (k0_off3_eq k)
  · exact code_piece hR k 1 _ (k0_off2_inb k) (k0_off2_eq k)
  · exact code_piece hR k 0 _ (k0_off1_inb k) (k0_off1_eq k)

theorem deq_trip : ∀ p ∈ deqPieces arg7 X k, ∀ x : p.1.shape.Idx, p.2 x = deq R (p.1.emb x) := by
  intro p hp
  unfold deqPieces at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact deq_piece hR k 31 _ (k0_off32_inb k) (k0_off32_eq k)
  · exact deq_piece hR k 30 _ (k0_off31_inb k) (k0_off31_eq k)
  · exact deq_piece hR k 29 _ (k0_off30_inb k) (k0_off30_eq k)
  · exact deq_piece hR k 28 _ (k0_off29_inb k) (k0_off29_eq k)
  · exact deq_piece hR k 27 _ (k0_off28_inb k) (k0_off28_eq k)
  · exact deq_piece hR k 26 _ (k0_off27_inb k) (k0_off27_eq k)
  · exact deq_piece hR k 25 _ (k0_off26_inb k) (k0_off26_eq k)
  · exact deq_piece hR k 24 _ (k0_off25_inb k) (k0_off25_eq k)
  · exact deq_piece hR k 23 _ (k0_off24_inb k) (k0_off24_eq k)
  · exact deq_piece hR k 22 _ (k0_off23_inb k) (k0_off23_eq k)
  · exact deq_piece hR k 21 _ (k0_off22_inb k) (k0_off22_eq k)
  · exact deq_piece hR k 20 _ (k0_off21_inb k) (k0_off21_eq k)
  · exact deq_piece hR k 19 _ (k0_off20_inb k) (k0_off20_eq k)
  · exact deq_piece hR k 18 _ (k0_off19_inb k) (k0_off19_eq k)
  · exact deq_piece hR k 17 _ (k0_off18_inb k) (k0_off18_eq k)
  · exact deq_piece hR k 16 _ (k0_off17_inb k) (k0_off17_eq k)
  · exact deq_piece hR k 15 _ (k0_off16_inb k) (k0_off16_eq k)
  · exact deq_piece hR k 14 _ (k0_off15_inb k) (k0_off15_eq k)
  · exact deq_piece hR k 13 _ (k0_off14_inb k) (k0_off14_eq k)
  · exact deq_piece hR k 12 _ (k0_off13_inb k) (k0_off13_eq k)
  · exact deq_piece hR k 11 _ (k0_off12_inb k) (k0_off12_eq k)
  · exact deq_piece hR k 10 _ (k0_off11_inb k) (k0_off11_eq k)
  · exact deq_piece hR k 9 _ (k0_off10_inb k) (k0_off10_eq k)
  · exact deq_piece hR k 8 _ (k0_off9_inb k) (k0_off9_eq k)
  · exact deq_piece hR k 7 _ (k0_off8_inb k) (k0_off8_eq k)
  · exact deq_piece hR k 6 _ (k0_off7_inb k) (k0_off7_eq k)
  · exact deq_piece hR k 5 _ (k0_off6_inb k) (k0_off6_eq k)
  · exact deq_piece hR k 4 _ (k0_off5_inb k) (k0_off5_eq k)
  · exact deq_piece hR k 3 _ (k0_off4_inb k) (k0_off4_eq k)
  · exact deq_piece hR k 2 _ (k0_off3_inb k) (k0_off3_eq k)
  · exact deq_piece hR k 1 _ (k0_off2_inb k) (k0_off2_eq k)
  · exact deq_piece hR k 0 _ (k0_off1_inb k) (k0_off1_eq k)

theorem masks_trip : ∀ p ∈ maskPieces arg7 X k, ∀ x : p.1.shape.Idx, p.2 x = masks R (p.1.emb x) := by
  intro p hp
  unfold maskPieces at hp
  simp only [List.mem_cons, List.not_mem_nil, or_false] at hp
  rcases hp with rfl | rfl | rfl | rfl
  · exact mask_piece hR k 3 _ (k0_off36_inb k) (k0_off36_eq k)
  · exact mask_piece hR k 2 _ (k0_off35_inb k) (k0_off35_eq k)
  · exact mask_piece hR k 1 _ (k0_off34_inb k) (k0_off34_eq k)
  · exact mask_piece hR k 0 _ (k0_off33_inb k) (k0_off33_eq k)

/-! ## The pieces of the loop -/

omit k in
theorem pieces_loop (𝒱 : Variants) (bd : Option 𝒱.V) (c : Dev nD) (i : grid0.Coords) (arg1 : Memref sig .tc .vmem S256x4096 .bf16) (harg1 : arg1.IsWhole) (arg2 : Memref sig .tc .vmem S256x256 .bf16) (harg2 : arg2.IsWhole) (arg3 : Memref sig .tc .vmem S256x4096 .fp8e4m3) (harg3 : arg3.IsWhole) (arg4 : Memref sig .tc .vmem S256x128 .i8) (harg4 : arg4.IsWhole) (arg5 : Memref sig .tc .vmem S256x512 .i8) (harg5 : arg5.IsWhole) (arg6 : Memref sig .tc .vmem S256x4096 .bf16) (harg6 : arg6.IsWhole) (harg7 : arg7.IsWhole) (n : ℕ) (hn : n ≤ k0_t1_loop.trips) :
    (∀ p ∈ (pb_k0_t1 (F := Ideal) 𝒱 c bd i arg1 harg1 arg2 harg2 arg3 harg3 arg4 harg4 arg5 harg5 arg6 harg6 arg7 harg7 X n).1, ∀ x : p.1.shape.Idx, p.2 x = codes R (p.1.emb x))
    ∧ (∀ p ∈ (pb_k0_t1 (F := Ideal) 𝒱 c bd i arg1 harg1 arg2 harg2 arg3 harg3 arg4 harg4 arg5 harg5 arg6 harg6 arg7 harg7 X n).2.1, ∀ x : p.1.shape.Idx, p.2 x = scales R (p.1.emb x))
    ∧ (∀ p ∈ (pb_k0_t1 (F := Ideal) 𝒱 c bd i arg1 harg1 arg2 harg2 arg3 harg3 arg4 harg4 arg5 harg5 arg6 harg6 arg7 harg7 X n).2.2.1, ∀ x : p.1.shape.Idx, p.2 x = masks R (p.1.emb x))
    ∧ (∀ p ∈ (pb_k0_t1 (F := Ideal) 𝒱 c bd i arg1 harg1 arg2 harg2 arg3 harg3 arg4 harg4 arg5 harg5 arg6 harg6 arg7 harg7 X n).2.2.2, ∀ x : p.1.shape.Idx, p.2 x = deq R (p.1.emb x)) := by
  induction n with
  | zero => exact ⟨fun p hp => absurd hp List.not_mem_nil, fun p hp => absurd hp List.not_mem_nil, fun p hp => absurd hp List.not_mem_nil, fun p hp => absurd hp List.not_mem_nil⟩
  | succ n ih =>
    obtain ⟨i1, i2, i3, i4⟩ := ih (by omega)
    have e := pb_k0_t1_succ (F := Ideal) 𝒱 c bd i arg1 harg1 arg2 harg2 arg3 harg3 arg4 harg4 arg5 harg5 arg6 harg6 arg7 harg7 X ⟨n, hn⟩
    dsimp only at e
    rw [e]
    dsimp only
    refine ⟨fun p hp => ?_, fun p hp => ?_, fun p hp => ?_, fun p hp => ?_⟩
    · rcases List.mem_append.1 hp with h | h
      · exact codes_trip hR ⟨n, hn⟩ p (trip_codes (F := Ideal) 𝒱 c bd i arg1 harg1 arg2 harg2 arg3 harg3 arg4 harg4 arg5 harg5 arg6 harg6 arg7 harg7 X ⟨n, hn⟩ ▸ h)
      · exact i1 p h
    · rcases List.mem_append.1 hp with h | h
      · have h' := List.mem_singleton.1 (Eq.subst (motive := fun L => p ∈ L) (trip_scales (F := Ideal) 𝒱 c bd i arg1 harg1 arg2 harg2 arg3 harg3 arg4 harg4 arg5 harg5 arg6 harg6 arg7 harg7 X ⟨n, hn⟩) h)
        subst h'
        exact scale_piece hR ⟨n, hn⟩ _ (k0_off37_inb _) (k0_off37_eq _)
      · exact i2 p h
    · rcases List.mem_append.1 hp with h | h
      · exact masks_trip hR ⟨n, hn⟩ p (trip_masks (F := Ideal) 𝒱 c bd i arg1 harg1 arg2 harg2 arg3 harg3 arg4 harg4 arg5 harg5 arg6 harg6 arg7 harg7 X ⟨n, hn⟩ ▸ h)
      · exact i3 p h
    · rcases List.mem_append.1 hp with h | h
      · exact deq_trip hR ⟨n, hn⟩ p (trip_deq (F := Ideal) 𝒱 c bd i arg1 harg1 arg2 harg2 arg3 harg3 arg4 harg4 arg5 harg5 arg6 harg6 arg7 harg7 X ⟨n, hn⟩ ▸ h)
      · exact i4 p h

end Cert.QuantXIdeal.Point

end
-- ==== Proof.QuantXTame.lean ====
/-
  The Hadamard transform of a row of reals, and the bound of its blocks: 32 times the squares are kept, so that a tame row's
  scales stay within the exponent range.
-/
module

public import proofs.«01_k».proof.Proof.QuantXMath

@[expose] public section

set_option maxRecDepth 16384

noncomputable section

namespace Cert.Quantiser

open Idealize.ShloMosaic

/-- The word of an entry of the Hadamard matrix: even or odd number of common bits. -/
def parity (a b : ℕ) : BitVec 32 := IntOp.ctpop (BitVec.ofNat 32 a &&& BitVec.ofNat 32 b) &&& 1#32
/-- The 32 × 32 Hadamard matrix. -/
def had (a b : ℕ) : ℝ := if parity a b == 0#32 then 1 else -1
/-- The same over the integers. -/
def hadI (a b : ℕ) : ℤ := if parity a b == 0#32 then 1 else -1

theorem had_eq (a b : ℕ) : had a b = ((hadI a b : ℤ) : ℝ) := by
  unfold had hadI; split <;> norm_num

theorem orthogonal : ∀ i j : Fin 32, ((List.range 32).map fun k => hadI i.val k * hadI j.val k).sum = if i.val = j.val then 32 else 0 := by
  decide +kernel

theorem had_orthogonal (i j : ℕ) (hi : i < 32) (hj : j < 32) : ∑ k ∈ Finset.range 32, had i k * had j k = if i = j then 32 else 0 := by
  have h := orthogonal ⟨i, hi⟩ ⟨j, hj⟩
  have h' : ∑ k ∈ Finset.range 32, hadI i k * hadI j k = if i = j then 32 else 0 := by
    rw [← h, Finset.sum_eq_multiset_sum]; rfl
  simp only [had_eq]
  exact_mod_cast h'

/-- A row's transform, normalised. -/
def rotR (X : ℕ → ℝ) (c : ℕ) : ℝ := (∑ k ∈ Finset.range 32, X (32 * (c / 32) + k) * had k (c % 32)) * norm

theorem squares (x : ℕ → ℝ) : ∑ k ∈ Finset.range 32, (∑ j ∈ Finset.range 32, x j * had j k) * (∑ j ∈ Finset.range 32, x j * had j k)
    = 32 * ∑ j ∈ Finset.range 32, x j * x j := by
  have h : ∀ k, (∑ j ∈ Finset.range 32, x j * had j k) * (∑ j ∈ Finset.range 32, x j * had j k)
      = ∑ i ∈ Finset.range 32, ∑ j ∈ Finset.range 32, (x i * x j) * (had i k * had j k) := by
    intro k
    rw [Finset.sum_mul_sum]
    exact Finset.sum_congr rfl fun i _ => Finset.sum_congr rfl fun j _ => by ring
  simp only [h]
  rw [Finset.sum_comm]
  rw [Finset.mul_sum]
  refine Finset.sum_congr rfl fun i hi => ?_
  rw [Finset.sum_comm]
  have hi := Finset.mem_range.1 hi
  rw [Finset.sum_eq_single i]
  · rw [← Finset.mul_sum, had_orthogonal i i hi hi, if_pos rfl]; ring
  · intro j hj hne
    rw [← Finset.mul_sum, had_orthogonal i j hi (Finset.mem_range.1 hj), if_neg (Ne.symm hne), mul_zero]
  · intro h; exact absurd (Finset.mem_range.2 hi) h

theorem sumSqR_rotR (X : ℕ → ℝ) (b : ℕ) : sumSqR (rotR X) b = norm * norm * (32 * ∑ j ∈ Finset.range 32, X (32 * b + j) * X (32 * b + j)) := by
  rw [← squares (fun j => X (32 * b + j)), Finset.mul_sum]
  refine Finset.sum_congr rfl fun k hk => ?_
  have hk := Finset.mem_range.1 hk
  unfold rotR
  rw [show (32 * b + k) / 32 = b by omega, show (32 * b + k) % 32 = k by omega]
  ring

/-- A real entry that keeps the scales in range. -/
def TameEntry (x : ℝ) : Prop := x = 0 ∨ ((2 : ℝ) ^ (-122 : ℤ) ≤ |x| ∧ |x| ≤ 255 * (2 : ℝ) ^ (120 : ℤ))

theorem tame_block (X : ℕ → ℝ) (b : ℕ) (h : ∀ j < 32, TameEntry (X (32 * b + j))) : TameBlock (rotR X) b := by
  have hs := sumSqR_rotR X b
  by_cases h0 : ∀ j < 32, X (32 * b + j) = 0
  · left
    unfold rmsR
    rw [hs, Finset.sum_eq_zero (fun j hj => by rw [h0 j (Finset.mem_range.1 hj), mul_zero])]
    simp
  · right
    push Not at h0
    obtain ⟨j, hj, hne⟩ := h0
    obtain ⟨l1, -⟩ := (h j hj).resolve_left hne
    have low : (2 : ℝ) ^ (-122 : ℤ) * (2 : ℝ) ^ (-122 : ℤ) ≤ ∑ j ∈ Finset.range 32, X (32 * b + j) * X (32 * b + j) := by
      refine le_trans ?_ (Finset.single_le_sum (fun i _ => mul_self_nonneg (X (32 * b + i))) (Finset.mem_range.2 hj))
      rw [← abs_mul_abs_self (X (32 * b + j))]
      exact mul_le_mul l1 l1 (by positivity) (abs_nonneg _)
    have high : ∑ j ∈ Finset.range 32, X (32 * b + j) * X (32 * b + j) ≤ 32 * ((255 * (2 : ℝ) ^ (120 : ℤ)) * (255 * (2 : ℝ) ^ (120 : ℤ))) := by
      refine le_trans (Finset.sum_le_card_nsmul _ _ ((255 * (2 : ℝ) ^ (120 : ℤ)) * (255 * (2 : ℝ) ^ (120 : ℤ))) fun i hi => ?_) (by simp)
      rcases h i (Finset.mem_range.1 hi) with e | ⟨-, u⟩
      · rw [e]; norm_num
      · rw [← abs_mul_abs_self (X (32 * b + i))]
        exact mul_le_mul u u (abs_nonneg _) (by positivity)
    have hr : rmsR (rotR X) b = Real.sqrt (norm * norm * ∑ j ∈ Finset.range 32, X (32 * b + j) * X (32 * b + j)) := by
      unfold rmsR; rw [hs]; congr 1; ring
    unfold ampR
    rw [hr]
    generalize ∑ j ∈ Finset.range 32, X (32 * b + j) * X (32 * b + j) = S at low high
    have g1 : (2 : ℝ) ^ (-126 : ℤ) / (alpha * sixth) ≤ Real.sqrt (norm * norm * S) := by
      refine Real.le_sqrt_of_sq_le ?_
      refine le_trans ?_ (mul_le_mul_of_nonneg_left low (by norm_num : (0 : ℝ) ≤ norm * norm))
      norm_num
    have g2 : Real.sqrt (norm * norm * S) < (2 : ℝ) ^ (127 : ℤ) / (alpha * sixth) := by
      refine (Real.sqrt_lt' (by norm_num)).2 ?_
      refine lt_of_le_of_lt (mul_le_mul_of_nonneg_left high (by norm_num : (0 : ℝ) ≤ norm * norm)) ?_
      norm_num
    rw [div_le_iff₀ (by norm_num)] at g1
    rw [lt_div_iff₀ (by norm_num)] at g2
    constructor
    · refine le_trans g1 (le_of_eq (by ring))
    · refine lt_of_le_of_lt (le_of_eq (by ring)) g2

theorem bits_least : Ideal.ofBits .bf16 0x0280#16 = (((2 : ℝ) ^ (-122 : ℤ) : ℝ) : EReal) := by
  simp [Ideal.ofBits, Ideal.ieee, -EReal.coe_mul]; norm_num
theorem bits_greatest : Ideal.ofBits .bf16 0x7F7F#16 = ((255 * (2 : ℝ) ^ (120 : ℤ) : ℝ) : EReal) := by
  simp [Ideal.ofBits, Ideal.ieee, -EReal.coe_mul]
theorem bits_zero16 : Ideal.ofBits .bf16 0x0000#16 = ((0 : ℝ) : EReal) := by
  simp [Ideal.ofBits, Ideal.ieee]

/-- What the precondition says of an entry. -/
theorem tame_entry (x : EReal) (h : BitVec.ofBool (decide (x = Ideal.ofBits .bf16 0x0000#16))
      ||| (BitVec.ofBool (decide (Ideal.ofBits .bf16 0x0280#16 ≤ max x (-x))) &&& BitVec.ofBool (decide (max x (-x) ≤ Ideal.ofBits .bf16 0x7F7F#16))) = 1#1) :
    ∃ r : ℝ, x = (r : EReal) ∧ TameEntry r := by
  rw [bits_zero16, bits_least, bits_greatest] at h
  by_cases h0 : x = ((0 : ℝ) : EReal)
  · exact ⟨0, h0, Or.inl rfl⟩
  · have h' : ((((2 : ℝ) ^ (-122 : ℤ) : ℝ) : EReal) ≤ max x (-x)) ∧ max x (-x) ≤ ((255 * (2 : ℝ) ^ (120 : ℤ) : ℝ) : EReal) := by
      by_cases a : (((2 : ℝ) ^ (-122 : ℤ) : ℝ) : EReal) ≤ max x (-x) <;> by_cases b : max x (-x) ≤ ((255 * (2 : ℝ) ^ (120 : ℤ) : ℝ) : EReal)
      · exact ⟨a, b⟩
      all_goals
        simp only [h0, a, b, decide_true, decide_false] at h
        exact absurd h (by decide)
    obtain ⟨h1, h2⟩ := h'
    induction x using EReal.rec with
    | bot => exact absurd (le_trans (le_max_right _ _) h2) (not_le.2 (EReal.coe_lt_top _))
    | top => exact absurd (le_trans (le_max_left _ _) h2) (not_le.2 (EReal.coe_lt_top _))
    | coe r =>
      have ha : max (r : EReal) (-(r : EReal)) = ((|r| : ℝ) : EReal) := by
        rw [← EReal.coe_neg]; exact (EReal.coe_strictMono.monotone.map_max).symm
      rw [ha] at h1 h2
      exact ⟨r, rfl, Or.inr ⟨EReal.coe_le_coe_iff.1 h1, EReal.coe_le_coe_iff.1 h2⟩⟩

/-- The part of a sum over eight groups of 32 that one group carries. -/
theorem sum_group (f : ℕ → ℝ) (q : ℕ) (hq : q < 8) :
    ∑ k ∈ Finset.range 256, (if k / 32 = q then f k else 0) = ∑ k ∈ Finset.range 32, f (32 * q + k) := by
  rw [← Finset.sum_filter]
  refine Finset.sum_nbij' (fun k => k - 32 * q) (fun k => 32 * q + k) ?_ ?_ ?_ ?_ ?_
  · intro k hk; obtain ⟨h1, h2⟩ := Finset.mem_filter.1 hk; rw [Finset.mem_range] at h1 ⊢; omega
  · intro k hk; rw [Finset.mem_range] at hk; rw [Finset.mem_filter, Finset.mem_range]; omega
  · intro k hk; obtain ⟨h1, h2⟩ := Finset.mem_filter.1 hk; omega
  · intro k hk; omega
  · intro k hk; obtain ⟨h1, h2⟩ := Finset.mem_filter.1 hk; rw [show 32 * q + (k - 32 * q) = k by omega]

end Cert.Quantiser

end
-- ==== Proof.QuantXHost.lean ====
/-
  What the quantiser's region finds in its two input arrays: the argument's rows, and the block Hadamard matrix, entry by entry.
-/
module

public import proofs.«01_k».proof.Proof.Gen.QuantXIdeal.Value
public import proofs.«01_k».proof.Proof.QuantXTame
public import Idealize.ShloMosaic.Lib.StableHlo.Run

@[expose] public section

set_option maxRecDepth 16384

noncomputable section

namespace Cert.QuantXIdeal.Entry

open Cert.QuantXIdeal Cert.QuantXIdeal.Gen Cert.Quantiser Idealize.ShloMosaic Idealize.ShloMosaic.TcCoe Idealize.SL.Sem
open Idealize.ShloMosaic.StableHlo

/-- The sign of a word. -/
def sgn (x : BitVec 32) : BitVec 32 := if x = 0 then 0 else if x.msb then -1 else 1
/-- Floor division of a word by 32, in the steps of the host code. -/
def fdiv (x : BitVec 32) : BitVec 32 :=
  Scalar.select (BitVec.ofBool (sgn x != sgn 32#32) &&& BitVec.ofBool (IntOp.remsi .host x 32#32 != 0#32))
    (IntOp.divsi .host x 32#32 - 1#32) (IntOp.divsi .host x 32#32)

theorem fdiv_eq : ∀ i : Fin 256, fdiv (BitVec.ofNat 32 i.val) = BitVec.ofNat 32 (i.val / 32)
    ∧ BitVec.ofNat 32 i.val &&& 31#32 = BitVec.ofNat 32 (i.val % 32) := by decide +kernel

theorem word_eq : ∀ a b : Fin 8, (BitVec.ofNat 32 a.val == BitVec.ofNat 32 b.val) = decide (a.val = b.val) := by decide

variable (m : (ℓ : Loc nD τ sig) → Buf (Elt Ideal) ℓ)

/-- The first input array is the argument, row by row. -/
theorem rows (c : Dev nD) : V m c main_v0 = shapeCast S12288x4096 (m ((c : Thread nD τ).loc main_arg0)) shapeCasts_S8x1536x4096_S12288x4096 := by
  unfold V
  simp only [List.flatten_cons, List.flatten_nil, List.cons_append, List.nil_append, List.append_nil]
  after_results
  all_goals rfl

set_option maxHeartbeats 4000000 in
/-- The second input array is the block Hadamard matrix. -/
theorem matrix (c : Dev nD) (x : S256x256.Idx) :
    (V m c main_v23 x : EReal) = (((if (x 0).val / 32 = (x 1).val / 32 then had ((x 0).val % 32) ((x 1).val % 32) else 0 : ℝ)) : EReal) := by
  have h : V m c main_v23 x = Scalar.select (BitVec.ofBool (fdiv (BitVec.ofNat 32 (x 0).val) == fdiv (BitVec.ofNat 32 (x 1).val)))
      (Scalar.select (BitVec.ofBool ((IntOp.ctpop ((BitVec.ofNat 32 (x 0).val &&& BitVec.ofNat 32 (x 1).val) &&& 31#32) &&& 1#32) == 0#32))
        (Ideal.ofBits .f32 0x3F800000#32) (Ideal.ofBits .f32 0xBF800000#32)) (Ideal.ofBits .f32 0x00000000#32) := by
    unfold V
    simp only [List.flatten_cons, List.flatten_nil, List.cons_append, List.nil_append, List.append_nil]
    after_results
    simp only [TRef.ofBuf_toBuf, TRef.ofBuf, TRef.toBuf, cast_eq, id_eq]
    rfl
  obtain ⟨f0, g0⟩ := fdiv_eq (x 0)
  obtain ⟨f1, g1⟩ := fdiv_eq (x 1)
  have hw := word_eq ⟨(x 0).val / 32, by have := (x 0).isLt; simp at this; omega⟩ ⟨(x 1).val / 32, by have := (x 1).isLt; simp at this; omega⟩
  have hm : (BitVec.ofNat 32 (x 0).val &&& BitVec.ofNat 32 (x 1).val) &&& 31#32
      = BitVec.ofNat 32 ((x 0).val % 32) &&& BitVec.ofNat 32 ((x 1).val % 32) := by
    rw [← g0, ← g1]
    ext i hi
    simp only [BitVec.getElem_and]
    cases (BitVec.ofNat 32 (x 0).val)[i] <;> cases (BitVec.ofNat 32 (x 1).val)[i] <;> cases (31#32)[i] <;> rfl
  rw [h, f0, f1, hm, bits_1, bits_m1, bits_0]
  rw [show (BitVec.ofNat 32 ((x 0).val / 32) == BitVec.ofNat 32 ((x 1).val / 32)) = decide ((x 0).val / 32 = (x 1).val / 32) from hw]
  have hs : ∀ (p : Bool) (a b : EReal), Scalar.select (BitVec.ofBool p) a b = if p then a else b := by
    intro p a b; cases p <;> rfl
  rw [hs, hs]
  unfold had parity
  by_cases hd : (x 0).val / 32 = (x 1).val / 32
  · simp only [hd, decide_true, if_true]
    split <;> rfl
  · simp only [hd, decide_false, if_false, Bool.false_eq_true]

end Cert.QuantXIdeal.Entry

end
-- ==== Proof.QuantXValue.lean ====
/-
  The value of the quantiser at the ideal instance, whole arrays: on a tame argument its four results are the quantiser's
  functions of the Hadamard transform of the argument's rows.
-/
module

public import proofs.«01_k».proof.Proof.QuantXPoint
public import proofs.«01_k».proof.Proof.QuantXHost
public import proofs.«01_k».proof.Proof.QuantXTame
public import Idealize.ShloMosaic.Lib.Pipeline.Value

@[expose] public section

set_option maxRecDepth 16384

noncomputable section

namespace Cert.QuantXIdeal.Value

open Cert.QuantXIdeal Cert.QuantXIdeal.Gen Cert.Quantiser Idealize.ShloMosaic Idealize.ShloMosaic.TcCoe Idealize.SL.Sem
open Idealize.ShloMosaic.Pipeline (Dat)

/-- An entry of the argument's rows. -/
abbrev big (r k : ℕ) : S12288x4096.Idx := fun a => match a with
  | ⟨0, _⟩ => ⟨r % 12288, Nat.mod_lt _ (by decide)⟩
  | ⟨1, _⟩ => ⟨k % 4096, Nat.mod_lt _ (by decide)⟩

theorem eq_big (y : S12288x4096.Idx) : y = big (y 0).val (y 1).val := funext fun a => Fin.ext (by
  match a with
  | ⟨0, _⟩ => exact (Nat.mod_eq_of_lt (y 0).isLt).symm
  | ⟨1, _⟩ => exact (Nat.mod_eq_of_lt (y 1).isLt).symm)

/-- The rows of an array as reals. -/
def rowsOf (xs : FVec Ideal S12288x4096 .bf16) (r k : ℕ) : ℝ := EReal.toReal (xs (big r k))

/-- Every entry is a real that keeps the scales in range. -/
def Tame (xs : FVec Ideal S12288x4096 .bf16) : Prop := ∀ y, ∃ r : ℝ, (xs y : EReal) = (r : EReal) ∧ TameEntry r

theorem rowsOf_eq {xs : FVec Ideal S12288x4096 .bf16} (h : Tame xs) (r k : ℕ) : (xs (big r k) : EReal) = ((rowsOf xs r k : ℝ) : EReal) := by
  obtain ⟨v, hv, -⟩ := h (big r k)
  unfold rowsOf
  rw [hv, EReal.toReal_coe]

theorem rowsOf_tame {xs : FVec Ideal S12288x4096 .bf16} (h : Tame xs) (r b : ℕ) : TameBlock (rotR (rowsOf xs r)) b := by
  refine tame_block _ _ fun j _ => ?_
  obtain ⟨v, hv, ht⟩ := h (big r (32 * b + j))
  unfold rowsOf
  rw [hv, EReal.toReal_coe]
  exact ht

variable (m : (ℓ : Loc nD τ sig) → Buf (Elt Ideal) ℓ) (ρ : Dev nD → PrngReg)

/-- The argument's rows. -/
abbrev args (c : Dev nD) : FVec Ideal S12288x4096 .bf16 :=
  shapeCast S12288x4096 (m ((c : Thread nD τ).loc main_arg0)) shapeCasts_S8x1536x4096_S12288x4096

/-- Where each window's block lies at a grid point. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0 ∧ win0_2.xsize (grid0.coords t) 0 = 256 ∧ win0_2.xsize (grid0.coords t) 1 = 4096)
    ∧ (win0_3.index t 0 = t.val ∧ win0_3.index t 1 = 0 ∧ win0_3.xsize (grid0.coords t) 0 = 256 ∧ win0_3.xsize (grid0.coords t) 1 = 128)
    ∧ (win0_4.index t 0 = t.val ∧ win0_4.index t 1 = 0 ∧ win0_4.xsize (grid0.coords t) 0 = 256 ∧ win0_4.xsize (grid0.coords t) 1 = 512)
    ∧ (win0_5.index t 0 = t.val ∧ win0_5.index t 1 = 0 ∧ win0_5.xsize (grid0.coords t) 0 = 256 ∧ win0_5.xsize (grid0.coords t) 1 = 4096) :=
  (by decide +kernel : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0 ∧ win0_2.xsize (grid0.coords t) 0 = 256 ∧ win0_2.xsize (grid0.coords t) 1 = 4096)
    ∧ (win0_3.index t 0 = t.val ∧ win0_3.index t 1 = 0 ∧ win0_3.xsize (grid0.coords t) 0 = 256 ∧ win0_3.xsize (grid0.coords t) 1 = 128)
    ∧ (win0_4.index t 0 = t.val ∧ win0_4.index t 1 = 0 ∧ win0_4.xsize (grid0.coords t) 0 = 256 ∧ win0_4.xsize (grid0.coords t) 1 = 512)
    ∧ (win0_5.index t 0 = t.val ∧ win0_5.index t 1 = 0 ∧ win0_5.xsize (grid0.coords t) 0 = 256 ∧ win0_5.xsize (grid0.coords t) 1 = 4096))

theorem point_lt (t : Fin cfg0.N) : t.val < 48 := by
  have h : cfg0.N = 48 := N_0
  have := t.isLt
  omega

variable {m}
variable {c : Dev nD} (hx : Tame (args m c))

/-- The rows a grid point holds, transformed. -/
abbrev rows (m : (ℓ : Loc nD τ sig) → Buf (Elt Ideal) ℓ) (c : Dev nD) (t : Fin cfg0.N) (i : ℕ) : ℕ → ℝ := rotR (rowsOf (args m c) (256 * t.val + i))

include hx in
theorem blk0_apply (t : Fin cfg0.N) (j : S256x4096.Idx) :
    (iblk m c 0 t j : EReal) = ((rowsOf (args m c) (256 * t.val + (j 0).val) (j 1).val : ℝ) : EReal) := by
  obtain ⟨⟨e0, e1⟩, -⟩ := idx_facts t
  rw [← rowsOf_eq hx]
  show V m c main_v0 _ = _
  rw [Entry.rows]
  refine congrArg (args m c) (funext fun a => Fin.ext ?_)
  have := point_lt t
  have h0 : (j 0).val < 256 := (j 0).isLt
  have h1 : (j 1).val < 4096 := (j 1).isLt
  match a with
  | ⟨0, _⟩ => show win0_0.index t 0 * 256 + 1 * (j 0).val = (256 * t.val + (j 0).val) % 12288; rw [e0]; omega
  | ⟨1, _⟩ => show win0_0.index t 1 * 4096 + 1 * (j 1).val = (j 1).val % 4096; rw [e1]; omega

theorem blk1_apply (t : Fin cfg0.N) (j : S256x256.Idx) :
    (iblk m c 1 t j : EReal) = (((if (j 0).val / 32 = (j 1).val / 32 then had ((j 0).val % 32) ((j 1).val % 32) else 0 : ℝ)) : EReal) := by
  obtain ⟨-, ⟨e0, e1⟩, -⟩ := idx_facts t
  rw [← Entry.matrix m c j]
  show V m c main_v23 _ = _
  refine congrArg (V m c main_v23) (funext fun a => Fin.ext ?_)
  match a with
  | ⟨0, _⟩ => show win0_1.index t 0 * 256 + 1 * (j 0).val = (j 0).val; rw [e0]; omega
  | ⟨1, _⟩ => show win0_1.index t 1 * 256 + 1 * (j 1).val = (j 1).val; rw [e1]; omega

include hx in
/-- The scratch at a grid point holds the transform of its rows. -/
theorem scratch_apply (t : Fin cfg0.N) (y : S256x4096.Idx) :
    Scratch.G (iblk m c 0 t) (iblk m c 1 t) y = ((rows m c t (y 0).val (y 1).val : ℝ) : EReal) := by
  have h1 : (y 1).val < 4096 := (y 1).isLt
  unfold Scratch.G rows rotR
  rw [EReal.coe_mul]
  congr 1
  refine Eq.trans (b := ∑ k : Fin 256, ((if k.val / 32 = (y 1).val % 256 / 32 then
          rowsOf (args m c) (256 * t.val + (y 0).val) (256 * ((y 1).val / 256) + k.val) * had (k.val % 32) ((y 1).val % 32) else 0 : ℝ) : EReal))
    (Finset.sum_congr rfl fun k _ => ?_) ?_
  · rw [blk0_apply hx, blk1_apply]
    show ((rowsOf (args m c) (256 * t.val + (y 0).val) ((256 * ((y 1).val / 256) + k.val) % 4096) : ℝ) : EReal)
      * ((if k.val / 32 = (y 1).val % 256 / 32 then had (k.val % 32) ((y 1).val % 256 % 32) else 0 : ℝ) : EReal) = _
    rw [← EReal.coe_mul, show (256 * ((y 1).val / 256) + k.val) % 4096 = 256 * ((y 1).val / 256) + k.val by omega,
      show (y 1).val % 256 % 32 = (y 1).val % 32 by omega, mul_ite, mul_zero]
  rw [← Trip.coe_sum', ← Finset.sum_range (fun k => if k / 32 = (y 1).val % 256 / 32 then
          rowsOf (args m c) (256 * t.val + (y 0).val) (256 * ((y 1).val / 256) + k) * had (k % 32) ((y 1).val % 32) else 0),
    sum_group (fun k => rowsOf (args m c) (256 * t.val + (y 0).val) (256 * ((y 1).val / 256) + k) * had (k % 32) ((y 1).val % 32)) _ (by omega)]
  congr 1
  refine Finset.sum_congr rfl fun k hk => ?_
  have hk := Finset.mem_range.1 hk
  dsimp only
  rw [show 256 * ((y 1).val / 256) + (32 * ((y 1).val % 256 / 32) + k) = 32 * ((y 1).val / 32) + k by omega,
    show (32 * ((y 1).val % 256 / 32) + k) % 32 = k by omega]

include hx in
/-- So the scratch satisfies what the loop needs. -/
theorem scratch_rows (t : Fin cfg0.N) (arg1 : Memref sig .tc .vmem S256x4096 .bf16) (harg1 : arg1.IsWhole) (arg2 : Memref sig .tc .vmem S256x256 .bf16) (harg2 : arg2.IsWhole)
    (arg7 : Memref sig .tc .vmem S256x4096 .f32) :
    Point.Rows arg7 (arg7.view.writes (Elt Ideal) arg7.view.junk (kernelRun0_A.sl.HS0_16 (F := Ideal) c arg1 harg1 arg2 harg2 (iblk m c 0 t) (iblk m c 1 t)))
      (rows m c t) where
  read B j := by
    rw [View.readAt_writes_junk_eq_canon]
    exact (Scratch.canon_eq c arg1 harg1 arg2 harg2 _ _ _).trans (scratch_apply hx t _)
  tame i _ b _ := rowsOf_tame hx _ _

/-! ## The four arrays -/

/-- The codes. -/
def outCodes (xs : FVec Ideal S12288x4096 .bf16) : Vec Ideal S12288x4096 .fp8e4m3 := fun y => ((quantR (rotR (rowsOf xs (y 0).val)) (y 1).val : ℝ) : EReal)
/-- The scale codes. -/
def outScales (xs : FVec Ideal S12288x4096 .bf16) : Vec Ideal S12288x128 .i8 := fun y => BitVec.ofNat 8 (codeR (rotR (rowsOf xs (y 0).val)) (y 1).val)
/-- The masks. -/
def outMasks (xs : FVec Ideal S12288x4096 .bf16) : Vec Ideal S12288x512 .i8 := fun y => maskR (rotR (rowsOf xs (y 0).val)) (y 1).val
/-- The dequantised rows. -/
def outDeq (xs : FVec Ideal S12288x4096 .bf16) : Vec Ideal S12288x4096 .bf16 := fun y => ((deqR (rotR (rowsOf xs (y 0).val)) (y 1).val : ℝ) : EReal)

include hx in
/-- What the loop leaves at a grid point, as pieces. -/
theorem pieces (t : Fin cfg0.N) (i : grid0.Coords) (arg1 : Memref sig .tc .vmem S256x4096 .bf16) (harg1 : arg1.IsWhole) (arg2 : Memref sig .tc .vmem S256x256 .bf16) (harg2 : arg2.IsWhole) (arg3 : Memref sig .tc .vmem S256x4096 .fp8e4m3) (harg3 : arg3.IsWhole) (arg4 : Memref sig .tc .vmem S256x128 .i8) (harg4 : arg4.IsWhole) (arg5 : Memref sig .tc .vmem S256x512 .i8) (harg5 : arg5.IsWhole) (arg6 : Memref sig .tc .vmem S256x4096 .bf16) (harg6 : arg6.IsWhole) (arg7 : Memref sig .tc .vmem S256x4096 .f32) (harg7 : arg7.IsWhole) :
    (∀ p ∈ (pb_k0_t1 (F := Ideal) Variants.none c none i arg1 harg1 arg2 harg2 arg3 harg3 arg4 harg4 arg5 harg5 arg6 harg6 arg7 harg7 (arg7.view.writes (Elt Ideal) arg7.view.junk (kernelRun0_A.sl.HS0_16 (F := Ideal) c arg1 harg1 arg2 harg2 (iblk m c 0 t) (iblk m c 1 t))) k0_t1_loop.trips).1, ∀ x : p.1.shape.Idx, p.2 x = Point.codes (rows m c t) (p.1.emb x))
    ∧ (∀ p ∈ (pb_k0_t1 (F := Ideal) Variants.none c none i arg1 harg1 arg2 harg2 arg3 harg3 arg4 harg4 arg5 harg5 arg6 harg6 arg7 harg7 (arg7.view.writes (Elt Ideal) arg7.view.junk (kernelRun0_A.sl.HS0_16 (F := Ideal) c arg1 harg1 arg2 harg2 (iblk m c 0 t) (iblk m c 1 t))) k0_t1_loop.trips).2.1, ∀ x : p.1.shape.Idx, p.2 x = Point.scales (rows m c t) (p.1.emb x))
    ∧ (∀ p ∈ (pb_k0_t1 (F := Ideal) Variants.none c none i arg1 harg1 arg2 harg2 arg3 harg3 arg4 harg4 arg5 harg5 arg6 harg6 arg7 harg7 (arg7.view.writes (Elt Ideal) arg7.view.junk (kernelRun0_A.sl.HS0_16 (F := Ideal) c arg1 harg1 arg2 harg2 (iblk m c 0 t) (iblk m c 1 t))) k0_t1_loop.trips).2.2.1, ∀ x : p.1.shape.Idx, p.2 x = Point.masks (rows m c t) (p.1.emb x))
    ∧ (∀ p ∈ (pb_k0_t1 (F := Ideal) Variants.none c none i arg1 harg1 arg2 harg2 arg3 harg3 arg4 harg4 arg5 harg5 arg6 harg6 arg7 harg7 (arg7.view.writes (Elt Ideal) arg7.view.junk (kernelRun0_A.sl.HS0_16 (F := Ideal) c arg1 harg1 arg2 harg2 (iblk m c 0 t) (iblk m c 1 t))) k0_t1_loop.trips).2.2.2, ∀ x : p.1.shape.Idx, p.2 x = Point.deq (rows m c t) (p.1.emb x)) :=
  Point.pieces_loop (scratch_rows hx t arg1 harg1 arg2 harg2 arg7) Variants.none none c i arg1 harg1 arg2 harg2 arg3 harg3 arg4 harg4 arg5 harg5 arg6 harg6 harg7 k0_t1_loop.trips le_rfl

include hx in
theorem flushed2_eq (t : Fin cfg0.N) : (dats m 0 c).flushed 2 t = (win0_2.blk t).view.read (Elt Ideal) (outCodes (args m c)) := by
  rw [Value.flushed2_A]
  unfold out0_A_2
  rw [View.read_writes_junk_eq_canon]
  obtain ⟨-, -, ⟨e0, e1, -, -⟩, -⟩ := idx_facts t
  funext j
  show View.canon _ (_ : S256x4096.Idx) = outCodes (args m c) ((win0_2.rect t).emb j)
  refine (View.canon_apply_of_pieces (Val := Elt Ideal) (Point.codes (rows m c t)) _ ?_ _
    (cover0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) _)).trans ?_
  · unfold kernelRun0_A
    dsimp only
    exact (pieces hx t (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)).1
  · have h0 : (((win0_2.rect t).emb j : S12288x4096.Idx) 0).val = 256 * t.val + (j 0).val := by
      show win0_2.index t 0 * 256 + 1 * (j 0).val = _
      rw [e0]; omega
    have h1 : (((win0_2.rect t).emb j : S12288x4096.Idx) 1).val = (j 1).val := by
      show win0_2.index t 1 * 4096 + 1 * (j 1).val = _
      rw [e1]; omega
    unfold outCodes Point.codes rows
    rw [h0, h1]

theorem mem_blk2 (t : Fin cfg0.N) (i : S12288x4096.Idx) :
    i ∈ ((cfg0.win 2).blk t).view.set ↔ t.val * 256 ≤ (i 0 : Nat) ∧ (i 0 : Nat) < t.val * 256 + 256 := by
  show i ∈ ((View.whole main_v24_0).slice (win0_2.rect t)).set ↔ _
  rw [View.set_slice_whole, Rect.mem_set_unit]
  obtain ⟨-, -, ⟨e0, e1, x0, x1⟩, -⟩ := idx_facts t
  have hi : (i 1 : Nat) < 4096 := (i 1).isLt
  refine ⟨fun h => ?_, fun h a => ?_⟩
  · have : win0_2.index t 0 * 256 ≤ (i 0 : Nat) ∧ (i 0 : Nat) < win0_2.index t 0 * 256 + win0_2.xsize (grid0.coords t) 0 := h 0
    rw [e0, x0] at this; exact this
  · match a with
    | ⟨0, _⟩ => show win0_2.index t 0 * 256 ≤ (i 0 : Nat) ∧ (i 0 : Nat) < win0_2.index t 0 * 256 + win0_2.xsize (grid0.coords t) 0
                rw [e0, x0]; exact h
    | ⟨1, _⟩ => show win0_2.index t 1 * 4096 ≤ (i 1 : Nat) ∧ (i 1 : Nat) < win0_2.index t 1 * 4096 + win0_2.xsize (grid0.coords t) 1
                rw [e1, x1]; exact ⟨(Nat.zero_mul _).le.trans (Nat.zero_le _), hi.trans_le (by rw [Nat.zero_mul, Nat.zero_add])⟩

theorem cover2 (i : S12288x4096.Idx) : ∃ t : Fin cfg0.N, (cfg0.win 2).flush t = true ∧ i ∈ ((cfg0.win 2).blk t).view.set := by
  have h0 : (i 0 : Nat) < 12288 := (i 0).isLt
  refine ⟨⟨(i 0 : Nat) / 256, by show _ < grid0.N; rw [N_0]; omega⟩, flush0_2 _, ?_⟩
  rw [mem_blk2]
  dsimp only
  omega

include hx in
theorem final2 : (dats m 0 c).arrAt 2 cfg0.N = outCodes (args m c) :=
  (dats m 0 c).arrAt_eq_of_cover 2 _ (fun t _ => flushed2_eq hx t) cover2

include hx in
theorem flushed3_eq (t : Fin cfg0.N) : (dats m 0 c).flushed 3 t = (win0_3.blk t).view.read (Elt Ideal) (outScales (args m c)) := by
  rw [Value.flushed3_A]
  unfold out0_A_3
  rw [View.read_writes_junk_eq_canon]
  obtain ⟨-, -, -, ⟨e0, e1, -, -⟩, -⟩ := idx_facts t
  funext j
  show View.canon _ (_ : S256x128.Idx) = outScales (args m c) ((win0_3.rect t).emb j)
  refine (View.canon_apply_of_pieces (Val := Elt Ideal) (Point.scales (rows m c t)) _ ?_ _
    (cover0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) _)).trans ?_
  · unfold kernelRun0_A
    dsimp only
    exact (pieces hx t (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)).2.1
  · have h0 : (((win0_3.rect t).emb j : S12288x128.Idx) 0).val = 256 * t.val + (j 0).val := by
      show win0_3.index t 0 * 256 + 1 * (j 0).val = _
      rw [e0]; omega
    have h1 : (((win0_3.rect t).emb j : S12288x128.Idx) 1).val = (j 1).val := by
      show win0_3.index t 1 * 128 + 1 * (j 1).val = _
      rw [e1]; omega
    unfold outScales Point.scales rows
    rw [h0, h1]

theorem mem_blk3 (t : Fin cfg0.N) (i : S12288x128.Idx) :
    i ∈ ((cfg0.win 3).blk t).view.set ↔ t.val * 256 ≤ (i 0 : Nat) ∧ (i 0 : Nat) < t.val * 256 + 256 := by
  show i ∈ ((View.whole main_v24_1).slice (win0_3.rect t)).set ↔ _
  rw [View.set_slice_whole, Rect.mem_set_unit]
  obtain ⟨-, -, -, ⟨e0, e1, x0, x1⟩, -⟩ := idx_facts t
  have hi : (i 1 : Nat) < 128 := (i 1).isLt
  refine ⟨fun h => ?_, fun h a => ?_⟩
  · have : win0_3.index t 0 * 256 ≤ (i 0 : Nat) ∧ (i 0 : Nat) < win0_3.index t 0 * 256 + win0_3.xsize (grid0.coords t) 0 := h 0
    rw [e0, x0] at this; exact this
  · match a with
    | ⟨0, _⟩ => show win0_3.index t 0 * 256 ≤ (i 0 : Nat) ∧ (i 0 : Nat) < win0_3.index t 0 * 256 + win0_3.xsize (grid0.coords t) 0
                rw [e0, x0]; exact h
    | ⟨1, _⟩ => show win0_3.index t 1 * 128 ≤ (i 1 : Nat) ∧ (i 1 : Nat) < win0_3.index t 1 * 128 + win0_3.xsize (grid0.coords t) 1
                rw [e1, x1]; exact ⟨(Nat.zero_mul _).le.trans (Nat.zero_le _), hi.trans_le (by rw [Nat.zero_mul, Nat.zero_add])⟩

theorem cover3 (i : S12288x128.Idx) : ∃ t : Fin cfg0.N, (cfg0.win 3).flush t = true ∧ i ∈ ((cfg0.win 3).blk t).view.set := by
  have h0 : (i 0 : Nat) < 12288 := (i 0).isLt
  refine ⟨⟨(i 0 : Nat) / 256, by show _ < grid0.N; rw [N_0]; omega⟩, flush0_3 _, ?_⟩
  rw [mem_blk3]
  dsimp only
  omega

include hx in
theorem final3 : (dats m 0 c).arrAt 3 cfg0.N = outScales (args m c) :=
  (dats m 0 c).arrAt_eq_of_cover 3 _ (fun t _ => flushed3_eq hx t) cover3

include hx in
theorem flushed4_eq (t : Fin cfg0.N) : (dats m 0 c).flushed 4 t = (win0_4.blk t).view.read (Elt Ideal) (outMasks (args m c)) := by
  rw [Value.flushed4_A]
  unfold out0_A_4
  rw [View.read_writes_junk_eq_canon]
  obtain ⟨-, -, -, -, ⟨e0, e1, -, -⟩, -⟩ := idx_facts t
  funext j
  show View.canon _ (_ : S256x512.Idx) = outMasks (args m c) ((win0_4.rect t).emb j)
  refine (View.canon_apply_of_pieces (Val := Elt Ideal) (Point.masks (rows m c t)) _ ?_ _
    (cover0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) _)).trans ?_
  · unfold kernelRun0_A
    dsimp only
    exact (pieces hx t (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)).2.2.1
  · have h0 : (((win0_4.rect t).emb j : S12288x512.Idx) 0).val = 256 * t.val + (j 0).val := by
      show win0_4.index t 0 * 256 + 1 * (j 0).val = _
      rw [e0]; omega
    have h1 : (((win0_4.rect t).emb j : S12288x512.Idx) 1).val = (j 1).val := by
      show win0_4.index t 1 * 512 + 1 * (j 1).val = _
      rw [e1]; omega
    unfold outMasks Point.masks rows
    rw [h0, h1]

theorem mem_blk4 (t : Fin cfg0.N) (i : S12288x512.Idx) :
    i ∈ ((cfg0.win 4).blk t).view.set ↔ t.val * 256 ≤ (i 0 : Nat) ∧ (i 0 : Nat) < t.val * 256 + 256 := by
  show i ∈ ((View.whole main_v24_2).slice (win0_4.rect t)).set ↔ _
  rw [View.set_slice_whole, Rect.mem_set_unit]
  obtain ⟨-, -, -, -, ⟨e0, e1, x0, x1⟩, -⟩ := idx_facts t
  have hi : (i 1 : Nat) < 512 := (i 1).isLt
  refine ⟨fun h => ?_, fun h a => ?_⟩
  · have : win0_4.index t 0 * 256 ≤ (i 0 : Nat) ∧ (i 0 : Nat) < win0_4.index t 0 * 256 + win0_4.xsize (grid0.coords t) 0 := h 0
    rw [e0, x0] at this; exact this
  · match a with
    | ⟨0, _⟩ => show win0_4.index t 0 * 256 ≤ (i 0 : Nat) ∧ (i 0 : Nat) < win0_4.index t 0 * 256 + win0_4.xsize (grid0.coords t) 0
                rw [e0, x0]; exact h
    | ⟨1, _⟩ => show win0_4.index t 1 * 512 ≤ (i 1 : Nat) ∧ (i 1 : Nat) < win0_4.index t 1 * 512 + win0_4.xsize (grid0.coords t) 1
                rw [e1, x1]; exact ⟨(Nat.zero_mul _).le.trans (Nat.zero_le _), hi.trans_le (by rw [Nat.zero_mul, Nat.zero_add])⟩

theorem cover4 (i : S12288x512.Idx) : ∃ t : Fin cfg0.N, (cfg0.win 4).flush t = true ∧ i ∈ ((cfg0.win 4).blk t).view.set := by
  have h0 : (i 0 : Nat) < 12288 := (i 0).isLt
  refine ⟨⟨(i 0 : Nat) / 256, by show _ < grid0.N; rw [N_0]; omega⟩, flush0_4 _, ?_⟩
  rw [mem_blk4]
  dsimp only
  omega

include hx in
theorem final4 : (dats m 0 c).arrAt 4 cfg0.N = outMasks (args m c) :=
  (dats m 0 c).arrAt_eq_of_cover 4 _ (fun t _ => flushed4_eq hx t) cover4

include hx in
theorem flushed5_eq (t : Fin cfg0.N) : (dats m 0 c).flushed 5 t = (win0_5.blk t).view.read (Elt Ideal) (outDeq (args m c)) := by
  rw [Value.flushed5_A]
  unfold out0_A_5
  rw [View.read_writes_junk_eq_canon]
  obtain ⟨-, -, -, -, -, ⟨e0, e1, -, -⟩⟩ := idx_facts t
  funext j
  show View.canon _ (_ : S256x4096.Idx) = outDeq (args m c) ((win0_5.rect t).emb j)
  refine (View.canon_apply_of_pieces (Val := Elt Ideal) (Point.deq (rows m c t)) _ ?_ _
    (cover0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) _)).trans ?_
  · unfold kernelRun0_A
    dsimp only
    exact (pieces hx t (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)).2.2.2
  · have h0 : (((win0_5.rect t).emb j : S12288x4096.Idx) 0).val = 256 * t.val + (j 0).val := by
      show win0_5.index t 0 * 256 + 1 * (j 0).val = _
      rw [e0]; omega
    have h1 : (((win0_5.rect t).emb j : S12288x4096.Idx) 1).val = (j 1).val := by
      show win0_5.index t 1 * 4096 + 1 * (j 1).val = _
      rw [e1]; omega
    unfold outDeq Point.deq rows
    rw [h0, h1]

theorem mem_blk5 (t : Fin cfg0.N) (i : S12288x4096.Idx) :
    i ∈ ((cfg0.win 5).blk t).view.set ↔ t.val * 256 ≤ (i 0 : Nat) ∧ (i 0 : Nat) < t.val * 256 + 256 := by
  show i ∈ ((View.whole main_v24_3).slice (win0_5.rect t)).set ↔ _
  rw [View.set_slice_whole, Rect.mem_set_unit]
  obtain ⟨-, -, -, -, -, ⟨e0, e1, x0, x1⟩⟩ := idx_facts t
  have hi : (i 1 : Nat) < 4096 := (i 1).isLt
  refine ⟨fun h => ?_, fun h a => ?_⟩
  · have : win0_5.index t 0 * 256 ≤ (i 0 : Nat) ∧ (i 0 : Nat) < win0_5.index t 0 * 256 + win0_5.xsize (grid0.coords t) 0 := h 0
    rw [e0, x0] at this; exact this
  · match a with
    | ⟨0, _⟩ => show win0_5.index t 0 * 256 ≤ (i 0 : Nat) ∧ (i 0 : Nat) < win0_5.index t 0 * 256 + win0_5.xsize (grid0.coords t) 0
                rw [e0, x0]; exact h
    | ⟨1, _⟩ => show win0_5.index t 1 * 4096 ≤ (i 1 : Nat) ∧ (i 1 : Nat) < win0_5.index t 1 * 4096 + win0_5.xsize (grid0.coords t) 1
                rw [e1, x1]; exact ⟨(Nat.zero_mul _).le.trans (Nat.zero_le _), hi.trans_le (by rw [Nat.zero_mul, Nat.zero_add])⟩

theorem cover5 (i : S12288x4096.Idx) : ∃ t : Fin cfg0.N, (cfg0.win 5).flush t = true ∧ i ∈ ((cfg0.win 5).blk t).view.set := by
  have h0 : (i 0 : Nat) < 12288 := (i 0).isLt
  refine ⟨⟨(i 0 : Nat) / 256, by show _ < grid0.N; rw [N_0]; omega⟩, flush0_5 _, ?_⟩
  rw [mem_blk5]
  dsimp only
  omega

include hx in
theorem final5 : (dats m 0 c).arrAt 5 cfg0.N = outDeq (args m c) :=
  (dats m 0 c).arrAt_eq_of_cover 5 _ (fun t _ => flushed5_eq hx t) cover5

/-- The run, read: on a tame argument the four results are the quantiser's, and the argument ends unchanged. -/
theorem run (hx : ∀ c : Dev nD, Tame (args m c)) : θ_run defs (onTc (τ := τ) (main (F := Ideal))) ⟨m, fun _ => 0, ρ⟩ fun r => ∀ c : Dev nD,
      r.2.mem ((c : Thread nD τ).loc main_v24_0) = outCodes (args m c)
      ∧ r.2.mem ((c : Thread nD τ).loc main_v24_1) = outScales (args m c)
      ∧ r.2.mem ((c : Thread nD τ).loc main_v24_2) = outMasks (args m c)
      ∧ r.2.mem ((c : Thread nD τ).loc main_v24_3) = outDeq (args m c)
      ∧ r.2.mem ((c : Thread nD τ).loc main_arg0) = m ((c : Thread nD τ).loc main_arg0) :=
  (θ_run defs _ _).mono (fun _ h c => ⟨(h c).1.trans (final2 (hx c)), (h c).2.1.trans (final3 (hx c)), (h c).2.2.1.trans (final4 (hx c)),
    (h c).2.2.2.1.trans (final5 (hx c)), (h c).2.2.2.2⟩) (Value.run_blocks m ρ)

end Cert.QuantXIdeal.Value

end
-- ==== Proof.QuantXRefHost.lean ====
/-
  What the reference's quantiser finds in its two arrays: the Hadamard transform of the argument's rows, block by block,
  and each block's root mean square.
-/
module

public import proofs.«01_k».proof.Proof.Gen.QuantXRefIdeal.Read
public import proofs.«01_k».proof.Proof.QuantXValue
public import Idealize.ShloMosaic.Lib.IdealHost
public import Idealize.ShloMosaic.Lib.Pointwise.Reduce
public import Idealize.ShloMosaic.Lib.StableHlo.Run

@[expose] public section

set_option maxRecDepth 16384

noncomputable section

namespace Cert.QuantXRefIdeal.Entry

open Cert.QuantXRefIdeal Cert.QuantXRefIdeal.Gen Cert.Quantiser Idealize.ShloMosaic Idealize.ShloMosaic.TcCoe Idealize.SL.Sem
open Idealize.ShloMosaic.StableHlo
open Cert.QuantXIdeal.Value (rowsOf Tame rowsOf_eq big)

variable (m : (ℓ : Loc nD τ sig) → Buf (Elt Ideal) ℓ)

/-- The argument's rows. -/
abbrev args (c : Dev nD) : FVec Ideal Cert.QuantXIdeal.S12288x4096 .bf16 :=
  shapeCast Cert.QuantXIdeal.S12288x4096 (m ((c : Thread nD τ).loc main_arg0)) Cert.QuantXIdeal.Gen.shapeCasts_S8x1536x4096_S12288x4096

/-! ## The host code, operation by operation -/

theorem v0 (c : Dev nD) : V m c main_v0 = shapeCast S12288x128x32 (m ((c : Thread nD τ).loc main_arg0)) shapeCasts_S8x1536x4096_S12288x128x32 := by
  unfold V V0
  simp only [hostOps0, hostOps0_1, hostOps0_2, List.flatten_cons, List.flatten_nil, List.cons_append, List.nil_append, List.append_nil]
  after_results
  all_goals rfl

set_option maxHeartbeats 4000000 in
theorem v13 (c : Dev nD) (x : S32x32.Idx) : (V m c main_v13 x : EReal) = ((had (x 0).val (x 1).val : ℝ) : EReal) := by
  have h : V m c main_v13 x = Scalar.select (BitVec.ofBool ((IntOp.ctpop (BitVec.ofNat 32 (x 0).val &&& BitVec.ofNat 32 (x 1).val) &&& 1#32) == 0#32))
        (Ideal.ofBits .f32 0x3F800000#32) (Ideal.ofBits .f32 0xBF800000#32) := by
    unfold V V0
    simp only [hostOps0, hostOps0_1, hostOps0_2, List.flatten_cons, List.flatten_nil, List.cons_append, List.nil_append, List.append_nil]
    after_results
    simp only [TRef.ofBuf_toBuf, TRef.ofBuf, TRef.toBuf, cast_eq, id_eq]
    rfl
  rw [h, bits_1, bits_m1]
  have hs : ∀ (p : Bool) (a b : EReal), Scalar.select (BitVec.ofBool p) a b = if p then a else b := by
    intro p a b; cases p <;> rfl
  rw [hs]
  unfold had parity
  split <;> rfl

set_option maxHeartbeats 4000000 in
theorem v16 (c : Dev nD) : V m c main_v16 = mulf (Host.dotGeneral (F := Ideal) (φ₁ := .bf16) (φ₂ := .bf16) dot_S12288x128x32_S32x32_S12288x128x32_2_0_01_1_n_n none (V m c main_v0) (V m c main_v13))
    (broadcastInDim S12288x128x32 ![] bcast_S_S12288x128x32 (constant (F := Ideal) S_ .f32 0x3E3504F3#32)) := by
  unfold V V0
  simp only [hostOps0, hostOps0_1, hostOps0_2, List.flatten_cons, List.flatten_nil, List.cons_append, List.nil_append, List.append_nil]
  after_results
  all_goals rfl

set_option maxHeartbeats 4000000 in
theorem v22 (c : Dev nD) : V m c main_v22 = Host.sqrt (Host.divf (broadcastInDim S12288x128x1 ![0, 1] bcast_S12288x128_S12288x128x1_0_1
      (Host.reduceAdd (F := Ideal) (mulf (V m c main_v16) (V m c main_v16)) (constant (F := Ideal) S_ .f32 0x00000000#32) reducesTo_S12288x128x32_S12288x128_d2 h_S_))
    (broadcastInDim S12288x128x1 ![] bcast_S_S12288x128x1 (constant (F := Ideal) S_ .f32 0x42000000#32))) := by
  unfold V V0
  simp only [hostOps0, hostOps0_1, hostOps0_2, List.flatten_cons, List.flatten_nil, List.cons_append, List.nil_append, List.append_nil]
  after_results
  all_goals rfl

/-! ## The product, entry by entry -/

theorem lhs_0 (i : S12288x128x32.Idx) (q : dot_S12288x128x32_S32x32_S12288x128x32_2_0_01_1_n_n.contr.Idx) :
    (dot_S12288x128x32_S32x32_S12288x128x32_2_0_01_1_n_n.lhsIdx i q 0).val = (i 0).val := by
  unfold DotDims.lhsIdx
  rw [dif_neg (show ¬(0 : Fin S12288x128x32.rank) ∈ dot_S12288x128x32_S32x32_S12288x128x32_2_0_01_1_n_n.lhsBatch by decide), dif_pos (show (0 : Fin S12288x128x32.rank) ∈ dot_S12288x128x32_S32x32_S12288x128x32_2_0_01_1_n_n.lhsNonContracting by decide)]
  rfl
theorem lhs_1 (i : S12288x128x32.Idx) (q : dot_S12288x128x32_S32x32_S12288x128x32_2_0_01_1_n_n.contr.Idx) :
    (dot_S12288x128x32_S32x32_S12288x128x32_2_0_01_1_n_n.lhsIdx i q 1).val = (i 1).val := by
  unfold DotDims.lhsIdx
  rw [dif_neg (show ¬(1 : Fin S12288x128x32.rank) ∈ dot_S12288x128x32_S32x32_S12288x128x32_2_0_01_1_n_n.lhsBatch by decide), dif_pos (show (1 : Fin S12288x128x32.rank) ∈ dot_S12288x128x32_S32x32_S12288x128x32_2_0_01_1_n_n.lhsNonContracting by decide)]
  rfl
theorem rhs_1 (i : S12288x128x32.Idx) (q : dot_S12288x128x32_S32x32_S12288x128x32_2_0_01_1_n_n.contr.Idx) :
    (dot_S12288x128x32_S32x32_S12288x128x32_2_0_01_1_n_n.rhsIdx i q 1).val = (i 2).val := by
  unfold DotDims.rhsIdx
  rw [dif_neg (show ¬(1 : Fin S32x32.rank) ∈ dot_S12288x128x32_S32x32_S12288x128x32_2_0_01_1_n_n.rhsBatch by decide), dif_pos (show (1 : Fin S32x32.rank) ∈ dot_S12288x128x32_S32x32_S12288x128x32_2_0_01_1_n_n.rhsNonContracting by decide)]
  rfl

/-- An index of the blocked array. -/
abbrev tri (r : Fin 12288) (b : Fin 128) (k : Fin 32) : S12288x128x32.Idx := fun a => match a with
  | ⟨0, _⟩ => r
  | ⟨1, _⟩ => b
  | ⟨2, _⟩ => k
/-- An index of the Hadamard matrix. -/
abbrev duo (k j : Fin 32) : S32x32.Idx := fun a => match a with
  | ⟨0, _⟩ => k
  | ⟨1, _⟩ => j

theorem dot_apply (a : FVec Ideal S12288x128x32 .bf16) (b : FVec Ideal S32x32 .bf16) (i : S12288x128x32.Idx) :
    (Host.dotGeneral (F := Ideal) (φ₁ := .bf16) (φ₂ := .bf16) dot_S12288x128x32_S32x32_S12288x128x32_2_0_01_1_n_n none a b i : EReal)
      = ∑ k : Fin 32, (a (tri (i 0) (i 1) k) : EReal) * (b (duo k (i 2)) : EReal) := by
  simp only [Host.dotGeneral]
  rw [Ideal.dotGeneral_apply, ← Equiv.sum_comp (ValueIdx.contrEquiv1 dot_S12288x128x32_S32x32_S12288x128x32_2_0_01_1_n_n 32 rfl rfl).symm]
  refine Finset.sum_congr rfl fun k _ => ?_
  have hk := ValueIdx.contrEquiv1_symm_val dot_S12288x128x32_S32x32_S12288x128x32_2_0_01_1_n_n 32 rfl rfl k
  have el : dot_S12288x128x32_S32x32_S12288x128x32_2_0_01_1_n_n.lhsIdx i ((ValueIdx.contrEquiv1 dot_S12288x128x32_S32x32_S12288x128x32_2_0_01_1_n_n 32 rfl rfl).symm k) = tri (i 0) (i 1) k := funext fun a => Fin.ext (by
    match a with
    | ⟨0, _⟩ => exact lhs_0 _ _
    | ⟨1, _⟩ => exact lhs_1 _ _
    | ⟨2, _⟩ => exact (dot_S12288x128x32_S32x32_S12288x128x32_2_0_01_1_n_n.lhsIdx_val_of_single rfl i _).trans hk)
  have er : dot_S12288x128x32_S32x32_S12288x128x32_2_0_01_1_n_n.rhsIdx i ((ValueIdx.contrEquiv1 dot_S12288x128x32_S32x32_S12288x128x32_2_0_01_1_n_n 32 rfl rfl).symm k) = duo k (i 2) := funext fun a => Fin.ext (by
    match a with
    | ⟨0, _⟩ => exact (dot_S12288x128x32_S32x32_S12288x128x32_2_0_01_1_n_n.rhsIdx_val_of_single rfl i _).trans hk
    | ⟨1, _⟩ => exact rhs_1 _ _)
  rw [el, er]

/-! ## The two arrays as reals -/

variable {m}
variable {c : Dev nD} (hx : Tame (args m c))

/-- The transform of a row. -/
abbrev row (m : (ℓ : Loc nD τ sig) → Buf (Elt Ideal) ℓ) (c : Dev nD) (r : ℕ) : ℕ → ℝ := rotR (rowsOf (args m c) r)

include hx in
theorem v0_real (x : S12288x128x32.Idx) :
    (V m c main_v0 x : EReal) = ((rowsOf (args m c) (x 0).val (32 * (x 1).val + (x 2).val) : ℝ) : EReal) := by
  rw [← rowsOf_eq hx, v0]
  have h0 : (x 0).val < 12288 := (x 0).isLt
  have h1 : (x 1).val < 128 := (x 1).isLt
  have h2 : (x 2).val < 32 := (x 2).isLt
  let k : S8x1536x4096.Idx := fun a => match a with
    | ⟨0, _⟩ => ⟨(x 0).val / 1536, by show _ < 8; omega⟩
    | ⟨1, _⟩ => ⟨(x 0).val % 1536, by show _ < 1536; omega⟩
    | ⟨2, _⟩ => ⟨32 * (x 1).val + (x 2).val, by show _ < 4096; omega⟩
  refine (shapeCast_apply _ _ x k ?_).trans (shapeCast_apply _ _ _ k ?_).symm
  · rw [Shape.rowMajor_val_three, Shape.rowMajor_val_three]
    show ((x 0).val / 1536 * 1536 + (x 0).val % 1536) * 4096 + (32 * (x 1).val + (x 2).val) = ((x 0).val * 128 + (x 1).val) * 32 + (x 2).val
    omega
  · rw [Shape.rowMajor_val_three, Shape.rowMajor_val_two]
    show ((x 0).val / 1536 * 1536 + (x 0).val % 1536) * 4096 + (32 * (x 1).val + (x 2).val) = (x 0).val % 12288 * 4096 + (32 * (x 1).val + (x 2).val) % 4096
    omega

include hx in
theorem v16_real (x : S12288x128x32.Idx) :
    (V m c main_v16 x : EReal) = ((row m c (x 0).val (32 * (x 1).val + (x 2).val) : ℝ) : EReal) := by
  have h2 : (x 2).val < 32 := (x 2).isLt
  rw [v16]
  show (Host.dotGeneral (F := Ideal) (φ₁ := .bf16) (φ₂ := .bf16) dot_S12288x128x32_S32x32_S12288x128x32_2_0_01_1_n_n none (V m c main_v0) (V m c main_v13) x : EReal)
    * Ideal.ofBits .f32 0x3E3504F3#32 = _
  rw [dot_apply, bits_norm]
  unfold row rotR
  rw [EReal.coe_mul]
  refine congrArg (· * (norm : EReal)) ?_
  rw [show (32 * (x 1).val + (x 2).val) / 32 = (x 1).val by omega, show (32 * (x 1).val + (x 2).val) % 32 = (x 2).val by omega, Finset.sum_range, Cert.QuantXIdeal.Trip.coe_sum']
  refine Finset.sum_congr rfl fun k _ => ?_
  rw [v0_real hx, v13, ← EReal.coe_mul]

include hx in
theorem v22_real (x : S12288x128x1.Idx) : (V m c main_v22 x : EReal) = ((rmsR (row m c (x 0).val) (x 1).val : ℝ) : EReal) := by
  rw [v22]
  show Ideal.sqrt (Ideal.div (broadcastInDim S12288x128x1 ![0, 1] bcast_S12288x128_S12288x128x1_0_1
      (Host.reduceAdd (F := Ideal) (mulf (V m c main_v16) (V m c main_v16)) (constant (F := Ideal) S_ .f32 0x00000000#32) reducesTo_S12288x128x32_S12288x128_d2 h_S_) x)
    (Ideal.ofBits .f32 0x42000000#32)) = _
  rw [broadcastInDim_apply _ bcast_S12288x128_S12288x128x1_0_1 _ x (fun a => match a with
    | ⟨0, _⟩ => x 0
    | ⟨1, _⟩ => x 1) (fun a => match a with
    | ⟨0, _⟩ => by show (x 0).val = if (12288 : Nat) = 1 then 0 else (x 0).val; rw [if_neg (by decide)]
    | ⟨1, _⟩ => by show (x 1).val = if (128 : Nat) = 1 then 0 else (x 1).val; rw [if_neg (by decide)])]
  rw [ValueIdx.hostReduceAdd_apply, Ideal.hostReduceAdd_r3_a2]
  obtain ⟨sq, hsq⟩ : ∃ sq : FVec Ideal S12288x128x32 .f32, sq = mulf (V m c main_v16) (V m c main_v16) := ⟨_, rfl⟩
  have e : ∀ k : Fin 32, (sq (tri (x 0) (x 1) k) : EReal)
      = ((row m c (x 0).val (32 * (x 1).val + k.val) * row m c (x 0).val (32 * (x 1).val + k.val) : ℝ) : EReal) := fun k => by
    rw [hsq]
    have h := v16_real hx (tri (x 0) (x 1) k)
    exact (congrArg₂ (fun a b : EReal => a * b) h h).trans (EReal.coe_mul _ _).symm
  have e' : (∑ k : Fin 32, (sq (tri (x 0) (x 1) k) : EReal)) = ((sumSqR (row m c (x 0).val) (x 1).val : ℝ) : EReal) := by
    rw [Finset.sum_congr rfl fun k _ => e k, ← Cert.QuantXIdeal.Trip.coe_sum']
    unfold sumSqR
    rw [Finset.sum_range]
  refine (congrArg (fun s => Ideal.sqrt (Ideal.div (Ideal.ofBits .f32 0x00000000#32 + s) (Ideal.ofBits .f32 0x42000000#32))) ?_).trans
    (b := Ideal.sqrt (Ideal.div (Ideal.ofBits .f32 0x00000000#32 + ((sumSqR (row m c (x 0).val) (x 1).val : ℝ) : EReal)) (Ideal.ofBits .f32 0x42000000#32))) ?_
  · refine Eq.trans (Finset.sum_congr rfl fun k _ => (congrFun hsq.symm _).trans (congrArg sq (funext fun a => ?_))) e'
    match a with
    | ⟨0, _⟩ => rfl
    | ⟨1, _⟩ => rfl
    | ⟨2, _⟩ => rfl
  · rw [bits_0, bits_32, ← EReal.coe_add, zero_add, Ideal.div_coe (by norm_num), ← EReal.coe_mul, Ideal.sqrt_coe,
      if_neg (not_lt.2 (mul_nonneg (sumSqR_nonneg _ _) (by norm_num)))]
    rfl

end Cert.QuantXRefIdeal.Entry

end
-- ==== Proof.QuantXRefBody.lean ====
/-
  The reference's quantiser at the ideal instance: what its lines compute of a block's entries and root mean square.
-/
module

public import proofs.«01_k».proof.Proof.QuantXRefHost

@[expose] public section

set_option maxRecDepth 16384

noncomputable section

namespace Cert.QuantXRefIdeal.Body

open Cert.QuantXRefIdeal Cert.QuantXRefIdeal.Gen Cert.Quantiser Idealize.ShloMosaic Idealize.ShloMosaic.TcCoe Idealize.SL.Sem
open Cert.QuantXIdeal.Trip (select_ofBool coe_max' coe_min' coe_abs')

variable {v0 : Vec Ideal S12288x128x1 .f32} {v14 : Vec Ideal S12288x128x32 .f32} {A : ℕ → ℕ → ℝ}
variable (h0 : ∀ y, (v0 y : EReal) = ((rmsR (A (y 0).val) (y 1).val : ℝ) : EReal))
variable (h14 : ∀ x, (v14 x : EReal) = ((A (x 0).val (32 * (x 1).val + (x 2).val) : ℝ) : EReal))
variable (ht : ∀ r b, TameBlock (A r) b)

include h0 ht in
/-- The exponent. -/
theorem exponent (y : S12288x128x1.Idx) : (k0_pay4 (F := Ideal) v0 y : EReal) = (((expR (A (y 0).val) (y 1).val : ℤ) : ℝ) : EReal) := by
  have e : (k0_pay4 (F := Ideal) v0 y : EReal) = Scalar.select (BitVec.ofBool (decide ((shapeCast S12288x128x1 v0 shapeCasts_S12288x128x1_S12288x128x1 y : EReal) = Ideal.ofBits .f32 0x00000000#32)))
      (Ideal.ofBits .f32 0x00000000#32)
      (Ideal.liftRound Int.floor (Ideal.log (Ideal.ofBits .f32 0x403AE148#32 * (shapeCast S12288x128x1 v0 shapeCasts_S12288x128x1_S12288x128x1 y : EReal) * Ideal.ofBits .f32 0x3E2AAAAB#32)
        * (((Real.log 2)⁻¹ : ℝ) : EReal))) := rfl
  rw [e, shapeCast_self, h0, bits_0, bits_alpha, bits_sixth, ← EReal.coe_mul, ← EReal.coe_mul, select_ofBool]
  simp only [EReal.coe_eq_coe_iff, decide_eq_true_eq]
  by_cases hz : rmsR (A (y 0).val) (y 1).val = 0
  · rw [if_pos hz, expR, if_pos hz]; simp
  · obtain ⟨h1, -⟩ := (ht (y 0).val (y 1).val).resolve_left hz
    have hp : 0 < ampR (A (y 0).val) (y 1).val := lt_of_lt_of_le (zpow_pos (by norm_num) _) h1
    rw [if_neg hz, expR, if_neg hz, Ideal.log_coe, if_neg (show ¬ alpha * rmsR (A (y 0).val) (y 1).val * sixth ≤ 0 from not_le.2 hp), ← EReal.coe_mul]
    rfl

include h0 h14 ht in
/-- An entry, scaled. -/
theorem scaled (x : S12288x128x32.Idx) :
    (k0_pay5 (F := Ideal) v0 v14 x : EReal) = ((scaledR (A (x 0).val) (32 * (x 1).val + (x 2).val) : ℝ) : EReal) := by
  have h2 : (x 2).val < 32 := (x 2).isLt
  have e : (k0_pay5 (F := Ideal) v0 v14 x : EReal) = (shapeCast S12288x128x32 v14 shapeCasts_S12288x128x32_S12288x128x32 x : EReal)
    * (broadcastTo S12288x128x32 (fun y => Ideal.exp2 (Ideal.ofBits .f32 0x00000000#32 - (k0_pay4 (F := Ideal) v0 y : EReal))) broadcasts_S12288x128x1_S12288x128x32 x) := rfl
  rw [e, shapeCast_self, h14, broadcastTo_apply _ broadcasts_S12288x128x1_S12288x128x32 x (fun a => match a with
    | ⟨0, _⟩ => x 0
    | ⟨1, _⟩ => x 1
    | ⟨2, _⟩ => ⟨0, Nat.one_pos⟩) (fun a => match a with
    | ⟨0, _⟩ => by show (x 0).val = if (12288 : Nat) = 1 then 0 else (x 0).val; rw [if_neg (by decide)]
    | ⟨1, _⟩ => by show (x 1).val = if (128 : Nat) = 1 then 0 else (x 1).val; rw [if_neg (by decide)]
    | ⟨2, _⟩ => by show 0 = if (1 : Nat) = 1 then 0 else (x 2).val; rw [if_pos rfl])]
  rw [exponent h0 ht, bits_0, ← EReal.coe_sub, Ideal.exp2_coe, ← EReal.coe_mul]
  refine congrArg Real.toEReal ?_
  show A (x 0).val (32 * (x 1).val + (x 2).val) * (2 : ℝ) ^ (0 - ((expR (A (x 0).val) (x 1).val : ℤ) : ℝ)) = _
  unfold scaledR
  rw [show (32 * (x 1).val + (x 2).val) / 32 = (x 1).val by omega, zero_sub, ← Int.cast_neg, Real.rpow_intCast]

include h0 h14 ht in
/-- Whether it is not clipped. -/
theorem kept (x : S12288x128x32.Idx) :
    k0_pay6 (F := Ideal) v0 v14 x = BitVec.ofBool (keptR (A (x 0).val) (32 * (x 1).val + (x 2).val)) := by
  have e : k0_pay6 (F := Ideal) v0 v14 x = BitVec.ofBool (decide (max (k0_pay5 (F := Ideal) v0 v14 x : EReal) (-(k0_pay5 (F := Ideal) v0 v14 x : EReal)) ≤ Ideal.ofBits .f32 0x40C00000#32)) := rfl
  rw [e, scaled h0 h14 ht, coe_abs', bits_6]
  simp only [EReal.coe_le_coe_iff]
  rfl

include h0 h14 ht in
/-- The entry, clipped. -/
theorem clipped (x : S12288x128x32.Idx) :
    (k0_pay7 (F := Ideal) v0 v14 x : EReal) = ((clipR (scaledR (A (x 0).val) (32 * (x 1).val + (x 2).val)) : ℝ) : EReal) := by
  have e : (k0_pay7 (F := Ideal) v0 v14 x : EReal) = min (Ideal.ofBits .f32 0x40C00000#32) (max (Ideal.ofBits .f32 0xC0C00000#32) (k0_pay5 (F := Ideal) v0 v14 x : EReal)) := rfl
  rw [e, scaled h0 h14 ht, bits_6, bits_m6, ← coe_max', ← coe_min']
  rfl

/-- The sign, the step and the rounding of a clipped real. -/
theorem rounded (x : S12288x128x32.Idx) (z : ℝ) (h : (k0_pay7 (F := Ideal) v0 v14 x : EReal) = (z : EReal)) :
    (k0_pay1 (F := Ideal) (k0_pay7 v0 v14) (k0_pay8 v0 v14) (k0_pay9 v0 v14) k0_pay10 x : EReal) = ((roundR z : ℝ) : EReal) := by
  have ha : (k0_pay8 (F := Ideal) v0 v14 x : EReal) = ((|z| : ℝ) : EReal) := by
    have e : (k0_pay8 (F := Ideal) v0 v14 x : EReal) = max (k0_pay7 (F := Ideal) v0 v14 x : EReal) (-(k0_pay7 (F := Ideal) v0 v14 x : EReal)) := rfl
    rw [e, h, coe_abs']
  have hs : (k0_pay9 (F := Ideal) v0 v14 x : EReal) = ((stepR |z| : ℝ) : EReal) := by
    have e : (k0_pay9 (F := Ideal) v0 v14 x : EReal) = Scalar.select (BitVec.ofBool (decide ((k0_pay8 (F := Ideal) v0 v14 x : EReal) < Ideal.ofBits .f32 0x40000000#32))) (Ideal.ofBits .f32 0x3F000000#32)
        (Scalar.select (BitVec.ofBool (decide ((k0_pay8 (F := Ideal) v0 v14 x : EReal) < Ideal.ofBits .f32 0x40800000#32))) (Ideal.ofBits .f32 0x3F800000#32) (Ideal.ofBits .f32 0x40000000#32)) := rfl
    rw [e, ha, bits_2, bits_4, bits_1, bits_half]
    simp only [select_ofBool, EReal.coe_lt_coe_iff, decide_eq_true_eq]
    unfold stepR
    split_ifs <;> rfl
  have hp : stepR |z| ≠ 0 := by unfold stepR; split_ifs <;> norm_num
  have e : (k0_pay1 (F := Ideal) (k0_pay7 v0 v14) (k0_pay8 v0 v14) (k0_pay9 v0 v14) k0_pay10 x : EReal)
      = Scalar.select (BitVec.ofBool (decide ((k0_pay7 (F := Ideal) v0 v14 x : EReal) < Ideal.ofBits .f32 0x00000000#32))) (Ideal.ofBits .f32 0xBF800000#32)
          (Scalar.select (BitVec.ofBool (decide (Ideal.ofBits .f32 0x00000000#32 < (k0_pay7 (F := Ideal) v0 v14 x : EReal)))) (Ideal.ofBits .f32 0x3F800000#32) (Ideal.ofBits .f32 0x00000000#32))
        * (k0_pay9 (F := Ideal) v0 v14 x : EReal)
        * Ideal.liftRound Ideal.roundHalfEven ((k0_pay8 (F := Ideal) v0 v14 x : EReal) * Ideal.div (Ideal.ofBits .f32 0x3F800000#32) (k0_pay9 (F := Ideal) v0 v14 x : EReal)) := rfl
  rw [e, h, ha, hs, bits_0, bits_1, bits_m1, Ideal.div_coe hp, ← roundR_eq, ← EReal.coe_mul, one_mul, ← EReal.coe_mul]
  simp only [select_ofBool, EReal.coe_lt_coe_iff, decide_eq_true_eq]
  by_cases h1 : z < 0
  · simp only [if_pos h1, ← EReal.coe_mul]; rfl
  · by_cases h2 : 0 < z
    · simp only [if_neg h1, if_pos h2, ← EReal.coe_mul]; rfl
    · simp only [if_neg h1, if_neg h2, ← EReal.coe_mul]; rfl

include h0 h14 ht in
/-- The entry, quantised. -/
theorem quantised (x : S12288x128x32.Idx) :
    (k0_pay1 (F := Ideal) (k0_pay7 v0 v14) (k0_pay8 v0 v14) (k0_pay9 v0 v14) k0_pay10 x : EReal)
      = ((quantR (A (x 0).val) (32 * (x 1).val + (x 2).val) : ℝ) : EReal) :=
  rounded x _ (clipped h0 h14 ht x)

end Cert.QuantXRefIdeal.Body

end
-- ==== Proof.QuantXRefValue.lean ====
/-
  The value of the reference's quantiser at the ideal instance, whole arrays: on a tame argument its four results are the
  same functions of the Hadamard transform of the argument's rows.
-/
module

public import proofs.«01_k».proof.Proof.QuantXRefBody
public import Idealize.ShloMosaic.Lib.Pipeline.ValueKit.Geometry
public import Idealize.ShloMosaic.Lib.WordSum

@[expose] public section

set_option maxRecDepth 16384

noncomputable section

namespace Cert.Quantiser

open Idealize.ShloMosaic in
/-- Eight bits, each shifted to its place, added as words and cut to a byte. -/
theorem shifted_sum : ∀ b0 b1 b2 b3 b4 b5 b6 b7 : Bool,
    (0#32 + (IntOp.shli .host ((BitVec.ofBool b0).setWidth 32) (BitVec.ofNat 32 0) + IntOp.shli .host ((BitVec.ofBool b1).setWidth 32) (BitVec.ofNat 32 1)
      + IntOp.shli .host ((BitVec.ofBool b2).setWidth 32) (BitVec.ofNat 32 2) + IntOp.shli .host ((BitVec.ofBool b3).setWidth 32) (BitVec.ofNat 32 3)
      + IntOp.shli .host ((BitVec.ofBool b4).setWidth 32) (BitVec.ofNat 32 4) + IntOp.shli .host ((BitVec.ofBool b5).setWidth 32) (BitVec.ofNat 32 5)
      + IntOp.shli .host ((BitVec.ofBool b6).setWidth 32) (BitVec.ofNat 32 6) + IntOp.shli .host ((BitVec.ofBool b7).setWidth 32) (BitVec.ofNat 32 7))).setWidth 8
    = BitVec.ofNat 8 (((((((((if b0 then 1 else 0) + if b1 then 2 else 0) + if b2 then 4 else 0) + if b3 then 8 else 0) + if b4 then 16 else 0)
      + if b5 then 32 else 0) + if b6 then 64 else 0) + if b7 then 128 else 0)) := by decide +kernel

open Idealize.ShloMosaic in
/-- A number of a byte, converted to a word and cut to a byte. -/
theorem fptosi_byte (k : ℕ) (h : k ≤ 253) : (Ideal.fptosi 32 (((k : ℤ) : ℝ) : EReal)).setWidth 8 = BitVec.ofNat 8 k := by
  have e : Ideal.fptosi 32 (((k : ℤ) : ℝ) : EReal) = BitVec.ofNat 32 k := by
    unfold Ideal.fptosi
    rw [Ideal.toIntClamped_coe, if_pos (by exact_mod_cast Nat.zero_le k), Int.floor_intCast, max_eq_right, min_eq_right]
    · rfl
    · norm_num; omega
    · norm_num
  rw [e]
  apply BitVec.eq_of_toNat_eq
  simp only [BitVec.toNat_setWidth, BitVec.toNat_ofNat]
  omega

open Idealize.ShloMosaic in
/-- A code, widened, less the bias, as a number. -/
theorem sitofp_code (k : ℕ) (h : k ≤ 253) : (FloatOps.sitofp (F := Ideal) .f32 ((BitVec.ofNat 8 k).setWidth 32 - 127#32) : EReal) = ((((k : ℤ) - 127 : ℤ) : ℝ) : EReal) := by
  have e : ((BitVec.ofNat 8 k).setWidth 32 - 127#32).toInt = (k : ℤ) - 127 := by
    interval_cases k <;> decide +kernel
  show ((((BitVec.ofNat 8 k).setWidth 32 - 127#32).toInt : ℝ) : EReal) = _
  rw [e]

open Idealize.ShloMosaic in
/-- A fold of word addition is a sum. -/
theorem fold_addi {ι : Type} (S : Finset ι) (b : BitVec 32) (x : ι → BitVec 32) : S.fold IntOp.addi b x = b + ∑ i ∈ S, x i := by
  induction S using Finset.cons_induction with
  | empty => simp
  | cons a S ha ih =>
    rw [Finset.fold_cons, Finset.sum_cons, ih]
    show x a + (b + _) = _
    rw [add_left_comm]

open Idealize.ShloMosaic in
theorem shifted_packed (p : ℕ → Bool) :
    (0#32 + ∑ k : Fin 8, IntOp.shli .host ((BitVec.ofBool (p k.val)).setWidth 32) (BitVec.ofNat 32 k.val)).setWidth 8 = packed p := by
  rw [Fin.sum_univ_eight]
  refine (shifted_sum (p 0) (p 1) (p 2) (p 3) (p 4) (p 5) (p 6) (p 7)).trans ?_
  unfold packed
  simp only [Finset.sum_range_succ, Finset.sum_range_zero, zero_add]
  rfl

end Cert.Quantiser

namespace Cert.QuantXRefIdeal.Whole

open Cert.QuantXRefIdeal Cert.QuantXRefIdeal.Gen Cert.Quantiser Idealize.ShloMosaic Idealize.ShloMosaic.TcCoe Idealize.SL.Sem
open Cert.QuantXIdeal.Value (rowsOf Tame rowsOf_eq rowsOf_tame big outCodes outScales outMasks outDeq)
open Cert.QuantXRefIdeal.Entry (args row)

variable (m : (ℓ : Loc nD τ sig) → Buf (Elt Ideal) ℓ) (ρ : Dev nD → PrngReg)

/-! ## The region's arrays -/

theorem blk0 (c : Dev nD) : (iblk m c 0 t0_0 : Vec Ideal S12288x128x32 .f32) = V m c main_v16 := funext fun j =>
  congrArg (V m c main_v16) (funext fun a => Fin.ext (by
    match a with
    | ⟨0, _⟩ => show 0 * _ + 1 * (j 0).val = (j 0).val; rw [Nat.zero_mul, Nat.zero_add, Nat.one_mul]
    | ⟨1, _⟩ => show 0 * _ + 1 * (j 1).val = (j 1).val; rw [Nat.zero_mul, Nat.zero_add, Nat.one_mul]
    | ⟨2, _⟩ => show 0 * _ + 1 * (j 2).val = (j 2).val; rw [Nat.zero_mul, Nat.zero_add, Nat.one_mul]))
theorem blk1 (c : Dev nD) : (iblk m c 1 t0_0 : Vec Ideal S12288x128x1 .f32) = V m c main_v22 := funext fun j =>
  congrArg (V m c main_v22) (funext fun a => Fin.ext (by
    match a with
    | ⟨0, _⟩ => show 0 * _ + 1 * (j 0).val = (j 0).val; rw [Nat.zero_mul, Nat.zero_add, Nat.one_mul]
    | ⟨1, _⟩ => show 0 * _ + 1 * (j 1).val = (j 1).val; rw [Nat.zero_mul, Nat.zero_add, Nat.one_mul]
    | ⟨2, _⟩ => show 0 * _ + 1 * (j 2).val = (j 2).val; rw [Nat.zero_mul, Nat.zero_add, Nat.one_mul]))
theorem emb0 (y : S12288x128x1.Idx) : r0_0.emb y = y := funext fun a => Fin.ext (by
    match a with
    | ⟨0, _⟩ => show 0 + 1 * (y 0).val = (y 0).val; rw [Nat.zero_add, Nat.one_mul]
    | ⟨1, _⟩ => show 0 + 1 * (y 1).val = (y 1).val; rw [Nat.zero_add, Nat.one_mul]
    | ⟨2, _⟩ => show 0 + 1 * (y 2).val = (y 2).val; rw [Nat.zero_add, Nat.one_mul])
theorem emb1 (y : S12288x128x32.Idx) : r0_1.emb y = y := funext fun a => Fin.ext (by
    match a with
    | ⟨0, _⟩ => show 0 + 1 * (y 0).val = (y 0).val; rw [Nat.zero_add, Nat.one_mul]
    | ⟨1, _⟩ => show 0 + 1 * (y 1).val = (y 1).val; rw [Nat.zero_add, Nat.one_mul]
    | ⟨2, _⟩ => show 0 + 1 * (y 2).val = (y 2).val; rw [Nat.zero_add, Nat.one_mul])
theorem ld0 (x : Vec Ideal S12288x128x1 .f32) : View.ld x r0_0 = x := funext fun y => congrArg x (emb0 y)
theorem ld1 (x : Vec Ideal S12288x128x32 .f32) : View.ld x r0_1 = x := funext fun y => congrArg x (emb1 y)

/-- One store of a whole buffer leaves its payload. -/
theorem canon0 {e : EltTy} (p : Vec Ideal S12288x128x1 e) (y : S12288x128x1.Idx) :
    View.canon (Val := Elt Ideal) (e := e) [⟨r0_0, p⟩] y = p y :=
  View.canon_apply_of_pieces (Val := Elt Ideal) (e := e) p _ (fun q hq x => by
    obtain rfl := List.mem_singleton.1 hq
    exact congrArg p (emb0 x).symm) y ⟨_, List.mem_singleton.2 rfl, by
      show y ∈ r0_0.set
      rw [Rect.mem_set_unit]
      exact fun a => ⟨by match a with
        | ⟨0, _⟩ => exact Nat.zero_le _
        | ⟨1, _⟩ => exact Nat.zero_le _
        | ⟨2, _⟩ => exact Nat.zero_le _, by match a with
        | ⟨0, _⟩ => show (y 0).val < 0 + 12288; rw [Nat.zero_add]; exact (y 0).isLt
        | ⟨1, _⟩ => show (y 1).val < 0 + 128; rw [Nat.zero_add]; exact (y 1).isLt
        | ⟨2, _⟩ => show (y 2).val < 0 + 1; rw [Nat.zero_add]; exact (y 2).isLt⟩⟩
theorem canon1 {e : EltTy} (p : Vec Ideal S12288x128x32 e) (y : S12288x128x32.Idx) :
    View.canon (Val := Elt Ideal) (e := e) [⟨r0_1, p⟩] y = p y :=
  View.canon_apply_of_pieces (Val := Elt Ideal) (e := e) p _ (fun q hq x => by
    obtain rfl := List.mem_singleton.1 hq
    exact congrArg p (emb1 x).symm) y ⟨_, List.mem_singleton.2 rfl, by
      show y ∈ r0_1.set
      rw [Rect.mem_set_unit]
      exact fun a => ⟨by match a with
        | ⟨0, _⟩ => exact Nat.zero_le _
        | ⟨1, _⟩ => exact Nat.zero_le _
        | ⟨2, _⟩ => exact Nat.zero_le _, by match a with
        | ⟨0, _⟩ => show (y 0).val < 0 + 12288; rw [Nat.zero_add]; exact (y 0).isLt
        | ⟨1, _⟩ => show (y 1).val < 0 + 128; rw [Nat.zero_add]; exact (y 1).isLt
        | ⟨2, _⟩ => show (y 2).val < 0 + 32; rw [Nat.zero_add]; exact (y 2).isLt⟩⟩

variable {m}
variable {c : Dev nD} (hx : Tame (args m c))

include hx in
theorem tame (r b : ℕ) : TameBlock (row m c r) b := rowsOf_tame hx r b

include hx in
theorem reg0 (x : S12288x128x32.Idx) : (Value.reg_main_v23_0 m c x : EReal) = ((quantR (row m c (x 0).val) (32 * (x 1).val + (x 2).val) : ℝ) : EReal) := by
  refine ((dats m 0 c).arrAt_emb_eq_after_last 2 t0_0 (by decide +kernel) x).trans ?_
  show (dats m 0 c).after 2 t0_0 x = _
  rw [after0_2, blk0, blk1]
  unfold out0_2 k0_pay11 k0_pay12 k0_pay13 k0_pay14
  rw [canon1, ld0, ld1]
  exact Body.quantised (Entry.v22_real hx) (Entry.v16_real hx) (tame hx) x

include hx in
theorem reg1 (x : S12288x128x32.Idx) : (Value.reg_main_v23_1 m c x : EReal) = ((quantR (row m c (x 0).val) (32 * (x 1).val + (x 2).val) : ℝ) : EReal) := by
  refine ((dats m 0 c).arrAt_emb_eq_after_last 3 t0_0 (by decide +kernel) x).trans ?_
  show (dats m 0 c).after 3 t0_0 x = _
  rw [after0_3, blk0, blk1]
  unfold out0_3 k0_pay11 k0_pay12 k0_pay13 k0_pay14
  rw [canon1, ld0, ld1]
  exact Body.quantised (Entry.v22_real hx) (Entry.v16_real hx) (tame hx) x

include hx in
theorem reg2 (x : S12288x128x32.Idx) : Value.reg_main_v23_2 m c x = (BitVec.ofBool (keptR (row m c (x 0).val) (32 * (x 1).val + (x 2).val))).setWidth 32 := by
  refine ((dats m 0 c).arrAt_emb_eq_after_last 4 t0_0 (by decide +kernel) x).trans ?_
  show (dats m 0 c).after 4 t0_0 x = _
  rw [after0_4, blk0, blk1]
  unfold out0_4
  rw [canon1, ld0, ld1]
  exact congrArg (BitVec.setWidth 32) (Body.kept (Entry.v22_real hx) (Entry.v16_real hx) (tame hx) x)

include hx in
theorem reg3 (y : S12288x128x1.Idx) : (Value.reg_main_v23_3 m c y : EReal) = (((expR (row m c (y 0).val) (y 1).val : ℤ) : ℝ) : EReal) := by
  refine ((dats m 0 c).arrAt_emb_eq_after_last 5 t0_0 (by decide +kernel) y).trans ?_
  show (dats m 0 c).after 5 t0_0 y = _
  rw [after0_5, blk0, blk1]
  unfold out0_5
  rw [canon0, ld0]
  exact Body.exponent (Entry.v22_real hx) (tame hx) y

/-! ## The results -/

include hx in
theorem codes : Read.val_main_v46 (F := Ideal) (Value.reg_main_v23_0 m c) = outCodes (args m c) := by
  funext i
  have h0 : (i 0).val < 12288 := (i 0).isLt
  have h1 : (i 1).val < 4096 := (i 1).isLt
  rw [Read.val_main_v46_apply]
  refine (reg0 hx _).trans ?_
  show ((quantR (row m c (((i 0).val * 4096 + (i 1).val) / 4096)) (32 * (((i 0).val * 4096 + (i 1).val) / 32 % 128) + ((i 0).val * 4096 + (i 1).val) % 32) : ℝ) : EReal)
    = ((quantR (row m c (i 0).val) (i 1).val : ℝ) : EReal)
  rw [show ((i 0).val * 4096 + (i 1).val) / 4096 = (i 0).val by omega,
    show 32 * (((i 0).val * 4096 + (i 1).val) / 32 % 128) + ((i 0).val * 4096 + (i 1).val) % 32 = (i 1).val by omega]

include hx in
theorem scales : Read.val_main_v28 (F := Ideal) (Value.reg_main_v23_3 m c) = outScales (args m c) := by
  funext i
  have h0 : (i 0).val < 12288 := (i 0).isLt
  have h1 : (i 1).val < 128 := (i 1).isLt
  rw [Read.val_main_v28_apply]
  refine (congrArg (fun a : EReal => (Ideal.fptosi 32 (a + Ideal.ofBits .f32 0x42FE0000#32)).setWidth 8) (reg3 hx (Read.idx_main_v28 i))).trans ?_
  rw [bits_127, ← EReal.coe_add]
  show (Ideal.fptosi 32 ((((expR (row m c (((i 0).val * 128 + (i 1).val) / 128)) (((i 0).val * 128 + (i 1).val) / 1 % 128) : ℤ) : ℝ) + 127 : ℝ) : EReal)).setWidth 8
    = BitVec.ofNat 8 (codeR (row m c (i 0).val) (i 1).val)
  rw [show ((i 0).val * 128 + (i 1).val) / 128 = (i 0).val by omega, show ((i 0).val * 128 + (i 1).val) / 1 % 128 = (i 1).val by omega]
  obtain ⟨k1, k2, k3⟩ := codeR_cast (tame hx (i 0).val (i 1).val)
  rw [show (((expR (row m c (i 0).val) (i 1).val : ℤ) : ℝ) + 127) = (((codeR (row m c (i 0).val) (i 1).val : ℕ) : ℤ) : ℝ) by rw [k1]; push_cast; ring]
  exact fptosi_byte _ k3

include hx in
theorem deq : Read.val_main_v47 (F := Ideal) (Value.reg_main_v23_1 m c) (Value.reg_main_v23_3 m c) = outDeq (args m c) := by
  funext i
  have h0 : (i 0).val < 12288 := (i 0).isLt
  have h1 : (i 1).val < 4096 := (i 1).isLt
  rw [Read.val_main_v47_apply, Read.val_main_v45_apply, Read.val_main_v44_apply, Read.val_main_v43_apply, Read.val_main_v42_apply, Read.val_main_v41_apply,
    Read.val_main_v40_apply, Read.val_main_v39_apply, Read.val_main_v38_apply, Read.val_main_v37_apply, Read.val_main_v36_apply, scales hx]
  refine (congrArg (fun a : EReal => a * Ideal.pow (Ideal.ofBits .f32 0x40000000#32) (FloatOps.sitofp (F := Ideal) .f32 ((BitVec.ofNat 8
    (codeR (row m c (((i 0).val * 4096 + (i 1).val) / 4096)) (((i 0).val * 4096 + (i 1).val) / 32 % 128))).setWidth 32 - 127#32)))
    (reg1 hx (Read.idx_main_v47 i))).trans ?_
  have hb := codeR_cast (tame hx (((i 0).val * 4096 + (i 1).val) / 4096) (((i 0).val * 4096 + (i 1).val) / 32 % 128))
  rw [bits_2, sitofp_code _ hb.2.2, hb.1, add_sub_cancel_right]
  show ((quantR (row m c (((i 0).val * 4096 + (i 1).val) / 4096)) (32 * (((i 0).val * 4096 + (i 1).val) / 32 % 128) + ((i 0).val * 4096 + (i 1).val) % 32) : ℝ) : EReal)
      * (((2 : ℝ) ^ (((expR (row m c (((i 0).val * 4096 + (i 1).val) / 4096)) (((i 0).val * 4096 + (i 1).val) / 32 % 128) : ℤ) : ℝ)) : ℝ) : EReal)
    = ((deqR (row m c (i 0).val) (i 1).val : ℝ) : EReal)
  rw [show ((i 0).val * 4096 + (i 1).val) / 4096 = (i 0).val by omega,
    show 32 * (((i 0).val * 4096 + (i 1).val) / 32 % 128) + ((i 0).val * 4096 + (i 1).val) % 32 = (i 1).val by omega,
    show ((i 0).val * 4096 + (i 1).val) / 32 % 128 = (i 1).val / 32 by omega, ← EReal.coe_mul, Real.rpow_intCast]
  rfl

include hx in
theorem masks : Read.val_main_v35 (F := Ideal) (Value.reg_main_v23_2 m c) = outMasks (args m c) := by
  funext i
  have h0 : (i 0).val < 12288 := (i 0).isLt
  have h1 : (i 1).val < 512 := (i 1).isLt
  rw [Read.val_main_v35_apply]
  unfold Read.val_main_v34
  rw [Host.reduce_eq_fold, fold_addi, Shape.ReducesTo.sum_fiber_r3_a2]
  show (0#32 + _).setWidth 8 = packed fun k => keptR (row m c (i 0).val) (8 * (i 1).val + k)
  rw [← shifted_packed]
  refine congrArg (fun s : BitVec 32 => (0#32 + s).setWidth 8) (Finset.sum_congr rfl fun k _ => ?_)
  have hk : k.val < 8 := k.isLt
  rw [Read.val_main_v33_apply, Read.val_main_v32_apply, Read.val_main_v31_apply, Read.val_main_v30_apply, Read.val_main_v29_apply]
  refine congrArg (fun b : BitVec 32 => IntOp.shli .host b (BitVec.ofNat 32 k.val)) ((reg2 hx _).trans ?_)
  show (BitVec.ofBool (keptR (row m c ((((i 0).val * 512 + (i 1).val) * 8 + k.val) / 4096))
    (32 * ((((i 0).val * 512 + (i 1).val) * 8 + k.val) / 32 % 128) + (((i 0).val * 512 + (i 1).val) * 8 + k.val) % 32))).setWidth 32 = _
  rw [show (((i 0).val * 512 + (i 1).val) * 8 + k.val) / 4096 = (i 0).val by omega,
    show 32 * ((((i 0).val * 512 + (i 1).val) * 8 + k.val) / 32 % 128) + (((i 0).val * 512 + (i 1).val) * 8 + k.val) % 32 = 8 * (i 1).val + k.val by omega]

/-- The run, read. -/
theorem run (hx : ∀ c : Dev nD, Tame (args m c)) : θ_run defs (onTc (τ := τ) (main (F := Ideal))) ⟨m, fun _ => 0, ρ⟩ fun r => ∀ c : Dev nD,
      r.2.mem ((c : Thread nD τ).loc main_v46) = outCodes (args m c)
      ∧ r.2.mem ((c : Thread nD τ).loc main_v28) = outScales (args m c)
      ∧ r.2.mem ((c : Thread nD τ).loc main_v35) = outMasks (args m c)
      ∧ r.2.mem ((c : Thread nD τ).loc main_v47) = outDeq (args m c)
      ∧ r.2.mem ((c : Thread nD τ).loc main_arg0) = m ((c : Thread nD τ).loc main_arg0) :=
  (θ_run defs _ _).mono (fun _ h c => ⟨(h c).1.trans (codes (hx c)), (h c).2.1.trans (scales (hx c)), (h c).2.2.1.trans (masks (hx c)),
    (h c).2.2.2.1.trans (deq (hx c)), (h c).2.2.2.2⟩) (Value.run (F := Ideal) m ρ)

end Cert.QuantXRefIdeal.Whole

end
-- ==== Proof.QuantWTrip.lean ====
/-
  The weights' quantiser: the pieces its stores write, as functions of the 16 squares of 256 × 256 entries it reads from its scratch.
-/
module

public import proofs.«01_k».proof.Proof.Gen.QuantWIdeal.Value

@[expose] public section

set_option maxRecDepth 16384

noncomputable section

namespace Cert.QuantWIdeal.Seg

open Cert.QuantWIdeal Cert.QuantWIdeal.Gen Idealize.ShloMosaic Idealize.ShloMosaic.TcCoe Idealize.SL.Sem

variable {F : FTy → Type} [FloatOps F]

/-- A word at every entry. -/
abbrev bc (b : BitVec 32) : IVec S8x256 32 := broadcast S8x256 b
/-- A constant, by its bits, at every entry. -/
abbrev cst (b : BitVec 32) : FVec F S8x256 .f32 := broadcast S8x256 (Scalar.ofBits .f32 b)

/-- The row of every entry. -/
abbrev sub : IVec S8x256 32 := iota Kind.tc S8x256 32 [0] iota_S8x256_d0_w32

/-- Whether a bit of the row is set. -/
abbrev hi (d : BitVec 32) : IVec S8x256 1 := cmpi .ne (andi sub (bc d)) (bc 0#32)

/-- The rows turned by `d`. -/
abbrev turn {α : Type} (d : BitVec 32) (a : S8x256.Idx → α) : S8x256.Idx → α := dynamicRotate 0 d none a rotates_S8x256_d0

/-- One merge of two partial results: the rows with bit `d` set carry the second's, the others the first's. -/
def merge {α : Type} (op : (S8x256.Idx → α) → (S8x256.Idx → α) → (S8x256.Idx → α)) (d : BitVec 32) (a b : S8x256.Idx → α) : S8x256.Idx → α :=
  op (select (hi d) b a) (turn d (select (hi d) a b))

/-- One level of the tree of merges. -/
abbrev level {α : Type} (op : (S8x256.Idx → α) → (S8x256.Idx → α) → (S8x256.Idx → α)) (d : BitVec 32) (p : ℕ → S8x256.Idx → α) (i : ℕ) :
    S8x256.Idx → α := merge op d (p (2 * i)) (p (2 * i + 1))

/-- The eight parts merged into one. -/
abbrev merged {α : Type} (op : (S8x256.Idx → α) → (S8x256.Idx → α) → (S8x256.Idx → α)) (p : ℕ → S8x256.Idx → α) : S8x256.Idx → α :=
  level op 4#32 (level op 2#32 (level op 1#32 p)) 0

theorem rowSlices (n : ℕ) : S256x256.Slices ![8 * (n % 32), 0] S8x256 := by
  have h : ∀ n : Fin 32, S256x256.Slices ![8 * n.val, 0] S8x256 := by decide
  exact h ⟨n % 32, Nat.mod_lt _ (by decide)⟩

/-- Eight rows of a square. -/
def row (v : FVec F S256x256 .f32) (n : ℕ) : FVec F S8x256 .f32 := extractStridedSlice S8x256 ![8 * (n % 32), 0] v (rowSlices n)

/-- The sums of squares of a block's entries in the same row of its four parts. -/
def sums (v : FVec F S256x256 .f32) (s : ℕ) : FVec F S8x256 .f32 :=
  addf (addf (mulf (row v (4 * s)) (row v (4 * s))) (mulf (row v (4 * s + 1)) (row v (4 * s + 1))))
    (addf (mulf (row v (4 * s + 2)) (row v (4 * s + 2))) (mulf (row v (4 * s + 3)) (row v (4 * s + 3))))

/-- The block sums of squares, one block to a row. -/
def sumSq (v : FVec F S256x256 .f32) : FVec F S8x256 .f32 := merged addf (sums v)

/-- The root mean squares. -/
def rms (s : FVec F S8x256 .f32) : FVec F S8x256 .f32 := sqrt (mulf s (cst 0x3D000000#32))
/-- The root mean squares times 2.92 / 6. -/
def amax (q : FVec F S8x256 .f32) : FVec F S8x256 .f32 := mulf (mulf (cst 0x403AE148#32) q) (cst 0x3E2AAAAB#32)

/-- The power of two of a field. -/
abbrev pow2 (f : IVec S8x256 32) : FVec F S8x256 .f32 := bitcastToFloat .f32 (shli f (bc 23#32))
/-- One step of the search for the exponent field of `a`. -/
def fstep (a : FVec F S8x256 .f32) (b : BitVec 32) (f : IVec S8x256 32) : IVec S8x256 32 :=
  select (cmpf .oge a (pow2 (addi f (bc b)))) (addi f (bc b)) f
/-- The exponent field of `a`. -/
def field (a : FVec F S8x256 .f32) : IVec S8x256 32 :=
  fstep a 1#32 (fstep a 2#32 (fstep a 4#32 (fstep a 8#32 (fstep a 16#32 (fstep a 32#32 (fstep a 64#32 (fstep a 128#32 (bc 0#32))))))))
/-- The scale codes. -/
def code (q : FVec F S8x256 .f32) : IVec S8x256 32 := select (cmpf .oeq q (cst 0x00000000#32)) (bc 127#32) (field (amax q))
/-- The reciprocals of the scales. -/
def inv (c : IVec S8x256 32) : FVec F S8x256 .f32 := pow2 (subi (bc 254#32) c)

theorem oneSlices (s : ℕ) : S8x256.Slices ![s % 8, 0] S1x256 := by
  have h : ∀ s : Fin 8, S8x256.Slices ![s.val, 0] S1x256 := by decide
  exact h ⟨s % 8, Nat.mod_lt _ (by decide)⟩

/-- One row, at every row. -/
def spread (s : ℕ) (x : FVec F S8x256 .f32) : FVec F S8x256 .f32 :=
  broadcastTo S8x256 (shapeCast S1x256 (extractStridedSlice S1x256 ![s % 8, 0] x (oneSlices s)) shapeCasts_S1x256_S1x256) broadcasts_S1x256_S8x256

/-- Eight rows, scaled. -/
def scaled (v : FVec F S256x256 .f32) (c : IVec S8x256 32) (n : ℕ) : FVec F S8x256 .f32 := mulf (row v n) (spread (n / 4) (inv c))
/-- Clipped to the range of E2M1. -/
def clip (v : FVec F S8x256 .f32) : FVec F S8x256 .f32 := minimumf (cst 0x40C00000#32) (maximumf (cst 0xC0C00000#32) v)
/-- Rounded to E2M1, after the clip. -/
def roundC (c : FVec F S8x256 .f32) : FVec F S8x256 .f32 :=
  mulf (roundeven (mulf c (select (cmpf .olt (absf c) (cst 0x40000000#32)) (cst 0x40000000#32)
      (select (cmpf .olt (absf c) (cst 0x40800000#32)) (cst 0x3F800000#32) (cst 0x3F000000#32)))))
    (mulf (select (cmpf .olt (absf c) (cst 0x40000000#32)) (cst 0x3F800000#32)
      (select (cmpf .olt (absf c) (cst 0x40800000#32)) (cst 0x40000000#32) (cst 0x40800000#32))) (cst 0x3F000000#32))
/-- The quantised entries of eight rows. -/
def quant (v : FVec F S256x256 .f32) (c : IVec S8x256 32) (n : ℕ) : FVec F S8x256 .f32 := roundC (clip (scaled v c n))
/-- The dequantised entries of eight rows. -/
def dequant (v : FVec F S256x256 .f32) (c : IVec S8x256 32) (n : ℕ) : FVec F S8x256 .f32 := mulf (quant v c n) (spread (n / 4) (pow2 c))

/-- The bits of eight rows added to a block's mask words. -/
def addBit (v : FVec F S256x256 .f32) (c : IVec S8x256 32) (n : ℕ) (bit : BitVec 32) (w : IVec S8x256 32) : IVec S8x256 32 :=
  ori w (select (cmpf .ole (absf (scaled v c n)) (cst 0x40C00000#32)) (shli (bc bit) sub) (bc 0#32))
/-- A block's mask words, one partial word to a row. -/
def words (v : FVec F S256x256 .f32) (c : IVec S8x256 32) (s : ℕ) : IVec S8x256 32 :=
  addBit v c (4 * s + 3) 16777216#32 (addBit v c (4 * s + 2) 65536#32 (addBit v c (4 * s + 1) 256#32 (addBit v c (4 * s) 1#32 (bc 0#32))))
/-- The mask words, one block to a row. -/
def word (v : FVec F S256x256 .f32) (c : IVec S8x256 32) : IVec S8x256 32 := merged ori (words v c)
/-- The mask bytes. -/
def bytes (v : FVec F S256x256 .f32) (c : IVec S8x256 32) : IVec S32x256 8 := bitcast S32x256 8 (word v c) bitcasts_S8x256_w32_S32x256_w8

/-- Thirty-two pieces of eight rows, one below the other. -/
def stack (f : ℕ → FVec F S8x256 .f32) : FVec F S256x256 .f32 :=
  concatenate S256x256 0 [⟨S8x256, f 0⟩, ⟨S8x256, f 1⟩, ⟨S8x256, f 2⟩, ⟨S8x256, f 3⟩, ⟨S8x256, f 4⟩, ⟨S8x256, f 5⟩, ⟨S8x256, f 6⟩, ⟨S8x256, f 7⟩, ⟨S8x256, f 8⟩, ⟨S8x256, f 9⟩, ⟨S8x256, f 10⟩, ⟨S8x256, f 11⟩, ⟨S8x256, f 12⟩, ⟨S8x256, f 13⟩, ⟨S8x256, f 14⟩, ⟨S8x256, f 15⟩, ⟨S8x256, f 16⟩, ⟨S8x256, f 17⟩, ⟨S8x256, f 18⟩, ⟨S8x256, f 19⟩, ⟨S8x256, f 20⟩, ⟨S8x256, f 21⟩, ⟨S8x256, f 22⟩, ⟨S8x256, f 23⟩, ⟨S8x256, f 24⟩, ⟨S8x256, f 25⟩, ⟨S8x256, f 26⟩, ⟨S8x256, f 27⟩, ⟨S8x256, f 28⟩, ⟨S8x256, f 29⟩, ⟨S8x256, f 30⟩, ⟨S8x256, f 31⟩]
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0
/-- Sixteen pieces of eight rows, one below the other. -/
def stackI (f : ℕ → IVec S8x256 32) : IVec S128x256 32 :=
  concatenate S128x256 0 [⟨S8x256, f 0⟩, ⟨S8x256, f 1⟩, ⟨S8x256, f 2⟩, ⟨S8x256, f 3⟩, ⟨S8x256, f 4⟩, ⟨S8x256, f 5⟩, ⟨S8x256, f 6⟩, ⟨S8x256, f 7⟩, ⟨S8x256, f 8⟩, ⟨S8x256, f 9⟩, ⟨S8x256, f 10⟩, ⟨S8x256, f 11⟩, ⟨S8x256, f 12⟩, ⟨S8x256, f 13⟩, ⟨S8x256, f 14⟩, ⟨S8x256, f 15⟩]
    concatenates_S8x256_S8x256_S8x256_S8x256_S8x256_S8x256_S8x256_S8x256_S8x256_S8x256_S8x256_S8x256_S8x256_S8x256_S8x256_S8x256_S128x256_d0

/-- The scale codes of a square. -/
abbrev codeOf (v : FVec F S256x256 .f32) : IVec S8x256 32 := code (rms (sumSq v))
/-- The quantised entries of a square. -/
def quantOf (v : FVec F S256x256 .f32) : FVec F S256x256 .fp8e4m3 := truncf .fp8e4m3 (stack (quant v (codeOf v))) bitsLt_fp8e4m3_f32
/-- The dequantised entries of a square. -/
def deqOf (v : FVec F S256x256 .f32) : FVec F S256x256 .bf16 := truncf .bf16 (stack (dequant v (codeOf v))) bitsLt_bf16_f32

variable (c : Dev nD) (i : grid0.Coords) (arg1 : Memref sig .tc .vmem S4096x256 .bf16) (harg1 : arg1.IsWhole) (arg2 : Memref sig .tc .vmem S256x256 .bf16) (harg2 : arg2.IsWhole) (arg3 : Memref sig .tc .vmem S4096x256 .fp8e4m3) (harg3 : arg3.IsWhole) (arg4 : Memref sig .tc .vmem S128x256 .i8) (harg4 : arg4.IsWhole) (arg5 : Memref sig .tc .vmem S512x256 .i8) (harg5 : arg5.IsWhole) (arg6 : Memref sig .tc .vmem S4096x256 .bf16) (harg6 : arg6.IsWhole) (arg7 : Memref sig .tc .vmem S256x256 .f32) (harg7 : arg7.IsWhole)
  (x0 : Vec F S4096x256 .bf16) (x1 : Vec F S256x256 .bf16)

/-- The squares read from the scratch, in order. -/
def square (k : ℕ) : FVec F S256x256 .f32 := match k with
  | 0 => kernelRun0_A.sl.v9 c arg1 harg1 arg2 harg2 arg7 x0 x1
  | 1 => kernelRun0_A.sl.v1544 c arg1 harg1 arg2 harg2 arg7 x0 x1
  | 2 => kernelRun0_A.sl.v3079 c arg1 harg1 arg2 harg2 arg7 x0 x1
  | 3 => kernelRun0_A.sl.v4614 c arg1 harg1 arg2 harg2 arg7 x0 x1
  | 4 => kernelRun0_A.sl.v6149 c arg1 harg1 arg2 harg2 arg7 x0 x1
  | 5 => kernelRun0_A.sl.v7684 c arg1 harg1 arg2 harg2 arg7 x0 x1
  | 6 => kernelRun0_A.sl.v9219 c arg1 harg1 arg2 harg2 arg7 x0 x1
  | 7 => kernelRun0_A.sl.v10754 c arg1 harg1 arg2 harg2 arg7 x0 x1
  | 8 => kernelRun0_A.sl.v12289 c arg1 harg1 arg2 harg2 arg7 x0 x1
  | 9 => kernelRun0_A.sl.v13824 c arg1 harg1 arg2 harg2 arg7 x0 x1
  | 10 => kernelRun0_A.sl.v15359 c arg1 harg1 arg2 harg2 arg7 x0 x1
  | 11 => kernelRun0_A.sl.v16894 c arg1 harg1 arg2 harg2 arg7 x0 x1
  | 12 => kernelRun0_A.sl.v18429 c arg1 harg1 arg2 harg2 arg7 x0 x1
  | 13 => kernelRun0_A.sl.v c arg1 harg1 arg2 harg2 arg7 x0 x1
  | 14 => kernelRun0_A.sl.v21499 c arg1 harg1 arg2 harg2 arg7 x0 x1
  | 15 => kernelRun0_A.sl.v23034 c arg1 harg1 arg2 harg2 arg7 x0 x1
  | _ => broadcast S256x256 (Scalar.ofBits .f32 0#32)

/-- The pieces written to the codes. -/
def codePieces : List (View.Piece (Elt F) S4096x256 .fp8e4m3) :=
    [⟨Rect.unit (s := S4096x256) ![3840, 0] S256x256.size inb_S4096x256_S256x256_3840_0, quantOf (square c arg1 harg1 arg2 harg2 arg7 x0 x1 15)⟩,
      ⟨Rect.unit (s := S4096x256) ![3584, 0] S256x256.size inb_S4096x256_S256x256_3584_0, quantOf (square c arg1 harg1 arg2 harg2 arg7 x0 x1 14)⟩,
      ⟨Rect.unit (s := S4096x256) ![3328, 0] S256x256.size inb_S4096x256_S256x256_3328_0, quantOf (square c arg1 harg1 arg2 harg2 arg7 x0 x1 13)⟩,
      ⟨Rect.unit (s := S4096x256) ![3072, 0] S256x256.size inb_S4096x256_S256x256_3072_0, quantOf (square c arg1 harg1 arg2 harg2 arg7 x0 x1 12)⟩,
      ⟨Rect.unit (s := S4096x256) ![2816, 0] S256x256.size inb_S4096x256_S256x256_2816_0, quantOf (square c arg1 harg1 arg2 harg2 arg7 x0 x1 11)⟩,
      ⟨Rect.unit (s := S4096x256) ![2560, 0] S256x256.size inb_S4096x256_S256x256_2560_0, quantOf (square c arg1 harg1 arg2 harg2 arg7 x0 x1 10)⟩,
      ⟨Rect.unit (s := S4096x256) ![2304, 0] S256x256.size inb_S4096x256_S256x256_2304_0, quantOf (square c arg1 harg1 arg2 harg2 arg7 x0 x1 9)⟩,
      ⟨Rect.unit (s := S4096x256) ![2048, 0] S256x256.size inb_S4096x256_S256x256_2048_0, quantOf (square c arg1 harg1 arg2 harg2 arg7 x0 x1 8)⟩,
      ⟨Rect.unit (s := S4096x256) ![1792, 0] S256x256.size inb_S4096x256_S256x256_1792_0, quantOf (square c arg1 harg1 arg2 harg2 arg7 x0 x1 7)⟩,
      ⟨Rect.unit (s := S4096x256) ![1536, 0] S256x256.size inb_S4096x256_S256x256_1536_0, quantOf (square c arg1 harg1 arg2 harg2 arg7 x0 x1 6)⟩,
      ⟨Rect.unit (s := S4096x256) ![1280, 0] S256x256.size inb_S4096x256_S256x256_1280_0, quantOf (square c arg1 harg1 arg2 harg2 arg7 x0 x1 5)⟩,
      ⟨Rect.unit (s := S4096x256) ![1024, 0] S256x256.size inb_S4096x256_S256x256_1024_0, quantOf (square c arg1 harg1 arg2 harg2 arg7 x0 x1 4)⟩,
      ⟨Rect.unit (s := S4096x256) ![768, 0] S256x256.size inb_S4096x256_S256x256_768_0, quantOf (square c arg1 harg1 arg2 harg2 arg7 x0 x1 3)⟩,
      ⟨Rect.unit (s := S4096x256) ![512, 0] S256x256.size inb_S4096x256_S256x256_512_0, quantOf (square c arg1 harg1 arg2 harg2 arg7 x0 x1 2)⟩,
      ⟨Rect.unit (s := S4096x256) ![256, 0] S256x256.size inb_S4096x256_S256x256_256_0, quantOf (square c arg1 harg1 arg2 harg2 arg7 x0 x1 1)⟩,
      ⟨Rect.unit (s := S4096x256) ![0, 0] S256x256.size inb_S4096x256_S256x256_0_0, quantOf (square c arg1 harg1 arg2 harg2 arg7 x0 x1 0)⟩]

/-- The pieces written to the dequantised weights. -/
def deqPieces : List (View.Piece (Elt F) S4096x256 .bf16) :=
    [⟨Rect.unit (s := S4096x256) ![3840, 0] S256x256.size inb_S4096x256_S256x256_3840_0, deqOf (square c arg1 harg1 arg2 harg2 arg7 x0 x1 15)⟩,
      ⟨Rect.unit (s := S4096x256) ![3584, 0] S256x256.size inb_S4096x256_S256x256_3584_0, deqOf (square c arg1 harg1 arg2 harg2 arg7 x0 x1 14)⟩,
      ⟨Rect.unit (s := S4096x256) ![3328, 0] S256x256.size inb_S4096x256_S256x256_3328_0, deqOf (square c arg1 harg1 arg2 harg2 arg7 x0 x1 13)⟩,
      ⟨Rect.unit (s := S4096x256) ![3072, 0] S256x256.size inb_S4096x256_S256x256_3072_0, deqOf (square c arg1 harg1 arg2 harg2 arg7 x0 x1 12)⟩,
      ⟨Rect.unit (s := S4096x256) ![2816, 0] S256x256.size inb_S4096x256_S256x256_2816_0, deqOf (square c arg1 harg1 arg2 harg2 arg7 x0 x1 11)⟩,
      ⟨Rect.unit (s := S4096x256) ![2560, 0] S256x256.size inb_S4096x256_S256x256_2560_0, deqOf (square c arg1 harg1 arg2 harg2 arg7 x0 x1 10)⟩,
      ⟨Rect.unit (s := S4096x256) ![2304, 0] S256x256.size inb_S4096x256_S256x256_2304_0, deqOf (square c arg1 harg1 arg2 harg2 arg7 x0 x1 9)⟩,
      ⟨Rect.unit (s := S4096x256) ![2048, 0] S256x256.size inb_S4096x256_S256x256_2048_0, deqOf (square c arg1 harg1 arg2 harg2 arg7 x0 x1 8)⟩,
      ⟨Rect.unit (s := S4096x256) ![1792, 0] S256x256.size inb_S4096x256_S256x256_1792_0, deqOf (square c arg1 harg1 arg2 harg2 arg7 x0 x1 7)⟩,
      ⟨Rect.unit (s := S4096x256) ![1536, 0] S256x256.size inb_S4096x256_S256x256_1536_0, deqOf (square c arg1 harg1 arg2 harg2 arg7 x0 x1 6)⟩,
      ⟨Rect.unit (s := S4096x256) ![1280, 0] S256x256.size inb_S4096x256_S256x256_1280_0, deqOf (square c arg1 harg1 arg2 harg2 arg7 x0 x1 5)⟩,
      ⟨Rect.unit (s := S4096x256) ![1024, 0] S256x256.size inb_S4096x256_S256x256_1024_0, deqOf (square c arg1 harg1 arg2 harg2 arg7 x0 x1 4)⟩,
      ⟨Rect.unit (s := S4096x256) ![768, 0] S256x256.size inb_S4096x256_S256x256_768_0, deqOf (square c arg1 harg1 arg2 harg2 arg7 x0 x1 3)⟩,
      ⟨Rect.unit (s := S4096x256) ![512, 0] S256x256.size inb_S4096x256_S256x256_512_0, deqOf (square c arg1 harg1 arg2 harg2 arg7 x0 x1 2)⟩,
      ⟨Rect.unit (s := S4096x256) ![256, 0] S256x256.size inb_S4096x256_S256x256_256_0, deqOf (square c arg1 harg1 arg2 harg2 arg7 x0 x1 1)⟩,
      ⟨Rect.unit (s := S4096x256) ![0, 0] S256x256.size inb_S4096x256_S256x256_0_0, deqOf (square c arg1 harg1 arg2 harg2 arg7 x0 x1 0)⟩]

/-- The pieces written to the masks. -/
def maskPieces : List (View.Piece (Elt F) S512x256 .i8) :=
    [⟨Rect.unit (s := S512x256) ![480, 0] S32x256.size inb_S512x256_S32x256_480_0, bytes (square c arg1 harg1 arg2 harg2 arg7 x0 x1 15) (codeOf (square c arg1 harg1 arg2 harg2 arg7 x0 x1 15))⟩,
      ⟨Rect.unit (s := S512x256) ![448, 0] S32x256.size inb_S512x256_S32x256_448_0, bytes (square c arg1 harg1 arg2 harg2 arg7 x0 x1 14) (codeOf (square c arg1 harg1 arg2 harg2 arg7 x0 x1 14))⟩,
      ⟨Rect.unit (s := S512x256) ![416, 0] S32x256.size inb_S512x256_S32x256_416_0, bytes (square c arg1 harg1 arg2 harg2 arg7 x0 x1 13) (codeOf (square c arg1 harg1 arg2 harg2 arg7 x0 x1 13))⟩,
      ⟨Rect.unit (s := S512x256) ![384, 0] S32x256.size inb_S512x256_S32x256_384_0, bytes (square c arg1 harg1 arg2 harg2 arg7 x0 x1 12) (codeOf (square c arg1 harg1 arg2 harg2 arg7 x0 x1 12))⟩,
      ⟨Rect.unit (s := S512x256) ![352, 0] S32x256.size inb_S512x256_S32x256_352_0, bytes (square c arg1 harg1 arg2 harg2 arg7 x0 x1 11) (codeOf (square c arg1 harg1 arg2 harg2 arg7 x0 x1 11))⟩,
      ⟨Rect.unit (s := S512x256) ![320, 0] S32x256.size inb_S512x256_S32x256_320_0, bytes (square c arg1 harg1 arg2 harg2 arg7 x0 x1 10) (codeOf (square c arg1 harg1 arg2 harg2 arg7 x0 x1 10))⟩,
      ⟨Rect.unit (s := S512x256) ![288, 0] S32x256.size inb_S512x256_S32x256_288_0, bytes (square c arg1 harg1 arg2 harg2 arg7 x0 x1 9) (codeOf (square c arg1 harg1 arg2 harg2 arg7 x0 x1 9))⟩,
      ⟨Rect.unit (s := S512x256) ![256, 0] S32x256.size inb_S512x256_S32x256_256_0, bytes (square c arg1 harg1 arg2 harg2 arg7 x0 x1 8) (codeOf (square c arg1 harg1 arg2 harg2 arg7 x0 x1 8))⟩,
      ⟨Rect.unit (s := S512x256) ![224, 0] S32x256.size inb_S512x256_S32x256_224_0, bytes (square c arg1 harg1 arg2 harg2 arg7 x0 x1 7) (codeOf (square c arg1 harg1 arg2 harg2 arg7 x0 x1 7))⟩,
      ⟨Rect.unit (s := S512x256) ![192, 0] S32x256.size inb_S512x256_S32x256_192_0, bytes (square c arg1 harg1 arg2 harg2 arg7 x0 x1 6) (codeOf (square c arg1 harg1 arg2 harg2 arg7 x0 x1 6))⟩,
      ⟨Rect.unit (s := S512x256) ![160, 0] S32x256.size inb_S512x256_S32x256_160_0, bytes (square c arg1 harg1 arg2 harg2 arg7 x0 x1 5) (codeOf (square c arg1 harg1 arg2 harg2 arg7 x0 x1 5))⟩,
      ⟨Rect.unit (s := S512x256) ![128, 0] S32x256.size inb_S512x256_S32x256_128_0, bytes (square c arg1 harg1 arg2 harg2 arg7 x0 x1 4) (codeOf (square c arg1 harg1 arg2 harg2 arg7 x0 x1 4))⟩,
      ⟨Rect.unit (s := S512x256) ![96, 0] S32x256.size inb_S512x256_S32x256_96_0, bytes (square c arg1 harg1 arg2 harg2 arg7 x0 x1 3) (codeOf (square c arg1 harg1 arg2 harg2 arg7 x0 x1 3))⟩,
      ⟨Rect.unit (s := S512x256) ![64, 0] S32x256.size inb_S512x256_S32x256_64_0, bytes (square c arg1 harg1 arg2 harg2 arg7 x0 x1 2) (codeOf (square c arg1 harg1 arg2 harg2 arg7 x0 x1 2))⟩,
      ⟨Rect.unit (s := S512x256) ![32, 0] S32x256.size inb_S512x256_S32x256_32_0, bytes (square c arg1 harg1 arg2 harg2 arg7 x0 x1 1) (codeOf (square c arg1 harg1 arg2 harg2 arg7 x0 x1 1))⟩,
      ⟨Rect.unit (s := S512x256) ![0, 0] S32x256.size inb_S512x256_S32x256_0_0, bytes (square c arg1 harg1 arg2 harg2 arg7 x0 x1 0) (codeOf (square c arg1 harg1 arg2 harg2 arg7 x0 x1 0))⟩]

set_option maxHeartbeats 4000000 in
theorem run_codes : (kernelRun0_A (F := F) c i arg1 harg1 arg2 harg2 arg3 harg3 arg4 harg4 arg5 harg5 arg6 harg6 arg7 harg7 x0 x1).1 = codePieces c arg1 harg1 arg2 harg2 arg7 x0 x1 := by
  unfold kernelRun0_A codePieces
  exact rfl

set_option maxHeartbeats 4000000 in
theorem run_scales : (kernelRun0_A (F := F) c i arg1 harg1 arg2 harg2 arg3 harg3 arg4 harg4 arg5 harg5 arg6 harg6 arg7 harg7 x0 x1).2.1 = [⟨Rect.unit (s := S128x256) ![0, 0] S128x256.size inb_S128x256_S128x256_0_0, trunci 8 (stackI fun k => codeOf (square c arg1 harg1 arg2 harg2 arg7 x0 x1 k)) natLt_8_32⟩] := by
  unfold kernelRun0_A
  exact rfl

set_option maxHeartbeats 4000000 in
theorem run_masks : (kernelRun0_A (F := F) c i arg1 harg1 arg2 harg2 arg3 harg3 arg4 harg4 arg5 harg5 arg6 harg6 arg7 harg7 x0 x1).2.2.1 = maskPieces c arg1 harg1 arg2 harg2 arg7 x0 x1 := by
  unfold kernelRun0_A maskPieces
  exact rfl

set_option maxHeartbeats 4000000 in
theorem run_deq : (kernelRun0_A (F := F) c i arg1 harg1 arg2 harg2 arg3 harg3 arg4 harg4 arg5 harg5 arg6 harg6 arg7 harg7 x0 x1).2.2.2.1 = deqPieces c arg1 harg1 arg2 harg2 arg7 x0 x1 := by
  unfold kernelRun0_A deqPieces
  exact rfl

end Cert.QuantWIdeal.Seg

end
-- ==== Proof.QuantWRead.lean ====
/-
  The weights' vectors over the extended reals, entry by entry: from a square of a real matrix, the scale codes, the quantised and
  the dequantised entries and the masks are the quantiser's, each column quantised by blocks of 32 rows.
-/
module

public import proofs.«01_k».proof.Proof.QuantWTrip
public import proofs.«01_k».proof.Proof.QuantXPoint
public import Idealize.ShloMosaic.Lib.KernelVsHost
public import Idealize.ShloMosaic.Lib.BitcastPair

@[expose] public section

set_option maxRecDepth 16384

noncomputable section

namespace Cert.QuantWIdeal.Seg

open Cert.QuantWIdeal Cert.QuantWIdeal.Gen Cert.Quantiser Idealize.ShloMosaic Idealize.ShloMosaic.TcCoe Idealize.SL.Sem
open Cert.QuantXIdeal.Trip (coe_sum' coe_max' coe_min' coe_abs' select_ofBool)

/-! ## Rows -/

/-- Entry `(r, l)` of eight rows. -/
abbrev ix (r : Fin 8) (l : Fin 256) : S8x256.Idx := fun a => match a with
  | ⟨0, _⟩ => ⟨r.val, r.isLt⟩
  | ⟨1, _⟩ => ⟨l.val, l.isLt⟩
/-- An entry of a square. -/
abbrev sq (i : Fin 256) (j : Fin 256) : S256x256.Idx := fun a => match a with
  | ⟨0, _⟩ => ⟨i.val, i.isLt⟩
  | ⟨1, _⟩ => ⟨j.val, j.isLt⟩

theorem sub_ix (r : Fin 8) (l : Fin 256) : sub (ix r l) = BitVec.ofNat 32 r.val := iota_single_apply _ _ _ 0 _ _

/-- Whether the row has a bit. -/
def has (d : ℕ) (r : Fin 8) : Bool := r.val &&& d != 0
/-- The row `d` back, around the end. -/
def back (r : Fin 8) (d : ℕ) : Fin 8 := ⟨(r.val + 8 - d % 8) % 8, Nat.mod_lt _ (by decide)⟩

theorem has_facts : ∀ r d : Fin 8, ((BitVec.ofNat 32 r.val &&& BitVec.ofNat 32 d.val) != 0#32) = has d.val r := by decide

theorem select_hi {α : Type} (d : Fin 8) (a b : S8x256.Idx → α) (r : Fin 8) (l : Fin 256) :
    select (hi (BitVec.ofNat 32 d.val)) a b (ix r l) = if has d.val r then a (ix r l) else b (ix r l) := by
  show Scalar.select (BitVec.ofBool ((sub (ix r l) &&& BitVec.ofNat 32 d.val) != 0#32)) _ _ = _
  rw [sub_ix, select_ofBool, has_facts]

theorem turn_ix {α : Type} (d : Fin 8) (a : S8x256.Idx → α) (r : Fin 8) (l : Fin 256) :
    turn (BitVec.ofNat 32 d.val) a (ix r l) = a (ix (back r d.val) l) := by
  refine dynamicRotate_apply 0 _ a _ _ _ fun b => ?_
  have hd : (BitVec.ofNat 32 d.val).toNat = d.val := by rw [BitVec.toNat_ofNat]; omega
  match b with
  | ⟨0, _⟩ =>
    refine Eq.trans ?_ (if_pos rfl).symm
    show (r.val + 8 - d.val % 8) % 8 = (r.val + 8 - (BitVec.ofNat 32 d.val).toNat % 8) % 8
    rw [hd]
  | ⟨1, _⟩ => rfl

variable {α : Type} (op : (S8x256.Idx → α) → (S8x256.Idx → α) → (S8x256.Idx → α)) (f : α → α → α) (hop : ∀ a b x, op a b x = f (a x) (b x))
include hop

theorem merge_ix (d : Fin 8) (a b : S8x256.Idx → α) (r : Fin 8) (l : Fin 256) :
    merge op (BitVec.ofNat 32 d.val) a b (ix r l)
      = f (if has d.val r then b (ix r l) else a (ix r l)) (if has d.val (back r d.val) then a (ix (back r d.val) l) else b (ix (back r d.val) l)) := by
  unfold merge
  rw [hop, turn_ix, select_hi, select_hi]

/-- Row `r` of the merged parts: the rows of part `r`, from row `r` back. -/
theorem merged_ix (p : ℕ → S8x256.Idx → α) (r : Fin 8) (l : Fin 256) :
    merged op p (ix r l) =
      f (f (f (p r.val (ix r l)) (p r.val (ix (back r 1) l))) (f (p r.val (ix (back r 2) l)) (p r.val (ix (back r 3) l))))
        (f (f (p r.val (ix (back r 4) l)) (p r.val (ix (back r 5) l))) (f (p r.val (ix (back r 6) l)) (p r.val (ix (back r 7) l)))) := by
  have h1 := merge_ix op f hop 1
  have h2 := merge_ix op f hop 2
  have h4 := merge_ix op f hop 4
  simp only [show BitVec.ofNat 32 (1 : Fin 8).val = 1#32 from rfl, show BitVec.ofNat 32 (2 : Fin 8).val = 2#32 from rfl,
    show BitVec.ofNat 32 (4 : Fin 8).val = 4#32 from rfl] at h1 h2 h4
  show merge op 4#32 (merge op 2#32 (merge op 1#32 (p 0) (p 1)) (merge op 1#32 (p 2) (p 3)))
    (merge op 2#32 (merge op 1#32 (p 4) (p 5)) (merge op 1#32 (p 6) (p 7))) (ix r l) = _
  rw [h4]
  simp only [h2]
  simp only [h1]
  fin_cases r <;> rfl

omit hop in
/-- The entries of one row of a square's row of eight. -/
theorem row_ix (v : FVec Ideal S256x256 .f32) (n : Fin 32) (r : Fin 8) (l : Fin 256) :
    row v n.val (ix r l) = v (sq ⟨8 * n.val + r.val, by omega⟩ l) := by
  refine extractStridedSlice_apply _ v _ _ _ fun a => ?_
  match a with
  | ⟨0, _⟩ =>
    show 8 * n.val + r.val = 8 * (n.val % 32) + r.val
    rw [Nat.mod_eq_of_lt n.isLt]
  | ⟨1, _⟩ => show l.val = 0 + l.val; omega

omit hop in
/-- An entry of one row. -/
abbrev one (l : Fin 256) : S1x256.Idx := fun a => match a with
  | ⟨0, _⟩ => ⟨0, Nat.one_pos⟩
  | ⟨1, _⟩ => ⟨l.val, l.isLt⟩

omit hop in
theorem spread_ix (s : Fin 8) (x : FVec Ideal S8x256 .f32) (r : Fin 8) (l : Fin 256) : spread s.val x (ix r l) = x (ix s l) := by
  unfold spread
  rw [shapeCast_self, broadcastTo_apply _ _ _ (one l) (by
      intro a
      match a with
      | ⟨0, _⟩ => rfl
      | ⟨1, _⟩ => rfl)]
  refine extractStridedSlice_apply _ x _ _ _ fun a => ?_
  match a with
  | ⟨0, _⟩ =>
    show s.val = s.val % 8 + 0
    omega
  | ⟨1, _⟩ => show l.val = 0 + l.val; omega

/-! ## A square of a real matrix -/

variable {v : FVec Ideal S256x256 .f32} {A : Fin 256 → ℕ → ℝ} {k : ℕ}

omit hop in
/-- The square is 256 rows of a real matrix, from row `256 k`; `A l` is column `l`. -/
def Square (v : FVec Ideal S256x256 .f32) (A : Fin 256 → ℕ → ℝ) (k : ℕ) : Prop :=
  ∀ i l, v (sq i l) = ((A l (256 * k + i.val) : ℝ) : EReal)

omit hop in
theorem row_real (hv : Square v A k) (n : Fin 32) (r : Fin 8) (l : Fin 256) :
    row v n.val (ix r l) = ((A l (256 * k + 8 * n.val + r.val) : ℝ) : EReal) := by
  rw [row_ix, hv]; rw [Nat.add_assoc]

omit hop in
theorem sums_real (hv : Square v A k) (s r : Fin 8) (l : Fin 256) :
    sums v s.val (ix r l) = ((A l (32 * (8 * k + s.val) + r.val) * A l (32 * (8 * k + s.val) + r.val)
      + A l (32 * (8 * k + s.val) + (8 + r.val)) * A l (32 * (8 * k + s.val) + (8 + r.val))
      + (A l (32 * (8 * k + s.val) + (16 + r.val)) * A l (32 * (8 * k + s.val) + (16 + r.val))
      + A l (32 * (8 * k + s.val) + (24 + r.val)) * A l (32 * (8 * k + s.val) + (24 + r.val))) : ℝ) : EReal) := by
  have h0 := row_real hv ⟨4 * s.val, by omega⟩ r l
  have h1 := row_real hv ⟨4 * s.val + 1, by omega⟩ r l
  have h2 := row_real hv ⟨4 * s.val + 2, by omega⟩ r l
  have h3 := row_real hv ⟨4 * s.val + 3, by omega⟩ r l
  dsimp only at h0 h1 h2 h3
  show (row v (4 * s.val) (ix r l) : EReal) * row v (4 * s.val) (ix r l) + row v (4 * s.val + 1) (ix r l) * row v (4 * s.val + 1) (ix r l)
    + (row v (4 * s.val + 2) (ix r l) * row v (4 * s.val + 2) (ix r l) + row v (4 * s.val + 3) (ix r l) * row v (4 * s.val + 3) (ix r l)) = _
  rw [h0, h1, h2, h3]
  simp only [← EReal.coe_mul, ← EReal.coe_add]
  rw [show 256 * k + 8 * (4 * s.val) + r.val = 32 * (8 * k + s.val) + r.val by omega,
    show 256 * k + 8 * (4 * s.val + 1) + r.val = 32 * (8 * k + s.val) + (8 + r.val) by omega,
    show 256 * k + 8 * (4 * s.val + 2) + r.val = 32 * (8 * k + s.val) + (16 + r.val) by omega,
    show 256 * k + 8 * (4 * s.val + 3) + r.val = 32 * (8 * k + s.val) + (24 + r.val) by omega]

omit hop in
/-- Eight sums of four, from any row back, are the sum of the 32. -/
theorem tree_sum (g : ℕ → ℝ) (r : Fin 8) :
    let q := fun i : Fin 8 => g i.val + g (8 + i.val) + (g (16 + i.val) + g (24 + i.val))
    q r + q (back r 1) + (q (back r 2) + q (back r 3)) + (q (back r 4) + q (back r 5) + (q (back r 6) + q (back r 7)))
      = ∑ i ∈ Finset.range 32, g i := by
  intro q
  have h : q r + q (back r 1) + (q (back r 2) + q (back r 3)) + (q (back r 4) + q (back r 5) + (q (back r 6) + q (back r 7)))
      = q 0 + q 1 + q 2 + q 3 + q 4 + q 5 + q 6 + q 7 := by
    fin_cases r
    · show q 0 + q 7 + (q 6 + q 5) + (q 4 + q 3 + (q 2 + q 1)) = _; ring
    · show q 1 + q 0 + (q 7 + q 6) + (q 5 + q 4 + (q 3 + q 2)) = _; ring
    · show q 2 + q 1 + (q 0 + q 7) + (q 6 + q 5 + (q 4 + q 3)) = _; ring
    · show q 3 + q 2 + (q 1 + q 0) + (q 7 + q 6 + (q 5 + q 4)) = _; ring
    · show q 4 + q 3 + (q 2 + q 1) + (q 0 + q 7 + (q 6 + q 5)) = _; ring
    · show q 5 + q 4 + (q 3 + q 2) + (q 1 + q 0 + (q 7 + q 6)) = _; ring
    · show q 6 + q 5 + (q 4 + q 3) + (q 2 + q 1 + (q 0 + q 7)) = _; ring
    · show q 7 + q 6 + (q 5 + q 4) + (q 3 + q 2 + (q 1 + q 0)) = _; ring
  rw [h]
  have e : ∀ i : Fin 8, q i = g i.val + g (8 + i.val) + (g (16 + i.val) + g (24 + i.val)) := fun _ => rfl
  simp only [e, Finset.sum_range_succ, Finset.sum_range_zero]
  norm_num
  ring

omit hop in
theorem sumSq_real (hv : Square v A k) (s : Fin 8) (l : Fin 256) : sumSq v (ix s l) = ((sumSqR (A l) (8 * k + s.val) : ℝ) : EReal) := by
  unfold sumSq
  refine (merged_ix addf (fun a b : EReal => a + b) (fun _ _ _ => rfl) (sums v) s l).trans ?_
  simp only [sums_real hv, ← EReal.coe_add]
  exact congrArg _ (tree_sum (fun i => A l (32 * (8 * k + s.val) + i) * A l (32 * (8 * k + s.val) + i)) s)

omit hop in
theorem rms_real (hv : Square v A k) (s : Fin 8) (l : Fin 256) : rms (sumSq v) (ix s l) = ((rmsR (A l) (8 * k + s.val) : ℝ) : EReal) := by
  show Ideal.sqrt (sumSq v (ix s l) * Ideal.ofBits .f32 0x3D000000#32) = _
  rw [sumSq_real hv, bits_32nd, ← EReal.coe_mul, Ideal.sqrt_coe, if_neg (not_lt.2 (mul_nonneg (sumSqR_nonneg _ _) (by norm_num)))]
  rfl

omit hop in
theorem amax_real (hv : Square v A k) (s : Fin 8) (l : Fin 256) :
    amax (rms (sumSq v)) (ix s l) = ((ampR (A l) (8 * k + s.val) : ℝ) : EReal) := by
  show Ideal.ofBits .f32 0x403AE148#32 * rms (sumSq v) (ix s l) * Ideal.ofBits .f32 0x3E2AAAAB#32 = _
  rw [rms_real hv, bits_alpha, bits_sixth, ← EReal.coe_mul, ← EReal.coe_mul]
  rfl

omit hop in
theorem pow2_ix (f : IVec S8x256 32) (x : S8x256.Idx) (k : ℕ) (h : f x = BitVec.ofNat 32 k) :
    pow2 (F := Ideal) f x = Ideal.ofBits .f32 (BitVec.ofNat 32 k <<< 23) := by
  show Ideal.ofBits .f32 (IntOp.shli .vector (f x) 23#32) = _
  rw [h]; rfl

omit hop in
theorem fstep_ix (a : FVec Ideal S8x256 .f32) (x : S8x256.Idx) (p : ℕ → Bool)
    (hp : ∀ k, 1 ≤ k → k ≤ 255 → decide (Ideal.ofBits .f32 (BitVec.ofNat 32 k <<< 23) ≤ (a x : EReal)) = p k)
    (f : IVec S8x256 32) (b n : ℕ) (hb : 1 ≤ b) (hn : n + b ≤ 255) (hf : f x = BitVec.ofNat 32 n) :
    fstep a (BitVec.ofNat 32 b) f x = BitVec.ofNat 32 (step p b n) ∧ step p b n ≤ n + b := by
  have e : addi f (bc (BitVec.ofNat 32 b)) x = BitVec.ofNat 32 (n + b) := by
    show f x + BitVec.ofNat 32 b = _
    rw [hf, BitVec.ofNat_add]
  refine ⟨?_, by unfold step; split <;> omega⟩
  show Scalar.select (BitVec.ofBool (decide ((pow2 (F := Ideal) (addi f (bc (BitVec.ofNat 32 b))) x : EReal) ≤ a x)))
    (addi f (bc (BitVec.ofNat 32 b)) x) (f x) = _
  rw [select_ofBool, pow2_ix _ _ _ e, hp _ (by omega) (by omega), e, hf]
  unfold step
  split <;> rfl

omit hop in
theorem field_ix (a : FVec Ideal S8x256 .f32) (x : S8x256.Idx) (p : ℕ → Bool)
    (hp : ∀ k, 1 ≤ k → k ≤ 255 → decide (Ideal.ofBits .f32 (BitVec.ofNat 32 k <<< 23) ≤ (a x : EReal)) = p k) :
    field a x = BitVec.ofNat 32 (search p) := by
  obtain ⟨h1, b1⟩ := fstep_ix a x p hp (bc 0#32) 128 0 (by omega) (by omega) rfl
  obtain ⟨h2, b2⟩ := fstep_ix a x p hp _ 64 _ (by omega) (by omega) h1
  obtain ⟨h3, b3⟩ := fstep_ix a x p hp _ 32 _ (by omega) (by omega) h2
  obtain ⟨h4, b4⟩ := fstep_ix a x p hp _ 16 _ (by omega) (by omega) h3
  obtain ⟨h5, b5⟩ := fstep_ix a x p hp _ 8 _ (by omega) (by omega) h4
  obtain ⟨h6, b6⟩ := fstep_ix a x p hp _ 4 _ (by omega) (by omega) h5
  obtain ⟨h7, b7⟩ := fstep_ix a x p hp _ 2 _ (by omega) (by omega) h6
  exact (fstep_ix a x p hp _ 1 _ (by omega) (by omega) h7).1

omit hop in
theorem field_real (a : FVec Ideal S8x256 .f32) (x : S8x256.Idx) (y : ℝ) (h : (a x : EReal) = (y : EReal))
    (h1 : (2 : ℝ) ^ (-126 : ℤ) ≤ y) (h2 : y < (2 : ℝ) ^ (127 : ℤ)) : field a x = BitVec.ofNat 32 (expo y + 127).toNat := by
  have hp : 0 < y := lt_of_lt_of_le (zpow_pos (by norm_num) _) h1
  have g1 := expo_ge _ _ h1
  have g2 := expo_lt _ hp _ h2
  rw [field_ix a x (fun k => decide (k ≤ (expo y + 127).toNat))]
  · rw [search_le ⟨(expo y + 127).toNat, by omega⟩]
  · intro k k1 k2
    rw [h]
    by_cases hk : k = 255
    · subst hk
      rw [bits_field_top]
      rw [decide_eq_false (by simp), decide_eq_false (by omega)]
    · rw [bits_field k k1 (by omega)]
      refine decide_eq_decide.2 ?_
      rw [EReal.coe_le_coe_iff, zpow_le_iff _ hp]
      omega

omit hop in
theorem code_real (hv : Square v A k) (s : Fin 8) (l : Fin 256) (ht : TameBlock (A l) (8 * k + s.val)) :
    codeOf v (ix s l) = BitVec.ofNat 32 (codeR (A l) (8 * k + s.val)) := by
  show Scalar.select (BitVec.ofBool (decide ((rms (sumSq v) (ix s l) : EReal) = Ideal.ofBits .f32 0x00000000#32))) 127#32 _ = _
  rw [select_ofBool, rms_real hv, bits_0]
  by_cases h0 : rmsR (A l) (8 * k + s.val) = 0
  · rw [h0]; unfold codeR expR; rw [if_pos h0]; simp
  · have : ¬(((rmsR (A l) (8 * k + s.val) : ℝ) : EReal) = ((0 : ℝ) : EReal)) := by
      rw [EReal.coe_eq_coe_iff]; exact h0
    obtain ⟨h1, h2⟩ := ht.resolve_left h0
    simp only [this, decide_false, Bool.false_eq_true, if_false]
    rw [field_real _ _ _ (amax_real hv s l) h1 h2]
    unfold codeR expR; rw [if_neg h0]

omit hop in
theorem inv_ix (c : IVec S8x256 32) (x : S8x256.Idx) (n : ℕ) (h : c x = BitVec.ofNat 32 n) (h1 : 1 ≤ n) (h2 : n ≤ 253) :
    inv (F := Ideal) c x = (((2 : ℝ) ^ (-((n : ℤ) - 127)) : ℝ) : EReal) := by
  unfold inv
  rw [pow2_ix _ _ (254 - n) (by
    show 254#32 - c x = _
    rw [h]; exact (BitVec.ofNat_sub_ofNat_of_le 254 n (by omega) (by omega)).trans rfl), bits_field _ (by omega) (by omega)]
  congr 2; omega

variable (hv : Square v A k) (ht : ∀ l, ∀ s < 8, TameBlock (A l) (8 * k + s))
omit hop
include hv ht

theorem scaled_real (n : Fin 32) (r : Fin 8) (l : Fin 256) :
    scaled v (codeOf v) n.val (ix r l) = ((scaledR (A l) (256 * k + 8 * n.val + r.val) : ℝ) : EReal) := by
  have hs : n.val / 4 < 8 := by omega
  have h := codeR_cast (ht l _ hs)
  show (row v n.val (ix r l) : EReal) * spread (n.val / 4) _ (ix r l) = _
  have e := spread_ix ⟨n.val / 4, hs⟩ (inv (codeOf v)) r l
  dsimp only at e
  rw [e, inv_ix _ _ _ (code_real hv ⟨n.val / 4, hs⟩ l (ht l _ hs)) h.2.1 h.2.2, row_real hv, ← EReal.coe_mul, h.1]
  unfold scaledR
  rw [show (256 * k + 8 * n.val + r.val) / 32 = 8 * k + n.val / 4 by omega]
  congr 3; ring_nf

omit hv ht in
theorem roundC_real (v : FVec Ideal S8x256 .f32) (x : S8x256.Idx) (y : ℝ) (h : (v x : EReal) = (y : EReal)) :
    roundC (clip v) x = ((roundR (clipR y) : ℝ) : EReal) := by
  have hc : clip v x = ((clipR y : ℝ) : EReal) := by
    show min (Ideal.ofBits .f32 0x40C00000#32) (max (Ideal.ofBits .f32 0xC0C00000#32) (v x : EReal)) = _
    rw [h, bits_6, bits_m6, ← coe_max', ← coe_min']; rfl
  generalize clip v = c at hc ⊢
  generalize clipR y = z at hc ⊢
  show Ideal.liftRound Ideal.roundHalfEven ((c x : EReal) *
      Scalar.select (BitVec.ofBool (decide (max (c x : EReal) (-(c x)) < Ideal.ofBits .f32 0x40000000#32))) (Ideal.ofBits .f32 0x40000000#32)
        (Scalar.select (BitVec.ofBool (decide (max (c x : EReal) (-(c x)) < Ideal.ofBits .f32 0x40800000#32))) (Ideal.ofBits .f32 0x3F800000#32)
          (Ideal.ofBits .f32 0x3F000000#32)))
    * (Scalar.select (BitVec.ofBool (decide (max (c x : EReal) (-(c x)) < Ideal.ofBits .f32 0x40000000#32))) (Ideal.ofBits .f32 0x3F800000#32)
        (Scalar.select (BitVec.ofBool (decide (max (c x : EReal) (-(c x)) < Ideal.ofBits .f32 0x40800000#32))) (Ideal.ofBits .f32 0x40000000#32)
          (Ideal.ofBits .f32 0x40800000#32)) * Ideal.ofBits .f32 0x3F000000#32) = _
  rw [hc, coe_abs', bits_2, bits_4, bits_1, bits_half]
  simp only [select_ofBool, EReal.coe_lt_coe_iff, decide_eq_true_eq]
  unfold roundR
  by_cases h1 : |z| < 2
  · simp only [if_pos h1, ← EReal.coe_mul]; rfl
  · by_cases h2 : |z| < 4
    · simp only [if_neg h1, if_pos h2, ← EReal.coe_mul]; rfl
    · simp only [if_neg h1, if_neg h2, ← EReal.coe_mul]; rfl

theorem quant_real (n : Fin 32) (r : Fin 8) (l : Fin 256) :
    quant v (codeOf v) n.val (ix r l) = ((quantR (A l) (256 * k + 8 * n.val + r.val) : ℝ) : EReal) :=
  roundC_real _ _ _ (scaled_real hv ht n r l)

theorem dequant_real (n : Fin 32) (r : Fin 8) (l : Fin 256) :
    dequant v (codeOf v) n.val (ix r l) = ((deqR (A l) (256 * k + 8 * n.val + r.val) : ℝ) : EReal) := by
  have hs : n.val / 4 < 8 := by omega
  have h := codeR_cast (ht l _ hs)
  show (quant v (codeOf v) n.val (ix r l) : EReal) * spread (n.val / 4) _ (ix r l) = _
  have e := spread_ix ⟨n.val / 4, hs⟩ (pow2 (codeOf v)) r l
  dsimp only at e
  rw [e, pow2_ix _ _ _ (code_real hv ⟨n.val / 4, hs⟩ l (ht l _ hs)), bits_field _ h.2.1 (by have := h.2.2; omega), quant_real hv ht, ← EReal.coe_mul, h.1]
  unfold deqR
  rw [show (256 * k + 8 * n.val + r.val) / 32 = 8 * k + n.val / 4 by omega]
  congr 3; ring_nf

/-! ## The pieces, one below the other -/

omit hv ht in
theorem stack_sq (f : ℕ → FVec Ideal S8x256 .f32) (i l : Fin 256) : stack f (sq i l) = f (i.val / 8) (ix ⟨i.val % 8, Nat.mod_lt _ (by decide)⟩ l) := by
  refine (concatenate_ofFn_apply (t := S256x256) (s₁ := S8x256) 0 (fun n : Fin 32 => f n.val) concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0 rfl 8 rfl (sq i l)
    ⟨i.val / 8, by omega⟩ rfl _ rfl fun b hb => ?_)
  match b with
  | ⟨0, _⟩ => exact absurd rfl hb
  | ⟨1, _⟩ => rfl

omit hv ht in
/-- An entry of the scale codes of a block of columns. -/
abbrev tall (i : Fin 128) (l : Fin 256) : S128x256.Idx := fun a => match a with
  | ⟨0, _⟩ => ⟨i.val, i.isLt⟩
  | ⟨1, _⟩ => ⟨l.val, l.isLt⟩

omit hv ht in
theorem stackI_tall (f : ℕ → IVec S8x256 32) (i : Fin 128) (l : Fin 256) :
    stackI f (tall i l) = f (i.val / 8) (ix ⟨i.val % 8, Nat.mod_lt _ (by decide)⟩ l) := by
  refine (concatenate_ofFn_apply (t := S128x256) (s₁ := S8x256) 0 (fun n : Fin 16 => f n.val) concatenates_S8x256_S8x256_S8x256_S8x256_S8x256_S8x256_S8x256_S8x256_S8x256_S8x256_S8x256_S8x256_S8x256_S8x256_S8x256_S8x256_S128x256_d0 rfl 8 rfl (tall i l)
    ⟨i.val / 8, by omega⟩ rfl _ rfl fun b hb => ?_)
  match b with
  | ⟨0, _⟩ => exact absurd rfl hb
  | ⟨1, _⟩ => rfl

theorem quantOf_real (i l : Fin 256) : quantOf v (sq i l) = ((quantR (A l) (256 * k + i.val) : ℝ) : EReal) := by
  have h := quant_real hv ht ⟨i.val / 8, by omega⟩ ⟨i.val % 8, Nat.mod_lt _ (by decide)⟩ l
  dsimp only at h
  rw [show 256 * k + 8 * (i.val / 8) + i.val % 8 = 256 * k + i.val by omega] at h
  exact (stack_sq (quant v (codeOf v)) i l).trans h

theorem deqOf_real (i l : Fin 256) : deqOf v (sq i l) = ((deqR (A l) (256 * k + i.val) : ℝ) : EReal) := by
  have h := dequant_real hv ht ⟨i.val / 8, by omega⟩ ⟨i.val % 8, Nat.mod_lt _ (by decide)⟩ l
  dsimp only at h
  rw [show 256 * k + 8 * (i.val / 8) + i.val % 8 = 256 * k + i.val by omega] at h
  exact (stack_sq (dequant v (codeOf v)) i l).trans h

/-! ## The masks -/

theorem addBit_ix (n : Fin 32) (r : Fin 8) (l : Fin 256) (bit : BitVec 32) (w : IVec S8x256 32) :
    addBit v (codeOf v) n.val bit w (ix r l)
      = w (ix r l) ||| if keptR (A l) (256 * k + 8 * n.val + r.val) then bit <<< r.val else 0#32 := by
  show w (ix r l) ||| Scalar.select (BitVec.ofBool (decide (max (scaled v _ _ (ix r l) : EReal) (-(scaled v _ _ (ix r l))) ≤
    Ideal.ofBits .f32 0x40C00000#32))) (IntOp.shli .vector bit (sub (ix r l))) 0#32 = _
  have hs : ∀ r : Fin 8, IntOp.shli .vector bit (BitVec.ofNat 32 r.val) = bit <<< r.val := by
    intro r; fin_cases r <;> rfl
  rw [scaled_real hv ht, coe_abs', bits_6, select_ofBool, sub_ix, hs]
  simp only [EReal.coe_le_coe_iff]
  rfl

omit hv ht in
theorem shifted_bits : ∀ r : Fin 8, ∀ t : Fin 32,
    (1#32 <<< r.val).getLsbD t.val = decide (t.val = r.val) ∧ (256#32 <<< r.val).getLsbD t.val = decide (t.val = 8 + r.val)
    ∧ (65536#32 <<< r.val).getLsbD t.val = decide (t.val = 16 + r.val) ∧ (16777216#32 <<< r.val).getLsbD t.val = decide (t.val = 24 + r.val) := by
  decide +kernel

omit hv ht in
theorem ite_bit (p : Bool) (a : BitVec 32) (t : ℕ) : (if p then a else 0#32).getLsbD t = (a.getLsbD t && p) := by
  cases p <;> simp

/-- The bits of a block's words: row `r` holds those of the entries in row `r` of the four parts. -/
theorem words_bit (s r : Fin 8) (l : Fin 256) (t : Fin 32) :
    (words v (codeOf v) s.val (ix r l)).getLsbD t.val = (decide (t.val % 8 = r.val) && keptR (A l) (32 * (8 * k + s.val) + t.val)) := by
  have h0 := addBit_ix hv ht ⟨4 * s.val, by omega⟩ r l 1#32
  have h1 := addBit_ix hv ht ⟨4 * s.val + 1, by omega⟩ r l 256#32
  have h2 := addBit_ix hv ht ⟨4 * s.val + 2, by omega⟩ r l 65536#32
  have h3 := addBit_ix hv ht ⟨4 * s.val + 3, by omega⟩ r l 16777216#32
  dsimp only at h0 h1 h2 h3
  obtain ⟨b0, b1, b2, b3⟩ := shifted_bits r t
  unfold words
  rw [h3, h2, h1, h0]
  simp only [BitVec.getLsbD_or, ite_bit, b0, b1, b2, b3]
  rw [show (bc 0#32 (ix r l)).getLsbD t.val = false from BitVec.getLsbD_zero, Bool.false_or]
  have hr := r.isLt
  by_cases h : t.val % 8 = r.val
  · have hg : t.val = r.val ∨ t.val = 8 + r.val ∨ t.val = 16 + r.val ∨ t.val = 24 + r.val := by omega
    rcases hg with e | e | e | e
    · rw [decide_eq_true e, decide_eq_false (by omega), decide_eq_false (by omega), decide_eq_false (by omega), decide_eq_true h]
      simp only [Bool.true_and, Bool.false_and, Bool.or_false, Bool.false_or]
      congr 1; omega
    · rw [decide_eq_false (by omega), decide_eq_true e, decide_eq_false (by omega), decide_eq_false (by omega), decide_eq_true h]
      simp only [Bool.true_and, Bool.false_and, Bool.or_false, Bool.false_or]
      congr 1; omega
    · rw [decide_eq_false (by omega), decide_eq_false (by omega), decide_eq_true e, decide_eq_false (by omega), decide_eq_true h]
      simp only [Bool.true_and, Bool.false_and, Bool.or_false, Bool.false_or]
      congr 1; omega
    · rw [decide_eq_false (by omega), decide_eq_false (by omega), decide_eq_false (by omega), decide_eq_true e, decide_eq_true h]
      simp only [Bool.true_and, Bool.false_and, Bool.or_false, Bool.false_or]
      congr 1; omega
  · rw [decide_eq_false (show ¬t.val = r.val by omega), decide_eq_false (show ¬t.val = 8 + r.val by omega),
      decide_eq_false (show ¬t.val = 16 + r.val by omega), decide_eq_false (show ¬t.val = 24 + r.val by omega), decide_eq_false h]
    simp

omit hv ht in
/-- Of eight rows, from any row back, one holds a bit. -/
theorem tree_or : ∀ r u : Fin 8, ∀ p : Bool,
    (decide (u.val = r.val) && p || decide (u.val = (back r 1).val) && p || (decide (u.val = (back r 2).val) && p || decide (u.val = (back r 3).val) && p)
      || (decide (u.val = (back r 4).val) && p || decide (u.val = (back r 5).val) && p
        || (decide (u.val = (back r 6).val) && p || decide (u.val = (back r 7).val) && p))) = p := by decide +kernel

theorem word_bit (s : Fin 8) (l : Fin 256) (t : Fin 32) :
    (word v (codeOf v) (ix s l)).getLsbD t.val = keptR (A l) (32 * (8 * k + s.val) + t.val) := by
  unfold word
  refine (congrArg (fun w : BitVec 32 => w.getLsbD t.val) (merged_ix ori (fun a b : BitVec 32 => a ||| b) (fun _ _ _ => rfl) (words v (codeOf v)) s l)).trans ?_
  simp only [BitVec.getLsbD_or, words_bit hv ht]
  exact tree_or s ⟨t.val % 8, Nat.mod_lt _ (by decide)⟩ _

omit hv ht in
/-- An entry of the masks of a square. -/
abbrev low (i : Fin 32) (l : Fin 256) : S32x256.Idx := fun a => match a with
  | ⟨0, _⟩ => ⟨i.val, i.isLt⟩
  | ⟨1, _⟩ => ⟨l.val, l.isLt⟩

theorem bytes_real (q : Fin 32) (l : Fin 256) : bytes v (codeOf v) (low q l) = maskR (A l) (32 * k + q.val) := by
  refine eq_packed _ _ fun c => ?_
  unfold bytes
  rw [bitcast_getLsbD _ _ _ c.val c.isLt (by decide)]
  have hrow : S32x256.row (low q l) = q.val := rfl
  have hc := c.isLt
  have hq := q.isLt
  have e : (bitcasts_S8x256_w32_S32x256_w8).srcIdx (low q l) ((S32x256.row (low q l) * 8 + c.val) / 32) (fun a ha =>
      (Nat.div_lt_iff_lt_mul (by decide)).2 ((bitcasts_S8x256_w32_S32x256_w8).pos_lt (low q l) c.val c.isLt a ha)) = ix ⟨q.val / 4, by omega⟩ l := funext fun a => Fin.ext (by
    match a with
    | ⟨0, _⟩ =>
      rw [Shape.Bitcasts.srcIdx_row _ _ _ _ _ rfl, hrow]
      show (q.val * 8 + c.val) / 32 = q.val / 4
      omega
    | ⟨1, _⟩ =>
      rw [Shape.Bitcasts.srcIdx_other _ _ _ _ _ (show ¬(1 + 2 = 2) by decide)]
      rfl)
  rw [e, hrow]
  have h := word_bit hv ht ⟨q.val / 4, by omega⟩ l ⟨(q.val * 8 + c.val) % 32, Nat.mod_lt _ (by decide)⟩
  dsimp only at h
  rw [h]
  congr 1
  omega

end Cert.QuantWIdeal.Seg

end
-- ==== Proof.QuantWPoint.lean ====
/-
  One grid point of the weights' quantiser: the squares its scratch holds in turn are the block Hadamard matrix times the block's
  squares, and so what the body leaves in its four outputs, entry by entry, when the transformed columns are tame.
-/
module

public import proofs.«01_k».proof.Proof.QuantWRead
public import proofs.«01_k».proof.Proof.QuantXScratch
public import proofs.«01_k».proof.Proof.QuantXTame
public import Idealize.ShloMosaic.Lib.Pipeline.ValueKit.Acc

@[expose] public section

set_option maxRecDepth 16384

noncomputable section

namespace Cert.QuantWIdeal.Point

open Cert.QuantWIdeal Cert.QuantWIdeal.Gen Cert.QuantWIdeal.Seg Cert.Quantiser Idealize.ShloMosaic Idealize.ShloMosaic.TcCoe Idealize.SL.Sem

/-- The normalised product of the Hadamard block and one square. -/
def prod {F : FTy → Type} [FloatOps F] (h w : FVec F S256x256 .bf16) : FVec F S256x256 .f32 :=
  shapeCast S256x256 (mulf (matmul dot_S256x256_S256x256_S256x256_1_0_0_1_n_n none (shapeCast S256x256 h shapeCasts_S256x256_S256x256)
    w (constant S256x256 .f32 0x00000000#32))
    (broadcast S256x256 (Scalar.ofBits .f32 0x3E3504F3#32))) shapeCasts_S256x256_S256x256

section
variable {F : FTy → Type} [FloatOps F]
variable (c : Dev nD) (arg1 : Memref sig .tc .vmem S4096x256 .bf16) (harg1 : arg1.IsWhole) (arg2 : Memref sig .tc .vmem S256x256 .bf16) (harg2 : arg2.IsWhole)
  (arg7 : Memref sig .tc .vmem S256x256 .f32) (x0 : Vec F S4096x256 .bf16) (x1 : Vec F S256x256 .bf16)

theorem zero_off : ∀ a : Fin 2, (![0, 0] : Fin 2 → Nat) a = 0 := by decide

/-- The product of the Hadamard block and the rows from `o`. -/
def prodAt (o : ℕ) (h : ∀ a, (![o, 0] : Fin 2 → Nat) a + S256x256.size a ≤ S4096x256.size a) : FVec F S256x256 .f32 :=
  prod (View.readAt (Elt F) arg2.view (Rect.unit (s := S256x256) ![0, 0] S256x256.size inb_S256x256_S256x256_0_0).toLoadRect (harg2.unread x1))
    (View.readAt (Elt F) arg1.view (Rect.unit (s := S4096x256) ![o, 0] S256x256.size h).toLoadRect (harg1.unread x0))

theorem square_0 : square c arg1 harg1 arg2 harg2 arg7 x0 x1 0 = prodAt arg1 harg1 arg2 harg2 x0 x1 0 inb_S4096x256_S256x256_0_0 := by
  show kernelRun0_A.sl.v9 c arg1 harg1 arg2 harg2 arg7 x0 x1 = _
  unfold kernelRun0_A.sl.v9 kernelRun0_A.sl.HS0_1
  exact View.readCov_cons_unit_lit' arg7.view _ _ _ _ zero_off zero_off
theorem square_1 : square c arg1 harg1 arg2 harg2 arg7 x0 x1 1 = prodAt arg1 harg1 arg2 harg2 x0 x1 256 inb_S4096x256_S256x256_256_0 := by
  show kernelRun0_A.sl.v1544 c arg1 harg1 arg2 harg2 arg7 x0 x1 = _
  unfold kernelRun0_A.sl.v1544 kernelRun0_A.sl.HS0_2
  exact View.readCov_cons_unit_lit' arg7.view _ _ _ _ zero_off zero_off
theorem square_2 : square c arg1 harg1 arg2 harg2 arg7 x0 x1 2 = prodAt arg1 harg1 arg2 harg2 x0 x1 512 inb_S4096x256_S256x256_512_0 := by
  show kernelRun0_A.sl.v3079 c arg1 harg1 arg2 harg2 arg7 x0 x1 = _
  unfold kernelRun0_A.sl.v3079 kernelRun0_A.sl.HS0_3
  exact View.readCov_cons_unit_lit' arg7.view _ _ _ _ zero_off zero_off
theorem square_3 : square c arg1 harg1 arg2 harg2 arg7 x0 x1 3 = prodAt arg1 harg1 arg2 harg2 x0 x1 768 inb_S4096x256_S256x256_768_0 := by
  show kernelRun0_A.sl.v4614 c arg1 harg1 arg2 harg2 arg7 x0 x1 = _
  unfold kernelRun0_A.sl.v4614 kernelRun0_A.sl.HS0_4
  exact View.readCov_cons_unit_lit' arg7.view _ _ _ _ zero_off zero_off
theorem square_4 : square c arg1 harg1 arg2 harg2 arg7 x0 x1 4 = prodAt arg1 harg1 arg2 harg2 x0 x1 1024 inb_S4096x256_S256x256_1024_0 := by
  show kernelRun0_A.sl.v6149 c arg1 harg1 arg2 harg2 arg7 x0 x1 = _
  unfold kernelRun0_A.sl.v6149 kernelRun0_A.sl.HS0_5
  exact View.readCov_cons_unit_lit' arg7.view _ _ _ _ zero_off zero_off
theorem square_5 : square c arg1 harg1 arg2 harg2 arg7 x0 x1 5 = prodAt arg1 harg1 arg2 harg2 x0 x1 1280 inb_S4096x256_S256x256_1280_0 := by
  show kernelRun0_A.sl.v7684 c arg1 harg1 arg2 harg2 arg7 x0 x1 = _
  unfold kernelRun0_A.sl.v7684 kernelRun0_A.sl.HS0_6
  exact View.readCov_cons_unit_lit' arg7.view _ _ _ _ zero_off zero_off
theorem square_6 : square c arg1 harg1 arg2 harg2 arg7 x0 x1 6 = prodAt arg1 harg1 arg2 harg2 x0 x1 1536 inb_S4096x256_S256x256_1536_0 := by
  show kernelRun0_A.sl.v9219 c arg1 harg1 arg2 harg2 arg7 x0 x1 = _
  unfold kernelRun0_A.sl.v9219 kernelRun0_A.sl.HS0_7
  exact View.readCov_cons_unit_lit' arg7.view _ _ _ _ zero_off zero_off
theorem square_7 : square c arg1 harg1 arg2 harg2 arg7 x0 x1 7 = prodAt arg1 harg1 arg2 harg2 x0 x1 1792 inb_S4096x256_S256x256_1792_0 := by
  show kernelRun0_A.sl.v10754 c arg1 harg1 arg2 harg2 arg7 x0 x1 = _
  unfold kernelRun0_A.sl.v10754 kernelRun0_A.sl.HS0_8
  exact View.readCov_cons_unit_lit' arg7.view _ _ _ _ zero_off zero_off
theorem square_8 : square c arg1 harg1 arg2 harg2 arg7 x0 x1 8 = prodAt arg1 harg1 arg2 harg2 x0 x1 2048 inb_S4096x256_S256x256_2048_0 := by
  show kernelRun0_A.sl.v12289 c arg1 harg1 arg2 harg2 arg7 x0 x1 = _
  unfold kernelRun0_A.sl.v12289 kernelRun0_A.sl.HS0_9
  exact View.readCov_cons_unit_lit' arg7.view _ _ _ _ zero_off zero_off
theorem square_9 : square c arg1 harg1 arg2 harg2 arg7 x0 x1 9 = prodAt arg1 harg1 arg2 harg2 x0 x1 2304 inb_S4096x256_S256x256_2304_0 := by
  show kernelRun0_A.sl.v13824 c arg1 harg1 arg2 harg2 arg7 x0 x1 = _
  unfold kernelRun0_A.sl.v13824 kernelRun0_A.sl.HS0_10
  exact View.readCov_cons_unit_lit' arg7.view _ _ _ _ zero_off zero_off
theorem square_10 : square c arg1 harg1 arg2 harg2 arg7 x0 x1 10 = prodAt arg1 harg1 arg2 harg2 x0 x1 2560 inb_S4096x256_S256x256_2560_0 := by
  show kernelRun0_A.sl.v15359 c arg1 harg1 arg2 harg2 arg7 x0 x1 = _
  unfold kernelRun0_A.sl.v15359 kernelRun0_A.sl.HS0_11
  exact View.readCov_cons_unit_lit' arg7.view _ _ _ _ zero_off zero_off
theorem square_11 : square c arg1 harg1 arg2 harg2 arg7 x0 x1 11 = prodAt arg1 harg1 arg2 harg2 x0 x1 2816 inb_S4096x256_S256x256_2816_0 := by
  show kernelRun0_A.sl.v16894 c arg1 harg1 arg2 harg2 arg7 x0 x1 = _
  unfold kernelRun0_A.sl.v16894 kernelRun0_A.sl.HS0_12
  exact View.readCov_cons_unit_lit' arg7.view _ _ _ _ zero_off zero_off
theorem square_12 : square c arg1 harg1 arg2 harg2 arg7 x0 x1 12 = prodAt arg1 harg1 arg2 harg2 x0 x1 3072 inb_S4096x256_S256x256_3072_0 := by
  show kernelRun0_A.sl.v18429 c arg1 harg1 arg2 harg2 arg7 x0 x1 = _
  unfold kernelRun0_A.sl.v18429 kernelRun0_A.sl.HS0_13
  exact View.readCov_cons_unit_lit' arg7.view _ _ _ _ zero_off zero_off
theorem square_13 : square c arg1 harg1 arg2 harg2 arg7 x0 x1 13 = prodAt arg1 harg1 arg2 harg2 x0 x1 3328 inb_S4096x256_S256x256_3328_0 := by
  show kernelRun0_A.sl.v c arg1 harg1 arg2 harg2 arg7 x0 x1 = _
  unfold kernelRun0_A.sl.v kernelRun0_A.sl.HS0_14
  exact View.readCov_cons_unit_lit' arg7.view _ _ _ _ zero_off zero_off
theorem square_14 : square c arg1 harg1 arg2 harg2 arg7 x0 x1 14 = prodAt arg1 harg1 arg2 harg2 x0 x1 3584 inb_S4096x256_S256x256_3584_0 := by
  show kernelRun0_A.sl.v21499 c arg1 harg1 arg2 harg2 arg7 x0 x1 = _
  unfold kernelRun0_A.sl.v21499 kernelRun0_A.sl.HS0_15
  exact View.readCov_cons_unit_lit' arg7.view _ _ _ _ zero_off zero_off
theorem square_15 : square c arg1 harg1 arg2 harg2 arg7 x0 x1 15 = prodAt arg1 harg1 arg2 harg2 x0 x1 3840 inb_S4096x256_S256x256_3840_0 := by
  show kernelRun0_A.sl.v23034 c arg1 harg1 arg2 harg2 arg7 x0 x1 = _
  unfold kernelRun0_A.sl.v23034 kernelRun0_A.sl.HS0_16
  exact View.readCov_cons_unit_lit' arg7.view _ _ _ _ zero_off zero_off
end

theorem prod_apply (h w : FVec Ideal S256x256 .bf16) (i l : Fin 256) :
    prod (F := Ideal) h w (sq i l) = ((∑ j : Fin 256, h (sq i j) * w (sq j l)) * (norm : ℝ) : EReal) := by
  refine Eq.trans ?_ (Cert.QuantXIdeal.Scratch.prod_apply h w (sq i l))
  unfold prod Cert.QuantXIdeal.Scratch.prod
  simp only [shapeCast_self]
  rfl

/-- An entry of a block of columns. -/
abbrev col (i : ℕ) (l : Fin 256) : S4096x256.Idx := fun a => match a with
  | ⟨0, _⟩ => ⟨i % 4096, Nat.mod_lt _ (by decide)⟩
  | ⟨1, _⟩ => ⟨l.val, l.isLt⟩

variable (c : Dev nD) (i : grid0.Coords) (arg1 : Memref sig .tc .vmem S4096x256 .bf16) (harg1 : arg1.IsWhole) (arg2 : Memref sig .tc .vmem S256x256 .bf16) (harg2 : arg2.IsWhole) (arg3 : Memref sig .tc .vmem S4096x256 .fp8e4m3) (harg3 : arg3.IsWhole) (arg4 : Memref sig .tc .vmem S128x256 .i8) (harg4 : arg4.IsWhole) (arg5 : Memref sig .tc .vmem S512x256 .i8) (harg5 : arg5.IsWhole) (arg6 : Memref sig .tc .vmem S4096x256 .bf16) (harg6 : arg6.IsWhole) (arg7 : Memref sig .tc .vmem S256x256 .f32) (harg7 : arg7.IsWhole)
  (x0 : Vec Ideal S4096x256 .bf16) (x1 : Vec Ideal S256x256 .bf16)

theorem prodAt_apply (k : Fin 16) (o : ℕ) (ho : o = 256 * k.val) (h : ∀ a, (![o, 0] : Fin 2 → Nat) a + S256x256.size a ≤ S4096x256.size a) (i l : Fin 256) :
    prodAt (F := Ideal) arg1 harg1 arg2 harg2 x0 x1 o h (sq i l) = ((∑ j : Fin 256, x1 (sq i j) * x0 (col (256 * k.val + j.val) l)) * (norm : ℝ) : EReal) := by
  subst ho
  unfold prodAt
  rw [prod_apply]
  congr 1
  refine Finset.sum_congr rfl fun j _ => congrArg₂ (fun a b : EReal => a * b) ?_ ?_
  · refine (Memref.IsWhole.readAt_unread harg2 x1 _ _).trans (congrArg x1 (funext fun a => Fin.ext ?_))
    match a with
    | ⟨0, _⟩ => show 0 + 1 * i.val = i.val; omega
    | ⟨1, _⟩ => show 0 + 1 * j.val = j.val; omega
  · refine (Memref.IsWhole.readAt_unread harg1 x0 _ _).trans (congrArg x0 (funext fun a => Fin.ext ?_))
    match a with
    | ⟨0, _⟩ => show 256 * k.val + 1 * j.val = (256 * k.val + j.val) % 4096; omega
    | ⟨1, _⟩ => show 0 + 1 * l.val = l.val; omega

/-- A square of the scratch at an entry. -/
theorem square_apply (k : Fin 16) (i l : Fin 256) :
    square c arg1 harg1 arg2 harg2 arg7 x0 x1 k.val (sq i l) = ((∑ j : Fin 256, x1 (sq i j) * x0 (col (256 * k.val + j.val) l)) * (norm : ℝ) : EReal) := by
  match k with
  | ⟨0, _⟩ => exact (congrFun (square_0 c arg1 harg1 arg2 harg2 arg7 x0 x1) _).trans (prodAt_apply arg1 harg1 arg2 harg2 x0 x1 0 _ rfl _ i l)
  | ⟨1, _⟩ => exact (congrFun (square_1 c arg1 harg1 arg2 harg2 arg7 x0 x1) _).trans (prodAt_apply arg1 harg1 arg2 harg2 x0 x1 1 _ rfl _ i l)
  | ⟨2, _⟩ => exact (congrFun (square_2 c arg1 harg1 arg2 harg2 arg7 x0 x1) _).trans (prodAt_apply arg1 harg1 arg2 harg2 x0 x1 2 _ rfl _ i l)
  | ⟨3, _⟩ => exact (congrFun (square_3 c arg1 harg1 arg2 harg2 arg7 x0 x1) _).trans (prodAt_apply arg1 harg1 arg2 harg2 x0 x1 3 _ rfl _ i l)
  | ⟨4, _⟩ => exact (congrFun (square_4 c arg1 harg1 arg2 harg2 arg7 x0 x1) _).trans (prodAt_apply arg1 harg1 arg2 harg2 x0 x1 4 _ rfl _ i l)
  | ⟨5, _⟩ => exact (congrFun (square_5 c arg1 harg1 arg2 harg2 arg7 x0 x1) _).trans (prodAt_apply arg1 harg1 arg2 harg2 x0 x1 5 _ rfl _ i l)
  | ⟨6, _⟩ => exact (congrFun (square_6 c arg1 harg1 arg2 harg2 arg7 x0 x1) _).trans (prodAt_apply arg1 harg1 arg2 harg2 x0 x1 6 _ rfl _ i l)
  | ⟨7, _⟩ => exact (congrFun (square_7 c arg1 harg1 arg2 harg2 arg7 x0 x1) _).trans (prodAt_apply arg1 harg1 arg2 harg2 x0 x1 7 _ rfl _ i l)
  | ⟨8, _⟩ => exact (congrFun (square_8 c arg1 harg1 arg2 harg2 arg7 x0 x1) _).trans (prodAt_apply arg1 harg1 arg2 harg2 x0 x1 8 _ rfl _ i l)
  | ⟨9, _⟩ => exact (congrFun (square_9 c arg1 harg1 arg2 harg2 arg7 x0 x1) _).trans (prodAt_apply arg1 harg1 arg2 harg2 x0 x1 9 _ rfl _ i l)
  | ⟨10, _⟩ => exact (congrFun (square_10 c arg1 harg1 arg2 harg2 arg7 x0 x1) _).trans (prodAt_apply arg1 harg1 arg2 harg2 x0 x1 10 _ rfl _ i l)
  | ⟨11, _⟩ => exact (congrFun (square_11 c arg1 harg1 arg2 harg2 arg7 x0 x1) _).trans (prodAt_apply arg1 harg1 arg2 harg2 x0 x1 11 _ rfl _ i l)
  | ⟨12, _⟩ => exact (congrFun (square_12 c arg1 harg1 arg2 harg2 arg7 x0 x1) _).trans (prodAt_apply arg1 harg1 arg2 harg2 x0 x1 12 _ rfl _ i l)
  | ⟨13, _⟩ => exact (congrFun (square_13 c arg1 harg1 arg2 harg2 arg7 x0 x1) _).trans (prodAt_apply arg1 harg1 arg2 harg2 x0 x1 13 _ rfl _ i l)
  | ⟨14, _⟩ => exact (congrFun (square_14 c arg1 harg1 arg2 harg2 arg7 x0 x1) _).trans (prodAt_apply arg1 harg1 arg2 harg2 x0 x1 14 _ rfl _ i l)
  | ⟨15, _⟩ => exact (congrFun (square_15 c arg1 harg1 arg2 harg2 arg7 x0 x1) _).trans (prodAt_apply arg1 harg1 arg2 harg2 x0 x1 15 _ rfl _ i l)
  | ⟨n + 16, h⟩ => exact absurd h (by omega)

/-- What the two input blocks must hold: the columns' entries, and the block Hadamard matrix. -/
structure Cols (B : ℕ → ℕ → ℝ) : Prop where
  cols : ∀ (n : ℕ) (l : Fin 256), n < 4096 → (x0 (col n l) : EReal) = ((B l.val n : ℝ) : EReal)
  had : ∀ i j : Fin 256, (x1 (sq i j) : EReal) = ((if i.val / 32 = j.val / 32 then had (i.val % 32) (j.val % 32) else 0 : ℝ) : EReal)
  tame : ∀ l b, TameBlock (rotR (B l)) b

theorem had_comm (a b : ℕ) : had a b = had b a := by
  unfold had parity; rw [BitVec.and_comm (BitVec.ofNat 32 a)]

variable {x0 x1} {B : ℕ → ℕ → ℝ} (hB : Cols x0 x1 B)

include hB in
theorem square_real (k : Fin 16) : Square (square c arg1 harg1 arg2 harg2 arg7 x0 x1 k.val) (fun l : Fin 256 => rotR (B l.val)) k.val := by
  intro i l
  have hk := k.isLt
  have hi := i.isLt
  rw [square_apply]
  unfold rotR
  rw [EReal.coe_mul]
  congr 1
  refine Eq.trans (b := ∑ j : Fin 256, ((if j.val / 32 = i.val / 32 then B l.val (256 * k.val + j.val) * Cert.Quantiser.had (j.val % 32) (i.val % 32) else 0 : ℝ) : EReal))
    (Finset.sum_congr rfl fun j _ => ?_) ?_
  · have hj := j.isLt
    rw [hB.cols _ _ (by omega), hB.had, ← EReal.coe_mul, ite_mul, zero_mul, mul_comm, had_comm]
    congr 1
    by_cases e : i.val / 32 = j.val / 32
    · rw [if_pos e, if_pos e.symm]
    · rw [if_neg e, if_neg (Ne.symm e)]
  rw [← Cert.QuantXIdeal.Trip.coe_sum', ← Finset.sum_range (fun j => if j / 32 = i.val / 32 then
          B l.val (256 * k.val + j) * Cert.Quantiser.had (j % 32) (i.val % 32) else 0),
    sum_group (fun j => B l.val (256 * k.val + j) * Cert.Quantiser.had (j % 32) (i.val % 32)) _ (by omega)]
  congr 1
  refine Finset.sum_congr rfl fun j hj => ?_
  have hj := Finset.mem_range.1 hj
  rw [show 256 * k.val + (32 * (i.val / 32) + j) = 32 * ((256 * k.val + i.val) / 32) + j by omega,
    show (32 * (i.val / 32) + j) % 32 = j by omega, show (256 * k.val + i.val) % 32 = i.val % 32 by omega]

/-! ## The outputs -/

/-- The codes' block. -/
def codes (B : ℕ → ℕ → ℝ) (y : S4096x256.Idx) : Elt Ideal .fp8e4m3 := ((quantR (rotR (B (y 1).val)) (y 0).val : ℝ) : EReal)
/-- The dequantised block. -/
def deq (B : ℕ → ℕ → ℝ) (y : S4096x256.Idx) : Elt Ideal .bf16 := ((deqR (rotR (B (y 1).val)) (y 0).val : ℝ) : EReal)
/-- The scales' block. -/
def scales (B : ℕ → ℕ → ℝ) (y : S128x256.Idx) : Elt Ideal .i8 := BitVec.ofNat 8 (codeR (rotR (B (y 1).val)) (y 0).val)
/-- The masks' block. -/
def masks (B : ℕ → ℕ → ℝ) (y : S512x256.Idx) : Elt Ideal .i8 := maskR (rotR (B (y 1).val)) (y 0).val

theorem eq_sq (x : S256x256.Idx) : x = sq ⟨(x 0).val, (x 0).isLt⟩ ⟨(x 1).val, (x 1).isLt⟩ := funext fun a => Fin.ext (by
  match a with
  | ⟨0, _⟩ => rfl
  | ⟨1, _⟩ => rfl)
theorem eq_low (x : S32x256.Idx) : x = low ⟨(x 0).val, (x 0).isLt⟩ ⟨(x 1).val, (x 1).isLt⟩ := funext fun a => Fin.ext (by
  match a with
  | ⟨0, _⟩ => rfl
  | ⟨1, _⟩ => rfl)
theorem eq_tall (x : S128x256.Idx) : x = tall ⟨(x 0).val, (x 0).isLt⟩ ⟨(x 1).val, (x 1).isLt⟩ := funext fun a => Fin.ext (by
  match a with
  | ⟨0, _⟩ => rfl
  | ⟨1, _⟩ => rfl)

include hB in
theorem code_piece (k : Fin 16) (o : ℕ) (ho : o = 256 * k.val) (h : ∀ a, (![o, 0] : Fin 2 → Nat) a + S256x256.size a ≤ S4096x256.size a) (x : S256x256.Idx) :
    quantOf (square c arg1 harg1 arg2 harg2 arg7 x0 x1 k.val) x = codes B ((Rect.unit (s := S4096x256) ![o, 0] S256x256.size h).emb x) := by
  subst ho
  rw [eq_sq x, quantOf_real (square_real c arg1 harg1 arg2 harg2 arg7 hB k) (fun l s _ => hB.tame _ _)]
  unfold codes
  rw [show (((Rect.unit (s := S4096x256) ![256 * k.val, 0] S256x256.size h).emb (sq ⟨(x 0).val, (x 0).isLt⟩ ⟨(x 1).val, (x 1).isLt⟩) : S4096x256.Idx) 0).val = 256 * k.val + (x 0).val from
      by show 256 * k.val + 1 * (x 0).val = _; omega,
    show (((Rect.unit (s := S4096x256) ![256 * k.val, 0] S256x256.size h).emb (sq ⟨(x 0).val, (x 0).isLt⟩ ⟨(x 1).val, (x 1).isLt⟩) : S4096x256.Idx) 1).val = (x 1).val from
      by show 0 + 1 * (x 1).val = _; omega]

include hB in
theorem deq_piece (k : Fin 16) (o : ℕ) (ho : o = 256 * k.val) (h : ∀ a, (![o, 0] : Fin 2 → Nat) a + S256x256.size a ≤ S4096x256.size a) (x : S256x256.Idx) :
    deqOf (square c arg1 harg1 arg2 harg2 arg7 x0 x1 k.val) x = deq B ((Rect.unit (s := S4096x256) ![o, 0] S256x256.size h).emb x) := by
  subst ho
  rw [eq_sq x, deqOf_real (square_real c arg1 harg1 arg2 harg2 arg7 hB k) (fun l s _ => hB.tame _ _)]
  unfold deq
  rw [show (((Rect.unit (s := S4096x256) ![256 * k.val, 0] S256x256.size h).emb (sq ⟨(x 0).val, (x 0).isLt⟩ ⟨(x 1).val, (x 1).isLt⟩) : S4096x256.Idx) 0).val = 256 * k.val + (x 0).val from
      by show 256 * k.val + 1 * (x 0).val = _; omega,
    show (((Rect.unit (s := S4096x256) ![256 * k.val, 0] S256x256.size h).emb (sq ⟨(x 0).val, (x 0).isLt⟩ ⟨(x 1).val, (x 1).isLt⟩) : S4096x256.Idx) 1).val = (x 1).val from
      by show 0 + 1 * (x 1).val = _; omega]

include hB in
theorem mask_piece (k : Fin 16) (o : ℕ) (ho : o = 32 * k.val) (h : ∀ a, (![o, 0] : Fin 2 → Nat) a + S32x256.size a ≤ S512x256.size a) (x : S32x256.Idx) :
    bytes (square c arg1 harg1 arg2 harg2 arg7 x0 x1 k.val) (codeOf (square c arg1 harg1 arg2 harg2 arg7 x0 x1 k.val)) x = masks B ((Rect.unit (s := S512x256) ![o, 0] S32x256.size h).emb x) := by
  subst ho
  rw [eq_low x, bytes_real (square_real c arg1 harg1 arg2 harg2 arg7 hB k) (fun l s _ => hB.tame _ _)]
  unfold masks
  rw [show (((Rect.unit (s := S512x256) ![32 * k.val, 0] S32x256.size h).emb (low ⟨(x 0).val, (x 0).isLt⟩ ⟨(x 1).val, (x 1).isLt⟩) : S512x256.Idx) 0).val = 32 * k.val + (x 0).val from
      by show 32 * k.val + 1 * (x 0).val = _; omega,
    show (((Rect.unit (s := S512x256) ![32 * k.val, 0] S32x256.size h).emb (low ⟨(x 0).val, (x 0).isLt⟩ ⟨(x 1).val, (x 1).isLt⟩) : S512x256.Idx) 1).val = (x 1).val from
      by show 0 + 1 * (x 1).val = _; omega]

include hB in
theorem scale_piece (x : S128x256.Idx) :
    trunci 8 (stackI fun k => codeOf (square c arg1 harg1 arg2 harg2 arg7 x0 x1 k)) natLt_8_32 x
      = scales B ((Rect.unit (s := S128x256) ![0, 0] S128x256.size inb_S128x256_S128x256_0_0).emb x) := by
  have h0 : (x 0).val < 128 := (x 0).isLt
  have e : stackI (fun k => codeOf (square c arg1 harg1 arg2 harg2 arg7 x0 x1 k)) x = BitVec.ofNat 32 (codeR (rotR (B (x 1).val)) (x 0).val) := by
    rw [eq_tall x, stackI_tall]
    have h := code_real (square_real c arg1 harg1 arg2 harg2 arg7 hB ⟨(x 0).val / 8, by omega⟩) ⟨(x 0).val % 8, Nat.mod_lt _ (by decide)⟩ ⟨(x 1).val, (x 1).isLt⟩ (hB.tame _ _)
    dsimp only at h ⊢
    rw [show 8 * ((x 0).val / 8) + (x 0).val % 8 = (x 0).val by omega] at h
    exact h
  unfold scales
  rw [show (((Rect.unit (s := S128x256) ![0, 0] S128x256.size inb_S128x256_S128x256_0_0).emb x : S128x256.Idx) 0).val = (x 0).val from
      by show 0 + 1 * (x 0).val = _; omega,
    show (((Rect.unit (s := S128x256) ![0, 0] S128x256.size inb_S128x256_S128x256_0_0).emb x : S128x256.Idx) 1).val = (x 1).val from
      by show 0 + 1 * (x 1).val = _; omega]
  show BitVec.truncate 8 (stackI (fun k => codeOf (square c arg1 harg1 arg2 harg2 arg7 x0 x1 k)) x) = _
  rw [e]
  exact BitVec.eq_of_toNat_eq (by simp)

include hB in
theorem codes_all : ∀ p ∈ codePieces c arg1 harg1 arg2 harg2 arg7 x0 x1, ∀ x : p.1.shape.Idx, p.2 x = codes B (p.1.emb x) := by
  intro p hp
  unfold codePieces at hp
  simp only [List.mem_cons, List.not_mem_nil, or_false] at hp
  rcases hp with rfl | rfl | rfl | rfl | rfl | rfl | rfl | rfl | rfl | rfl | rfl | rfl | rfl | rfl | rfl | rfl
  · exact code_piece c arg1 harg1 arg2 harg2 arg7 hB 15 3840 rfl inb_S4096x256_S256x256_3840_0
  · exact code_piece c arg1 harg1 arg2 harg2 arg7 hB 14 3584 rfl inb_S4096x256_S256x256_3584_0
  · exact code_piece c arg1 harg1 arg2 harg2 arg7 hB 13 3328 rfl inb_S4096x256_S256x256_3328_0
  · exact code_piece c arg1 harg1 arg2 harg2 arg7 hB 12 3072 rfl inb_S4096x256_S256x256_3072_0
  · exact code_piece c arg1 harg1 arg2 harg2 arg7 hB 11 2816 rfl inb_S4096x256_S256x256_2816_0
  · exact code_piece c arg1 harg1 arg2 harg2 arg7 hB 10 2560 rfl inb_S4096x256_S256x256_2560_0
  · exact code_piece c arg1 harg1 arg2 harg2 arg7 hB 9 2304 rfl inb_S4096x256_S256x256_2304_0
  · exact code_piece c arg1 harg1 arg2 harg2 arg7 hB 8 2048 rfl inb_S4096x256_S256x256_2048_0
  · exact code_piece c arg1 harg1 arg2 harg2 arg7 hB 7 1792 rfl inb_S4096x256_S256x256_1792_0
  · exact code_piece c arg1 harg1 arg2 harg2 arg7 hB 6 1536 rfl inb_S4096x256_S256x256_1536_0
  · exact code_piece c arg1 harg1 arg2 harg2 arg7 hB 5 1280 rfl inb_S4096x256_S256x256_1280_0
  · exact code_piece c arg1 harg1 arg2 harg2 arg7 hB 4 1024 rfl inb_S4096x256_S256x256_1024_0
  · exact code_piece c arg1 harg1 arg2 harg2 arg7 hB 3 768 rfl inb_S4096x256_S256x256_768_0
  · exact code_piece c arg1 harg1 arg2 harg2 arg7 hB 2 512 rfl inb_S4096x256_S256x256_512_0
  · exact code_piece c arg1 harg1 arg2 harg2 arg7 hB 1 256 rfl inb_S4096x256_S256x256_256_0
  · exact code_piece c arg1 harg1 arg2 harg2 arg7 hB 0 0 rfl inb_S4096x256_S256x256_0_0

include hB in
theorem deq_all : ∀ p ∈ deqPieces c arg1 harg1 arg2 harg2 arg7 x0 x1, ∀ x : p.1.shape.Idx, p.2 x = deq B (p.1.emb x) := by
  intro p hp
  unfold deqPieces at hp
  simp only [List.mem_cons, List.not_mem_nil, or_false] at hp
  rcases hp with rfl | rfl | rfl | rfl | rfl | rfl | rfl | rfl | rfl | rfl | rfl | rfl | rfl | rfl | rfl | rfl
  · exact deq_piece c arg1 harg1 arg2 harg2 arg7 hB 15 3840 rfl inb_S4096x256_S256x256_3840_0
  · exact deq_piece c arg1 harg1 arg2 harg2 arg7 hB 14 3584 rfl inb_S4096x256_S256x256_3584_0
  · exact deq_piece c arg1 harg1 arg2 harg2 arg7 hB 13 3328 rfl inb_S4096x256_S256x256_3328_0
  · exact deq_piece c arg1 harg1 arg2 harg2 arg7 hB 12 3072 rfl inb_S4096x256_S256x256_3072_0
  · exact deq_piece c arg1 harg1 arg2 harg2 arg7 hB 11 2816 rfl inb_S4096x256_S256x256_2816_0
  · exact deq_piece c arg1 harg1 arg2 harg2 arg7 hB 10 2560 rfl inb_S4096x256_S256x256_2560_0
  · exact deq_piece c arg1 harg1 arg2 harg2 arg7 hB 9 2304 rfl inb_S4096x256_S256x256_2304_0
  · exact deq_piece c arg1 harg1 arg2 harg2 arg7 hB 8 2048 rfl inb_S4096x256_S256x256_2048_0
  · exact deq_piece c arg1 harg1 arg2 harg2 arg7 hB 7 1792 rfl inb_S4096x256_S256x256_1792_0
  · exact deq_piece c arg1 harg1 arg2 harg2 arg7 hB 6 1536 rfl inb_S4096x256_S256x256_1536_0
  · exact deq_piece c arg1 harg1 arg2 harg2 arg7 hB 5 1280 rfl inb_S4096x256_S256x256_1280_0
  · exact deq_piece c arg1 harg1 arg2 harg2 arg7 hB 4 1024 rfl inb_S4096x256_S256x256_1024_0
  · exact deq_piece c arg1 harg1 arg2 harg2 arg7 hB 3 768 rfl inb_S4096x256_S256x256_768_0
  · exact deq_piece c arg1 harg1 arg2 harg2 arg7 hB 2 512 rfl inb_S4096x256_S256x256_512_0
  · exact deq_piece c arg1 harg1 arg2 harg2 arg7 hB 1 256 rfl inb_S4096x256_S256x256_256_0
  · exact deq_piece c arg1 harg1 arg2 harg2 arg7 hB 0 0 rfl inb_S4096x256_S256x256_0_0

include hB in
theorem masks_all : ∀ p ∈ maskPieces c arg1 harg1 arg2 harg2 arg7 x0 x1, ∀ x : p.1.shape.Idx, p.2 x = masks B (p.1.emb x) := by
  intro p hp
  unfold maskPieces at hp
  simp only [List.mem_cons, List.not_mem_nil, or_false] at hp
  rcases hp with rfl | rfl | rfl | rfl | rfl | rfl | rfl | rfl | rfl | rfl | rfl | rfl | rfl | rfl | rfl | rfl
  · exact mask_piece c arg1 harg1 arg2 harg2 arg7 hB 15 480 rfl inb_S512x256_S32x256_480_0
  · exact mask_piece c arg1 harg1 arg2 harg2 arg7 hB 14 448 rfl inb_S512x256_S32x256_448_0
  · exact mask_piece c arg1 harg1 arg2 harg2 arg7 hB 13 416 rfl inb_S512x256_S32x256_416_0
  · exact mask_piece c arg1 harg1 arg2 harg2 arg7 hB 12 384 rfl inb_S512x256_S32x256_384_0
  · exact mask_piece c arg1 harg1 arg2 harg2 arg7 hB 11 352 rfl inb_S512x256_S32x256_352_0
  · exact mask_piece c arg1 harg1 arg2 harg2 arg7 hB 10 320 rfl inb_S512x256_S32x256_320_0
  · exact mask_piece c arg1 harg1 arg2 harg2 arg7 hB 9 288 rfl inb_S512x256_S32x256_288_0
  · exact mask_piece c arg1 harg1 arg2 harg2 arg7 hB 8 256 rfl inb_S512x256_S32x256_256_0
  · exact mask_piece c arg1 harg1 arg2 harg2 arg7 hB 7 224 rfl inb_S512x256_S32x256_224_0
  · exact mask_piece c arg1 harg1 arg2 harg2 arg7 hB 6 192 rfl inb_S512x256_S32x256_192_0
  · exact mask_piece c arg1 harg1 arg2 harg2 arg7 hB 5 160 rfl inb_S512x256_S32x256_160_0
  · exact mask_piece c arg1 harg1 arg2 harg2 arg7 hB 4 128 rfl inb_S512x256_S32x256_128_0
  · exact mask_piece c arg1 harg1 arg2 harg2 arg7 hB 3 96 rfl inb_S512x256_S32x256_96_0
  · exact mask_piece c arg1 harg1 arg2 harg2 arg7 hB 2 64 rfl inb_S512x256_S32x256_64_0
  · exact mask_piece c arg1 harg1 arg2 harg2 arg7 hB 1 32 rfl inb_S512x256_S32x256_32_0
  · exact mask_piece c arg1 harg1 arg2 harg2 arg7 hB 0 0 rfl inb_S512x256_S32x256_0_0

include hB in
theorem scales_all : ∀ p ∈ (kernelRun0_A (F := Ideal) c i arg1 harg1 arg2 harg2 arg3 harg3 arg4 harg4 arg5 harg5 arg6 harg6 arg7 harg7 x0 x1).2.1, ∀ x : p.1.shape.Idx, p.2 x = scales B (p.1.emb x) := by
  rw [run_scales]
  intro p hp
  simp only [List.mem_cons, List.not_mem_nil, or_false] at hp
  subst hp
  exact scale_piece c arg1 harg1 arg2 harg2 arg7 hB

end Cert.QuantWIdeal.Point

end
-- ==== Proof.QuantWValue.lean ====
/-
  The value of the weights' quantiser at the ideal instance, whole arrays: on a tame argument its four results are the quantiser's
  functions of the Hadamard transform of the argument's columns.
-/
module

public import proofs.«01_k».proof.Proof.Gen.QuantWIdeal.Value
public import proofs.«01_k».proof.Proof.QuantWPoint
public import proofs.«01_k».proof.Proof.QuantXHost
public import Idealize.ShloMosaic.Lib.StableHlo.Run
public import Idealize.ShloMosaic.Lib.Pipeline.Value

@[expose] public section

set_option maxRecDepth 16384

noncomputable section

namespace Cert.QuantWIdeal.Value

open Cert.QuantWIdeal Cert.QuantWIdeal.Gen Cert.Quantiser Idealize.ShloMosaic Idealize.ShloMosaic.TcCoe Idealize.SL.Sem
open Idealize.ShloMosaic.StableHlo
open Idealize.ShloMosaic.Pipeline (Dat)
open Cert.QuantXIdeal.Entry (fdiv fdiv_eq word_eq)

/-- An entry of the argument. -/
abbrev big (r l : ℕ) : S4096x11008.Idx := fun a => match a with
  | ⟨0, _⟩ => ⟨r % 4096, Nat.mod_lt _ (by decide)⟩
  | ⟨1, _⟩ => ⟨l % 11008, Nat.mod_lt _ (by decide)⟩

/-- The columns of an array as reals. -/
def colsOf (xs : FVec Ideal S4096x11008 .bf16) (l r : ℕ) : ℝ := EReal.toReal (xs (big r l))

/-- Every entry is a real that keeps the scales in range. -/
def Tame (xs : FVec Ideal S4096x11008 .bf16) : Prop := ∀ y, ∃ r : ℝ, (xs y : EReal) = (r : EReal) ∧ TameEntry r

theorem colsOf_eq {xs : FVec Ideal S4096x11008 .bf16} (h : Tame xs) (l r : ℕ) : (xs (big r l) : EReal) = ((colsOf xs l r : ℝ) : EReal) := by
  obtain ⟨v, hv, -⟩ := h (big r l)
  unfold colsOf
  rw [hv, EReal.toReal_coe]

theorem colsOf_tame {xs : FVec Ideal S4096x11008 .bf16} (h : Tame xs) (l b : ℕ) : TameBlock (rotR (colsOf xs l)) b := by
  refine tame_block _ _ fun j _ => ?_
  obtain ⟨v, hv, ht⟩ := h (big (32 * b + j) l)
  unfold colsOf
  rw [hv, EReal.toReal_coe]
  exact ht

variable (m : (ℓ : Loc nD τ sig) → Buf (Elt Ideal) ℓ) (ρ : Dev nD → PrngReg)

/-- The argument. -/
abbrev args (c : Dev nD) : FVec Ideal S4096x11008 .bf16 := m ((c : Thread nD τ).loc main_arg0)

theorem arg_kept (c : Dev nD) : V m c main_arg0 = args m c := by
  unfold V
  simp only [List.flatten_cons, List.flatten_nil, List.cons_append, List.nil_append, List.append_nil]
  after_results
  all_goals rfl

set_option maxHeartbeats 4000000 in
/-- The second input array is the block Hadamard matrix. -/
theorem matrix (c : Dev nD) (x : S256x256.Idx) :
    (V m c main_v22 x : EReal) = (((if (x 0).val / 32 = (x 1).val / 32 then had ((x 0).val % 32) ((x 1).val % 32) else 0 : ℝ)) : EReal) := by
  have h : V m c main_v22 x = Scalar.select (BitVec.ofBool (fdiv (BitVec.ofNat 32 (x 0).val) == fdiv (BitVec.ofNat 32 (x 1).val)))
      (Scalar.select (BitVec.ofBool ((IntOp.ctpop ((BitVec.ofNat 32 (x 0).val &&& BitVec.ofNat 32 (x 1).val) &&& 31#32) &&& 1#32) == 0#32))
        (Ideal.ofBits .f32 0x3F800000#32) (Ideal.ofBits .f32 0xBF800000#32)) (Ideal.ofBits .f32 0x00000000#32) := by
    unfold V
    simp only [List.flatten_cons, List.flatten_nil, List.cons_append, List.nil_append, List.append_nil]
    after_results
    simp only [TRef.ofBuf_toBuf, TRef.ofBuf, TRef.toBuf, cast_eq, id_eq]
    rfl
  obtain ⟨f0, g0⟩ := fdiv_eq (x 0)
  obtain ⟨f1, g1⟩ := fdiv_eq (x 1)
  have hw := word_eq ⟨(x 0).val / 32, by have := (x 0).isLt; simp at this; omega⟩ ⟨(x 1).val / 32, by have := (x 1).isLt; simp at this; omega⟩
  have hm : (BitVec.ofNat 32 (x 0).val &&& BitVec.ofNat 32 (x 1).val) &&& 31#32
      = BitVec.ofNat 32 ((x 0).val % 32) &&& BitVec.ofNat 32 ((x 1).val % 32) := by
    rw [← g0, ← g1]
    ext i hi
    simp only [BitVec.getElem_and]
    cases (BitVec.ofNat 32 (x 0).val)[i] <;> cases (BitVec.ofNat 32 (x 1).val)[i] <;> cases (31#32)[i] <;> rfl
  rw [h, f0, f1, hm, bits_1, bits_m1, bits_0]
  rw [show (BitVec.ofNat 32 ((x 0).val / 32) == BitVec.ofNat 32 ((x 1).val / 32)) = decide ((x 0).val / 32 = (x 1).val / 32) from hw]
  have hs : ∀ (p : Bool) (a b : EReal), Scalar.select (BitVec.ofBool p) a b = if p then a else b := by
    intro p a b; cases p <;> rfl
  rw [hs, hs]
  unfold had parity
  by_cases hd : (x 0).val / 32 = (x 1).val / 32
  · simp only [hd, decide_true, if_true]
    split <;> rfl
  · simp only [hd, decide_false, if_false, Bool.false_eq_true]

/-- Where each window's block lies at a grid point. -/
theorem idx_facts : ∀ t : Fin cfg0.N,
    (win0_0.index t 0 = 0 ∧ win0_0.index t 1 = t.val) ∧ (win0_1.index t 0 = 0 ∧ win0_1.index t 1 = 0)
    ∧ (win0_2.index t 0 = 0 ∧ win0_2.index t 1 = t.val ∧ win0_2.xsize (grid0.coords t) 0 = 4096 ∧ win0_2.xsize (grid0.coords t) 1 = 256)
    ∧ (win0_3.index t 0 = 0 ∧ win0_3.index t 1 = t.val ∧ win0_3.xsize (grid0.coords t) 0 = 128 ∧ win0_3.xsize (grid0.coords t) 1 = 256)
    ∧ (win0_4.index t 0 = 0 ∧ win0_4.index t 1 = t.val ∧ win0_4.xsize (grid0.coords t) 0 = 512 ∧ win0_4.xsize (grid0.coords t) 1 = 256)
    ∧ (win0_5.index t 0 = 0 ∧ win0_5.index t 1 = t.val ∧ win0_5.xsize (grid0.coords t) 0 = 4096 ∧ win0_5.xsize (grid0.coords t) 1 = 256) :=
  (by decide +kernel : ∀ t : Fin grid0.N,
    (win0_0.index t 0 = 0 ∧ win0_0.index t 1 = t.val) ∧ (win0_1.index t 0 = 0 ∧ win0_1.index t 1 = 0)
    ∧ (win0_2.index t 0 = 0 ∧ win0_2.index t 1 = t.val ∧ win0_2.xsize (grid0.coords t) 0 = 4096 ∧ win0_2.xsize (grid0.coords t) 1 = 256)
    ∧ (win0_3.index t 0 = 0 ∧ win0_3.index t 1 = t.val ∧ win0_3.xsize (grid0.coords t) 0 = 128 ∧ win0_3.xsize (grid0.coords t) 1 = 256)
    ∧ (win0_4.index t 0 = 0 ∧ win0_4.index t 1 = t.val ∧ win0_4.xsize (grid0.coords t) 0 = 512 ∧ win0_4.xsize (grid0.coords t) 1 = 256)
    ∧ (win0_5.index t 0 = 0 ∧ win0_5.index t 1 = t.val ∧ win0_5.xsize (grid0.coords t) 0 = 4096 ∧ win0_5.xsize (grid0.coords t) 1 = 256))

theorem point_lt (t : Fin cfg0.N) : t.val < 43 := by
  have h : cfg0.N = 43 := N_0
  have := t.isLt
  omega

variable {m}
variable {c : Dev nD} (hx : Tame (args m c))

/-- The columns a grid point holds. -/
abbrev cols (m : (ℓ : Loc nD τ sig) → Buf (Elt Ideal) ℓ) (c : Dev nD) (t : Fin cfg0.N) (l : ℕ) : ℕ → ℝ := colsOf (args m c) (256 * t.val + l)

include hx in
/-- The input blocks of a grid point: its columns, and the block Hadamard matrix. -/
theorem blocks_real (t : Fin cfg0.N) : Point.Cols (iblk m c 0 t) (iblk m c 1 t) (cols m c t) where
  cols n l hn := by
    obtain ⟨⟨e0, e1⟩, -⟩ := idx_facts t
    rw [← colsOf_eq hx]
    show V m c main_arg0 _ = _
    rw [arg_kept]
    refine congrArg (args m c) (funext fun a => Fin.ext ?_)
    have := point_lt t
    have h1 : l.val < 256 := l.isLt
    match a with
    | ⟨0, _⟩ => show win0_0.index t 0 * 4096 + 1 * (n % 4096) = n % 4096; rw [e0]; omega
    | ⟨1, _⟩ => show win0_0.index t 1 * 256 + 1 * l.val = (256 * t.val + l.val) % 11008; rw [e1]; omega
  had i j := by
    obtain ⟨-, ⟨e0, e1⟩, -⟩ := idx_facts t
    refine Eq.trans ?_ (matrix m c (Seg.sq i j))
    show V m c main_v22 _ = _
    refine congrArg (V m c main_v22) (funext fun a => Fin.ext ?_)
    match a with
    | ⟨0, _⟩ => show win0_1.index t 0 * 256 + 1 * i.val = i.val; rw [e0]; omega
    | ⟨1, _⟩ => show win0_1.index t 1 * 256 + 1 * j.val = j.val; rw [e1]; omega
  tame l b := colsOf_tame hx _ _

/-! ## The four arrays -/

/-- The codes. -/
def outCodes (xs : FVec Ideal S4096x11008 .bf16) : Vec Ideal S4096x11008 .fp8e4m3 := fun y => ((quantR (rotR (colsOf xs (y 1).val)) (y 0).val : ℝ) : EReal)
/-- The scale codes. -/
def outScales (xs : FVec Ideal S4096x11008 .bf16) : Vec Ideal S128x11008 .i8 := fun y => BitVec.ofNat 8 (codeR (rotR (colsOf xs (y 1).val)) (y 0).val)
/-- The masks. -/
def outMasks (xs : FVec Ideal S4096x11008 .bf16) : Vec Ideal S512x11008 .i8 := fun y => maskR (rotR (colsOf xs (y 1).val)) (y 0).val
/-- The dequantised columns. -/
def outDeq (xs : FVec Ideal S4096x11008 .bf16) : Vec Ideal S4096x11008 .bf16 := fun y => ((deqR (rotR (colsOf xs (y 1).val)) (y 0).val : ℝ) : EReal)

include hx in
theorem flushed2_eq (t : Fin cfg0.N) : (dats m 0 c).flushed 2 t = (win0_2.blk t).view.read (Elt Ideal) (outCodes (args m c)) := by
  rw [Value.flushed2_A]
  unfold out0_A_2
  rw [View.read_writes_junk_eq_canon]
  obtain ⟨-, -, ⟨e0, e1, -, -⟩, -⟩ := idx_facts t
  funext j
  show View.canon _ (_ : S4096x256.Idx) = outCodes (args m c) ((win0_2.rect t).emb j)
  refine (View.canon_apply_of_pieces (Val := Elt Ideal) (Point.codes (cols m c t)) _ ?_ _
    (cover0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) _)).trans ?_
  · rw [Seg.run_codes]
    exact Point.codes_all c (ms0_0 t) (hs0_0 t) (ms0_1 t) (hs0_1 t) scM0_0 (blocks_real hx t)
  · have h0 : (((win0_2.rect t).emb j : S4096x11008.Idx) 0).val = (j 0).val := by
      show win0_2.index t 0 * 4096 + 1 * (j 0).val = _
      rw [e0]; omega
    have h1 : (((win0_2.rect t).emb j : S4096x11008.Idx) 1).val = 256 * t.val + (j 1).val := by
      show win0_2.index t 1 * 256 + 1 * (j 1).val = _
      rw [e1]; omega
    unfold outCodes Point.codes cols
    rw [h0, h1]

theorem mem_blk2 (t : Fin cfg0.N) (i : S4096x11008.Idx) :
    i ∈ ((cfg0.win 2).blk t).view.set ↔ t.val * 256 ≤ (i 1 : Nat) ∧ (i 1 : Nat) < t.val * 256 + 256 := by
  show i ∈ ((View.whole main_v23_0).slice (win0_2.rect t)).set ↔ _
  rw [View.set_slice_whole, Rect.mem_set_unit]
  obtain ⟨-, -, ⟨e0, e1, x0, x1⟩, -⟩ := idx_facts t
  have hi : (i 0 : Nat) < 4096 := (i 0).isLt
  refine ⟨fun h => ?_, fun h a => ?_⟩
  · have : win0_2.index t 1 * 256 ≤ (i 1 : Nat) ∧ (i 1 : Nat) < win0_2.index t 1 * 256 + win0_2.xsize (grid0.coords t) 1 := h 1
    rw [e1, x1] at this; exact this
  · match a with
    | ⟨0, _⟩ => show win0_2.index t 0 * 4096 ≤ (i 0 : Nat) ∧ (i 0 : Nat) < win0_2.index t 0 * 4096 + win0_2.xsize (grid0.coords t) 0
                rw [e0, x0]; exact ⟨(Nat.zero_mul _).le.trans (Nat.zero_le _), hi.trans_le (by rw [Nat.zero_mul, Nat.zero_add])⟩
    | ⟨1, _⟩ => show win0_2.index t 1 * 256 ≤ (i 1 : Nat) ∧ (i 1 : Nat) < win0_2.index t 1 * 256 + win0_2.xsize (grid0.coords t) 1
                rw [e1, x1]; exact h

theorem cover2 (i : S4096x11008.Idx) : ∃ t : Fin cfg0.N, (cfg0.win 2).flush t = true ∧ i ∈ ((cfg0.win 2).blk t).view.set := by
  have h1 : (i 1 : Nat) < 11008 := (i 1).isLt
  refine ⟨⟨(i 1 : Nat) / 256, by show _ < grid0.N; rw [N_0]; omega⟩, flush0_2 _, ?_⟩
  rw [mem_blk2]
  dsimp only
  omega

include hx in
theorem final2 : (dats m 0 c).arrAt 2 cfg0.N = outCodes (args m c) :=
  (dats m 0 c).arrAt_eq_of_cover 2 _ (fun t _ => flushed2_eq hx t) cover2

include hx in
theorem flushed3_eq (t : Fin cfg0.N) : (dats m 0 c).flushed 3 t = (win0_3.blk t).view.read (Elt Ideal) (outScales (args m c)) := by
  rw [Value.flushed3_A]
  unfold out0_A_3
  rw [View.read_writes_junk_eq_canon]
  obtain ⟨-, -, -, ⟨e0, e1, -, -⟩, -⟩ := idx_facts t
  funext j
  show View.canon _ (_ : S128x256.Idx) = outScales (args m c) ((win0_3.rect t).emb j)
  refine (View.canon_apply_of_pieces (Val := Elt Ideal) (Point.scales (cols m c t)) _ ?_ _
    (cover0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) _)).trans ?_
  · exact Point.scales_all c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (blocks_real hx t)
  · have h0 : (((win0_3.rect t).emb j : S128x11008.Idx) 0).val = (j 0).val := by
      show win0_3.index t 0 * 128 + 1 * (j 0).val = _
      rw [e0]; omega
    have h1 : (((win0_3.rect t).emb j : S128x11008.Idx) 1).val = 256 * t.val + (j 1).val := by
      show win0_3.index t 1 * 256 + 1 * (j 1).val = _
      rw [e1]; omega
    unfold outScales Point.scales cols
    rw [h0, h1]

theorem mem_blk3 (t : Fin cfg0.N) (i : S128x11008.Idx) :
    i ∈ ((cfg0.win 3).blk t).view.set ↔ t.val * 256 ≤ (i 1 : Nat) ∧ (i 1 : Nat) < t.val * 256 + 256 := by
  show i ∈ ((View.whole main_v23_1).slice (win0_3.rect t)).set ↔ _
  rw [View.set_slice_whole, Rect.mem_set_unit]
  obtain ⟨-, -, -, ⟨e0, e1, x0, x1⟩, -⟩ := idx_facts t
  have hi : (i 0 : Nat) < 128 := (i 0).isLt
  refine ⟨fun h => ?_, fun h a => ?_⟩
  · have : win0_3.index t 1 * 256 ≤ (i 1 : Nat) ∧ (i 1 : Nat) < win0_3.index t 1 * 256 + win0_3.xsize (grid0.coords t) 1 := h 1
    rw [e1, x1] at this; exact this
  · match a with
    | ⟨0, _⟩ => show win0_3.index t 0 * 128 ≤ (i 0 : Nat) ∧ (i 0 : Nat) < win0_3.index t 0 * 128 + win0_3.xsize (grid0.coords t) 0
                rw [e0, x0]; exact ⟨(Nat.zero_mul _).le.trans (Nat.zero_le _), hi.trans_le (by rw [Nat.zero_mul, Nat.zero_add])⟩
    | ⟨1, _⟩ => show win0_3.index t 1 * 256 ≤ (i 1 : Nat) ∧ (i 1 : Nat) < win0_3.index t 1 * 256 + win0_3.xsize (grid0.coords t) 1
                rw [e1, x1]; exact h

theorem cover3 (i : S128x11008.Idx) : ∃ t : Fin cfg0.N, (cfg0.win 3).flush t = true ∧ i ∈ ((cfg0.win 3).blk t).view.set := by
  have h1 : (i 1 : Nat) < 11008 := (i 1).isLt
  refine ⟨⟨(i 1 : Nat) / 256, by show _ < grid0.N; rw [N_0]; omega⟩, flush0_3 _, ?_⟩
  rw [mem_blk3]
  dsimp only
  omega

include hx in
theorem final3 : (dats m 0 c).arrAt 3 cfg0.N = outScales (args m c) :=
  (dats m 0 c).arrAt_eq_of_cover 3 _ (fun t _ => flushed3_eq hx t) cover3

include hx in
theorem flushed4_eq (t : Fin cfg0.N) : (dats m 0 c).flushed 4 t = (win0_4.blk t).view.read (Elt Ideal) (outMasks (args m c)) := by
  rw [Value.flushed4_A]
  unfold out0_A_4
  rw [View.read_writes_junk_eq_canon]
  obtain ⟨-, -, -, -, ⟨e0, e1, -, -⟩, -⟩ := idx_facts t
  funext j
  show View.canon _ (_ : S512x256.Idx) = outMasks (args m c) ((win0_4.rect t).emb j)
  refine (View.canon_apply_of_pieces (Val := Elt Ideal) (Point.masks (cols m c t)) _ ?_ _
    (cover0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) _)).trans ?_
  · rw [Seg.run_masks]
    exact Point.masks_all c (ms0_0 t) (hs0_0 t) (ms0_1 t) (hs0_1 t) scM0_0 (blocks_real hx t)
  · have h0 : (((win0_4.rect t).emb j : S512x11008.Idx) 0).val = (j 0).val := by
      show win0_4.index t 0 * 512 + 1 * (j 0).val = _
      rw [e0]; omega
    have h1 : (((win0_4.rect t).emb j : S512x11008.Idx) 1).val = 256 * t.val + (j 1).val := by
      show win0_4.index t 1 * 256 + 1 * (j 1).val = _
      rw [e1]; omega
    unfold outMasks Point.masks cols
    rw [h0, h1]

theorem mem_blk4 (t : Fin cfg0.N) (i : S512x11008.Idx) :
    i ∈ ((cfg0.win 4).blk t).view.set ↔ t.val * 256 ≤ (i 1 : Nat) ∧ (i 1 : Nat) < t.val * 256 + 256 := by
  show i ∈ ((View.whole main_v23_2).slice (win0_4.rect t)).set ↔ _
  rw [View.set_slice_whole, Rect.mem_set_unit]
  obtain ⟨-, -, -, -, ⟨e0, e1, x0, x1⟩, -⟩ := idx_facts t
  have hi : (i 0 : Nat) < 512 := (i 0).isLt
  refine ⟨fun h => ?_, fun h a => ?_⟩
  · have : win0_4.index t 1 * 256 ≤ (i 1 : Nat) ∧ (i 1 : Nat) < win0_4.index t 1 * 256 + win0_4.xsize (grid0.coords t) 1 := h 1
    rw [e1, x1] at this; exact this
  · match a with
    | ⟨0, _⟩ => show win0_4.index t 0 * 512 ≤ (i 0 : Nat) ∧ (i 0 : Nat) < win0_4.index t 0 * 512 + win0_4.xsize (grid0.coords t) 0
                rw [e0, x0]; exact ⟨(Nat.zero_mul _).le.trans (Nat.zero_le _), hi.trans_le (by rw [Nat.zero_mul, Nat.zero_add])⟩
    | ⟨1, _⟩ => show win0_4.index t 1 * 256 ≤ (i 1 : Nat) ∧ (i 1 : Nat) < win0_4.index t 1 * 256 + win0_4.xsize (grid0.coords t) 1
                rw [e1, x1]; exact h

theorem cover4 (i : S512x11008.Idx) : ∃ t : Fin cfg0.N, (cfg0.win 4).flush t = true ∧ i ∈ ((cfg0.win 4).blk t).view.set := by
  have h1 : (i 1 : Nat) < 11008 := (i 1).isLt
  refine ⟨⟨(i 1 : Nat) / 256, by show _ < grid0.N; rw [N_0]; omega⟩, flush0_4 _, ?_⟩
  rw [mem_blk4]
  dsimp only
  omega

include hx in
theorem final4 : (dats m 0 c).arrAt 4 cfg0.N = outMasks (args m c) :=
  (dats m 0 c).arrAt_eq_of_cover 4 _ (fun t _ => flushed4_eq hx t) cover4

include hx in
theorem flushed5_eq (t : Fin cfg0.N) : (dats m 0 c).flushed 5 t = (win0_5.blk t).view.read (Elt Ideal) (outDeq (args m c)) := by
  rw [Value.flushed5_A]
  unfold out0_A_5
  rw [View.read_writes_junk_eq_canon]
  obtain ⟨-, -, -, -, -, ⟨e0, e1, -, -⟩⟩ := idx_facts t
  funext j
  show View.canon _ (_ : S4096x256.Idx) = outDeq (args m c) ((win0_5.rect t).emb j)
  refine (View.canon_apply_of_pieces (Val := Elt Ideal) (Point.deq (cols m c t)) _ ?_ _
    (cover0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) _)).trans ?_
  · rw [Seg.run_deq]
    exact Point.deq_all c (ms0_0 t) (hs0_0 t) (ms0_1 t) (hs0_1 t) scM0_0 (blocks_real hx t)
  · have h0 : (((win0_5.rect t).emb j : S4096x11008.Idx) 0).val = (j 0).val := by
      show win0_5.index t 0 * 4096 + 1 * (j 0).val = _
      rw [e0]; omega
    have h1 : (((win0_5.rect t).emb j : S4096x11008.Idx) 1).val = 256 * t.val + (j 1).val := by
      show win0_5.index t 1 * 256 + 1 * (j 1).val = _
      rw [e1]; omega
    unfold outDeq Point.deq cols
    rw [h0, h1]

theorem mem_blk5 (t : Fin cfg0.N) (i : S4096x11008.Idx) :
    i ∈ ((cfg0.win 5).blk t).view.set ↔ t.val * 256 ≤ (i 1 : Nat) ∧ (i 1 : Nat) < t.val * 256 + 256 := by
  show i ∈ ((View.whole main_v23_3).slice (win0_5.rect t)).set ↔ _
  rw [View.set_slice_whole, Rect.mem_set_unit]
  obtain ⟨-, -, -, -, -, ⟨e0, e1, x0, x1⟩⟩ := idx_facts t
  have hi : (i 0 : Nat) < 4096 := (i 0).isLt
  refine ⟨fun h => ?_, fun h a => ?_⟩
  · have : win0_5.index t 1 * 256 ≤ (i 1 : Nat) ∧ (i 1 : Nat) < win0_5.index t 1 * 256 + win0_5.xsize (grid0.coords t) 1 := h 1
    rw [e1, x1] at this; exact this
  · match a with
    | ⟨0, _⟩ => show win0_5.index t 0 * 4096 ≤ (i 0 : Nat) ∧ (i 0 : Nat) < win0_5.index t 0 * 4096 + win0_5.xsize (grid0.coords t) 0
                rw [e0, x0]; exact ⟨(Nat.zero_mul _).le.trans (Nat.zero_le _), hi.trans_le (by rw [Nat.zero_mul, Nat.zero_add])⟩
    | ⟨1, _⟩ => show win0_5.index t 1 * 256 ≤ (i 1 : Nat) ∧ (i 1 : Nat) < win0_5.index t 1 * 256 + win0_5.xsize (grid0.coords t) 1
                rw [e1, x1]; exact h

theorem cover5 (i : S4096x11008.Idx) : ∃ t : Fin cfg0.N, (cfg0.win 5).flush t = true ∧ i ∈ ((cfg0.win 5).blk t).view.set := by
  have h1 : (i 1 : Nat) < 11008 := (i 1).isLt
  refine ⟨⟨(i 1 : Nat) / 256, by show _ < grid0.N; rw [N_0]; omega⟩, flush0_5 _, ?_⟩
  rw [mem_blk5]
  dsimp only
  omega

include hx in
theorem final5 : (dats m 0 c).arrAt 5 cfg0.N = outDeq (args m c) :=
  (dats m 0 c).arrAt_eq_of_cover 5 _ (fun t _ => flushed5_eq hx t) cover5

/-- The run, read: on a tame argument the four results are the quantiser's, and the argument ends unchanged. -/
theorem run (hx : ∀ c : Dev nD, Tame (args m c)) : θ_run defs (onTc (τ := τ) (main (F := Ideal))) ⟨m, fun _ => 0, ρ⟩ fun r => ∀ c : Dev nD,
      r.2.mem ((c : Thread nD τ).loc main_v23_0) = outCodes (args m c)
      ∧ r.2.mem ((c : Thread nD τ).loc main_v23_1) = outScales (args m c)
      ∧ r.2.mem ((c : Thread nD τ).loc main_v23_2) = outMasks (args m c)
      ∧ r.2.mem ((c : Thread nD τ).loc main_v23_3) = outDeq (args m c)
      ∧ r.2.mem ((c : Thread nD τ).loc main_arg0) = m ((c : Thread nD τ).loc main_arg0) :=
  (θ_run defs _ _).mono (fun _ h c => ⟨(h c).1.trans (final2 (hx c)), (h c).2.1.trans (final3 (hx c)), (h c).2.2.1.trans (final4 (hx c)),
    (h c).2.2.2.1.trans (final5 (hx c)), (h c).2.2.2.2⟩) (Value.run_blocks m ρ)

end Cert.QuantWIdeal.Value

end
-- ==== Proof.QuantWRefHost.lean ====
/-
  What the reference's quantiser of the weights finds in its two arrays: the Hadamard transform of the argument's columns, block by
  block, and each block's root mean square.
-/
module

public import proofs.«01_k».proof.Proof.Gen.QuantWRefIdeal.Read
public import proofs.«01_k».proof.Proof.QuantWValue
public import Idealize.ShloMosaic.Lib.IdealHost
public import Idealize.ShloMosaic.Lib.Pointwise.Reduce
public import Idealize.ShloMosaic.Lib.StableHlo.Run

@[expose] public section

set_option maxRecDepth 16384

noncomputable section

namespace Cert.QuantWRefIdeal.Entry

open Cert.QuantWRefIdeal Cert.QuantWRefIdeal.Gen Cert.Quantiser Idealize.ShloMosaic Idealize.ShloMosaic.TcCoe Idealize.SL.Sem
open Idealize.ShloMosaic.StableHlo
open Cert.QuantWIdeal.Value (colsOf Tame colsOf_eq big)

variable (m : (ℓ : Loc nD τ sig) → Buf (Elt Ideal) ℓ)

/-- The argument. -/
abbrev args (c : Dev nD) : FVec Ideal S4096x11008 .bf16 := m ((c : Thread nD τ).loc main_arg0)

/-! ## The host code, operation by operation -/

theorem v0 (c : Dev nD) : V m c main_v0 = shapeCast S128x32x11008 (args m c) shapeCasts_S4096x11008_S128x32x11008 := by
  unfold V V0
  simp only [hostOps0, hostOps0_1, hostOps0_2, List.flatten_cons, List.flatten_nil, List.cons_append, List.nil_append, List.append_nil]
  after_results
  all_goals rfl

set_option maxHeartbeats 4000000 in
theorem v13 (c : Dev nD) (x : S32x32.Idx) : (V m c main_v13 x : EReal) = ((had (x 0).val (x 1).val : ℝ) : EReal) := by
  have h : V m c main_v13 x = Scalar.select (BitVec.ofBool ((IntOp.ctpop (BitVec.ofNat 32 (x 0).val &&& BitVec.ofNat 32 (x 1).val) &&& 1#32) == 0#32))
        (Ideal.ofBits .f32 0x3F800000#32) (Ideal.ofBits .f32 0xBF800000#32) := by
    unfold V V0
    simp only [hostOps0, hostOps0_1, hostOps0_2, List.flatten_cons, List.flatten_nil, List.cons_append, List.nil_append, List.append_nil]
    after_results
    simp only [TRef.ofBuf_toBuf, TRef.ofBuf, TRef.toBuf, cast_eq, id_eq]
    rfl
  rw [h, bits_1, bits_m1]
  have hs : ∀ (p : Bool) (a b : EReal), Scalar.select (BitVec.ofBool p) a b = if p then a else b := by
    intro p a b; cases p <;> rfl
  rw [hs]
  unfold had parity
  split <;> rfl

set_option maxHeartbeats 4000000 in
theorem v17 (c : Dev nD) : V m c main_v17 = mulf (transpose S128x32x11008 [1, 0, 2] (Host.dotGeneral (F := Ideal) (φ₁ := .bf16) (φ₂ := .bf16) dot_S32x32_S128x32x11008_S32x128x11008_0_1_1_02_n_n none (V m c main_v13) (V m c main_v0))
      transposes_S32x128x11008_S128x32x11008_1_0_2)
    (broadcastInDim S128x32x11008 ![] bcast_S_S128x32x11008 (constant (F := Ideal) S_ .f32 0x3E3504F3#32)) := by
  unfold V V0
  simp only [hostOps0, hostOps0_1, hostOps0_2, List.flatten_cons, List.flatten_nil, List.cons_append, List.nil_append, List.append_nil]
  after_results
  all_goals rfl

set_option maxHeartbeats 4000000 in
theorem v23 (c : Dev nD) : V m c main_v23 = Host.sqrt (Host.divf (broadcastInDim S128x1x11008 ![0, 2] bcast_S128x11008_S128x1x11008_0_2
      (Host.reduceAdd (F := Ideal) (mulf (V m c main_v17) (V m c main_v17)) (constant (F := Ideal) S_ .f32 0x00000000#32) reducesTo_S128x32x11008_S128x11008_d1 h_S_))
    (broadcastInDim S128x1x11008 ![] bcast_S_S128x1x11008 (constant (F := Ideal) S_ .f32 0x42000000#32))) := by
  unfold V V0
  simp only [hostOps0, hostOps0_1, hostOps0_2, List.flatten_cons, List.flatten_nil, List.cons_append, List.nil_append, List.append_nil]
  after_results
  all_goals rfl

/-! ## The product, entry by entry -/

theorem lhs_1 (i : S32x128x11008.Idx) (q : dot_S32x32_S128x32x11008_S32x128x11008_0_1_1_02_n_n.contr.Idx) :
    (dot_S32x32_S128x32x11008_S32x128x11008_0_1_1_02_n_n.lhsIdx i q 1).val = (i 0).val := by
  unfold DotDims.lhsIdx
  rw [dif_neg (show ¬(1 : Fin S32x32.rank) ∈ dot_S32x32_S128x32x11008_S32x128x11008_0_1_1_02_n_n.lhsBatch by decide), dif_pos (show (1 : Fin S32x32.rank) ∈ dot_S32x32_S128x32x11008_S32x128x11008_0_1_1_02_n_n.lhsNonContracting by decide)]
  rfl
theorem rhs_0 (i : S32x128x11008.Idx) (q : dot_S32x32_S128x32x11008_S32x128x11008_0_1_1_02_n_n.contr.Idx) :
    (dot_S32x32_S128x32x11008_S32x128x11008_0_1_1_02_n_n.rhsIdx i q 0).val = (i 1).val := by
  unfold DotDims.rhsIdx
  rw [dif_neg (show ¬(0 : Fin S128x32x11008.rank) ∈ dot_S32x32_S128x32x11008_S32x128x11008_0_1_1_02_n_n.rhsBatch by decide), dif_pos (show (0 : Fin S128x32x11008.rank) ∈ dot_S32x32_S128x32x11008_S32x128x11008_0_1_1_02_n_n.rhsNonContracting by decide)]
  rfl
theorem rhs_2 (i : S32x128x11008.Idx) (q : dot_S32x32_S128x32x11008_S32x128x11008_0_1_1_02_n_n.contr.Idx) :
    (dot_S32x32_S128x32x11008_S32x128x11008_0_1_1_02_n_n.rhsIdx i q 2).val = (i 2).val := by
  unfold DotDims.rhsIdx
  rw [dif_neg (show ¬(2 : Fin S128x32x11008.rank) ∈ dot_S32x32_S128x32x11008_S32x128x11008_0_1_1_02_n_n.rhsBatch by decide), dif_pos (show (2 : Fin S128x32x11008.rank) ∈ dot_S32x32_S128x32x11008_S32x128x11008_0_1_1_02_n_n.rhsNonContracting by decide)]
  rfl

/-- An index of the blocked array. -/
abbrev tri (b : Fin 128) (k : Fin 32) (l : Fin 11008) : S128x32x11008.Idx := fun a => match a with
  | ⟨0, _⟩ => b
  | ⟨1, _⟩ => k
  | ⟨2, _⟩ => l
/-- An index of the product. -/
abbrev out (k : Fin 32) (b : Fin 128) (l : Fin 11008) : S32x128x11008.Idx := fun a => match a with
  | ⟨0, _⟩ => k
  | ⟨1, _⟩ => b
  | ⟨2, _⟩ => l
/-- An index of the Hadamard matrix. -/
abbrev duo (k j : Fin 32) : S32x32.Idx := fun a => match a with
  | ⟨0, _⟩ => k
  | ⟨1, _⟩ => j

theorem dot_apply (a : FVec Ideal S32x32 .bf16) (b : FVec Ideal S128x32x11008 .bf16) (i : S32x128x11008.Idx) :
    (Host.dotGeneral (F := Ideal) (φ₁ := .bf16) (φ₂ := .bf16) dot_S32x32_S128x32x11008_S32x128x11008_0_1_1_02_n_n none a b i : EReal)
      = ∑ k : Fin 32, (a (duo k (i 0)) : EReal) * (b (tri (i 1) k (i 2)) : EReal) := by
  simp only [Host.dotGeneral]
  rw [Ideal.dotGeneral_apply, ← Equiv.sum_comp (ValueIdx.contrEquiv1 dot_S32x32_S128x32x11008_S32x128x11008_0_1_1_02_n_n 32 rfl rfl).symm]
  refine Finset.sum_congr rfl fun k _ => ?_
  have hk := ValueIdx.contrEquiv1_symm_val dot_S32x32_S128x32x11008_S32x128x11008_0_1_1_02_n_n 32 rfl rfl k
  have el : dot_S32x32_S128x32x11008_S32x128x11008_0_1_1_02_n_n.lhsIdx i ((ValueIdx.contrEquiv1 dot_S32x32_S128x32x11008_S32x128x11008_0_1_1_02_n_n 32 rfl rfl).symm k) = duo k (i 0) := funext fun a => Fin.ext (by
    match a with
    | ⟨0, _⟩ => exact (dot_S32x32_S128x32x11008_S32x128x11008_0_1_1_02_n_n.lhsIdx_val_of_single rfl i _).trans hk
    | ⟨1, _⟩ => exact lhs_1 _ _)
  have er : dot_S32x32_S128x32x11008_S32x128x11008_0_1_1_02_n_n.rhsIdx i ((ValueIdx.contrEquiv1 dot_S32x32_S128x32x11008_S32x128x11008_0_1_1_02_n_n 32 rfl rfl).symm k) = tri (i 1) k (i 2) := funext fun a => Fin.ext (by
    match a with
    | ⟨0, _⟩ => exact rhs_0 _ _
    | ⟨1, _⟩ => exact (dot_S32x32_S128x32x11008_S32x128x11008_0_1_1_02_n_n.rhsIdx_val_of_single rfl i _).trans hk
    | ⟨2, _⟩ => exact rhs_2 _ _)
  rw [el, er]

/-! ## The two arrays as reals -/

variable {m}
variable {c : Dev nD} (hx : Tame (args m c))

/-- The transform of a column. -/
abbrev col (m : (ℓ : Loc nD τ sig) → Buf (Elt Ideal) ℓ) (c : Dev nD) (l : ℕ) : ℕ → ℝ := rotR (colsOf (args m c) l)

include hx in
theorem v0_real (x : S128x32x11008.Idx) :
    (V m c main_v0 x : EReal) = ((colsOf (args m c) (x 2).val (32 * (x 0).val + (x 1).val) : ℝ) : EReal) := by
  rw [← colsOf_eq hx, v0]
  have h0 : (x 0).val < 128 := (x 0).isLt
  have h1 : (x 1).val < 32 := (x 1).isLt
  have h2 : (x 2).val < 11008 := (x 2).isLt
  refine shapeCast_apply _ _ x _ ?_
  rw [Shape.rowMajor_val_three, Shape.rowMajor_val_two]
  show (32 * (x 0).val + (x 1).val) % 4096 * 11008 + (x 2).val % 11008 = ((x 0).val * 32 + (x 1).val) * 11008 + (x 2).val
  omega

include hx in
theorem v17_real (x : S128x32x11008.Idx) :
    (V m c main_v17 x : EReal) = ((col m c (x 2).val (32 * (x 0).val + (x 1).val) : ℝ) : EReal) := by
  have h1 : (x 1).val < 32 := (x 1).isLt
  rw [v17]
  show (transpose S128x32x11008 [1, 0, 2] (Host.dotGeneral (F := Ideal) (φ₁ := .bf16) (φ₂ := .bf16) dot_S32x32_S128x32x11008_S32x128x11008_0_1_1_02_n_n none (V m c main_v13) (V m c main_v0))
      transposes_S32x128x11008_S128x32x11008_1_0_2 x : EReal)
    * Ideal.ofBits .f32 0x3E3504F3#32 = _
  rw [transpose_apply _ _ _ x (out (x 1) (x 0) (x 2)) (fun a => match a with
    | ⟨0, _⟩ => rfl
    | ⟨1, _⟩ => rfl
    | ⟨2, _⟩ => rfl), dot_apply, bits_norm]
  unfold col rotR
  rw [EReal.coe_mul]
  refine congrArg (· * (norm : EReal)) ?_
  rw [show (32 * (x 0).val + (x 1).val) / 32 = (x 0).val by omega, show (32 * (x 0).val + (x 1).val) % 32 = (x 1).val by omega, Finset.sum_range, Cert.QuantXIdeal.Trip.coe_sum']
  refine Finset.sum_congr rfl fun k _ => ?_
  rw [v0_real hx, v13, ← EReal.coe_mul, mul_comm]

include hx in
theorem v23_real (x : S128x1x11008.Idx) : (V m c main_v23 x : EReal) = ((rmsR (col m c (x 2).val) (x 0).val : ℝ) : EReal) := by
  rw [v23]
  show Ideal.sqrt (Ideal.div (broadcastInDim S128x1x11008 ![0, 2] bcast_S128x11008_S128x1x11008_0_2
      (Host.reduceAdd (F := Ideal) (mulf (V m c main_v17) (V m c main_v17)) (constant (F := Ideal) S_ .f32 0x00000000#32) reducesTo_S128x32x11008_S128x11008_d1 h_S_) x)
    (Ideal.ofBits .f32 0x42000000#32)) = _
  rw [broadcastInDim_apply _ bcast_S128x11008_S128x1x11008_0_2 _ x (fun a => match a with
    | ⟨0, _⟩ => x 0
    | ⟨1, _⟩ => x 2) (fun a => match a with
    | ⟨0, _⟩ => by show (x 0).val = if (128 : Nat) = 1 then 0 else (x 0).val; rw [if_neg (by decide)]
    | ⟨1, _⟩ => by show (x 2).val = if (11008 : Nat) = 1 then 0 else (x 2).val; rw [if_neg (by decide)])]
  rw [ValueIdx.hostReduceAdd_apply, Ideal.hostReduceAdd_r3_a1]
  obtain ⟨sq, hsq⟩ : ∃ sq : FVec Ideal S128x32x11008 .f32, sq = mulf (V m c main_v17) (V m c main_v17) := ⟨_, rfl⟩
  have e : ∀ k : Fin 32, (sq (tri (x 0) k (x 2)) : EReal)
      = ((col m c (x 2).val (32 * (x 0).val + k.val) * col m c (x 2).val (32 * (x 0).val + k.val) : ℝ) : EReal) := fun k => by
    rw [hsq]
    have h := v17_real hx (tri (x 0) k (x 2))
    exact (congrArg₂ (fun a b : EReal => a * b) h h).trans (EReal.coe_mul _ _).symm
  have e' : (∑ k : Fin 32, (sq (tri (x 0) k (x 2)) : EReal)) = ((sumSqR (col m c (x 2).val) (x 0).val : ℝ) : EReal) := by
    rw [Finset.sum_congr rfl fun k _ => e k, ← Cert.QuantXIdeal.Trip.coe_sum']
    unfold sumSqR
    rw [Finset.sum_range]
  refine (congrArg (fun s => Ideal.sqrt (Ideal.div (Ideal.ofBits .f32 0x00000000#32 + s) (Ideal.ofBits .f32 0x42000000#32))) ?_).trans
    (b := Ideal.sqrt (Ideal.div (Ideal.ofBits .f32 0x00000000#32 + ((sumSqR (col m c (x 2).val) (x 0).val : ℝ) : EReal)) (Ideal.ofBits .f32 0x42000000#32))) ?_
  · refine Eq.trans (Finset.sum_congr rfl fun k _ => (congrFun hsq.symm _).trans (congrArg sq (funext fun a => ?_))) e'
    match a with
    | ⟨0, _⟩ => rfl
    | ⟨1, _⟩ => rfl
    | ⟨2, _⟩ => rfl
  · rw [bits_0, bits_32, ← EReal.coe_add, zero_add, Ideal.div_coe (by norm_num), ← EReal.coe_mul, Ideal.sqrt_coe,
      if_neg (not_lt.2 (mul_nonneg (sumSqR_nonneg _ _) (by norm_num)))]
    rfl

end Cert.QuantWRefIdeal.Entry

end
-- ==== Proof.QuantWRefBody.lean ====
/-
  The reference's quantiser at the ideal instance: what its lines compute of a block's entries and root mean square.
-/
module

public import proofs.«01_k».proof.Proof.QuantWRefHost

@[expose] public section

set_option maxRecDepth 16384

noncomputable section

namespace Cert.QuantWRefIdeal.Body

open Cert.QuantWRefIdeal Cert.QuantWRefIdeal.Gen Cert.Quantiser Idealize.ShloMosaic Idealize.ShloMosaic.TcCoe Idealize.SL.Sem
open Cert.QuantXIdeal.Trip (select_ofBool coe_max' coe_min' coe_abs')

variable {v0 : Vec Ideal S128x1x11008 .f32} {v14 : Vec Ideal S128x32x11008 .f32} {A : ℕ → ℕ → ℝ}
variable (h0 : ∀ y, (v0 y : EReal) = ((rmsR (A (y 2).val) (y 0).val : ℝ) : EReal))
variable (h14 : ∀ x, (v14 x : EReal) = ((A (x 2).val (32 * (x 0).val + (x 1).val) : ℝ) : EReal))
variable (ht : ∀ r b, TameBlock (A r) b)

include h0 ht in
/-- The exponent. -/
theorem exponent (y : S128x1x11008.Idx) : (k0_pay4 (F := Ideal) v0 y : EReal) = (((expR (A (y 2).val) (y 0).val : ℤ) : ℝ) : EReal) := by
  have e : (k0_pay4 (F := Ideal) v0 y : EReal) = Scalar.select (BitVec.ofBool (decide ((shapeCast S128x1x11008 v0 shapeCasts_S128x1x11008_S128x1x11008 y : EReal) = Ideal.ofBits .f32 0x00000000#32)))
      (Ideal.ofBits .f32 0x00000000#32)
      (Ideal.liftRound Int.floor (Ideal.log (Ideal.ofBits .f32 0x403AE148#32 * (shapeCast S128x1x11008 v0 shapeCasts_S128x1x11008_S128x1x11008 y : EReal) * Ideal.ofBits .f32 0x3E2AAAAB#32)
        * (((Real.log 2)⁻¹ : ℝ) : EReal))) := rfl
  rw [e, shapeCast_self, h0, bits_0, bits_alpha, bits_sixth, ← EReal.coe_mul, ← EReal.coe_mul, select_ofBool]
  simp only [EReal.coe_eq_coe_iff, decide_eq_true_eq]
  by_cases hz : rmsR (A (y 2).val) (y 0).val = 0
  · rw [if_pos hz, expR, if_pos hz]; simp
  · obtain ⟨h1, -⟩ := (ht (y 2).val (y 0).val).resolve_left hz
    have hp : 0 < ampR (A (y 2).val) (y 0).val := lt_of_lt_of_le (zpow_pos (by norm_num) _) h1
    rw [if_neg hz, expR, if_neg hz, Ideal.log_coe, if_neg (show ¬ alpha * rmsR (A (y 2).val) (y 0).val * sixth ≤ 0 from not_le.2 hp), ← EReal.coe_mul]
    rfl

include h0 h14 ht in
/-- An entry, scaled. -/
theorem scaled (x : S128x32x11008.Idx) :
    (k0_pay5 (F := Ideal) v0 v14 x : EReal) = ((scaledR (A (x 2).val) (32 * (x 0).val + (x 1).val) : ℝ) : EReal) := by
  have h1 : (x 1).val < 32 := (x 1).isLt
  have e : (k0_pay5 (F := Ideal) v0 v14 x : EReal) = (shapeCast S128x32x11008 v14 shapeCasts_S128x32x11008_S128x32x11008 x : EReal)
    * (broadcastTo S128x32x11008 (fun y => Ideal.exp2 (Ideal.ofBits .f32 0x00000000#32 - (k0_pay4 (F := Ideal) v0 y : EReal))) broadcasts_S128x1x11008_S128x32x11008 x) := rfl
  rw [e, shapeCast_self, h14, broadcastTo_apply _ broadcasts_S128x1x11008_S128x32x11008 x (fun a => match a with
    | ⟨0, _⟩ => x 0
    | ⟨1, _⟩ => ⟨0, Nat.one_pos⟩
    | ⟨2, _⟩ => x 2) (fun a => match a with
    | ⟨0, _⟩ => by show (x 0).val = if (128 : Nat) = 1 then 0 else (x 0).val; rw [if_neg (by decide)]
    | ⟨1, _⟩ => by show 0 = if (1 : Nat) = 1 then 0 else (x 1).val; rw [if_pos rfl]
    | ⟨2, _⟩ => by show (x 2).val = if (11008 : Nat) = 1 then 0 else (x 2).val; rw [if_neg (by decide)])]
  rw [exponent h0 ht, bits_0, ← EReal.coe_sub, Ideal.exp2_coe, ← EReal.coe_mul]
  refine congrArg Real.toEReal ?_
  show A (x 2).val (32 * (x 0).val + (x 1).val) * (2 : ℝ) ^ (0 - ((expR (A (x 2).val) (x 0).val : ℤ) : ℝ)) = _
  unfold scaledR
  rw [show (32 * (x 0).val + (x 1).val) / 32 = (x 0).val by omega, zero_sub, ← Int.cast_neg, Real.rpow_intCast]

include h0 h14 ht in
/-- Whether it is not clipped. -/
theorem kept (x : S128x32x11008.Idx) :
    k0_pay6 (F := Ideal) v0 v14 x = BitVec.ofBool (keptR (A (x 2).val) (32 * (x 0).val + (x 1).val)) := by
  have e : k0_pay6 (F := Ideal) v0 v14 x = BitVec.ofBool (decide (max (k0_pay5 (F := Ideal) v0 v14 x : EReal) (-(k0_pay5 (F := Ideal) v0 v14 x : EReal)) ≤ Ideal.ofBits .f32 0x40C00000#32)) := rfl
  rw [e, scaled h0 h14 ht, coe_abs', bits_6]
  simp only [EReal.coe_le_coe_iff]
  rfl

include h0 h14 ht in
/-- The entry, clipped. -/
theorem clipped (x : S128x32x11008.Idx) :
    (k0_pay7 (F := Ideal) v0 v14 x : EReal) = ((clipR (scaledR (A (x 2).val) (32 * (x 0).val + (x 1).val)) : ℝ) : EReal) := by
  have e : (k0_pay7 (F := Ideal) v0 v14 x : EReal) = min (Ideal.ofBits .f32 0x40C00000#32) (max (Ideal.ofBits .f32 0xC0C00000#32) (k0_pay5 (F := Ideal) v0 v14 x : EReal)) := rfl
  rw [e, scaled h0 h14 ht, bits_6, bits_m6, ← coe_max', ← coe_min']
  rfl

/-- The sign, the step and the rounding of a clipped real. -/
theorem rounded (x : S128x32x11008.Idx) (z : ℝ) (h : (k0_pay7 (F := Ideal) v0 v14 x : EReal) = (z : EReal)) :
    (k0_pay1 (F := Ideal) (k0_pay7 v0 v14) (k0_pay8 v0 v14) (k0_pay9 v0 v14) k0_pay10 x : EReal) = ((roundR z : ℝ) : EReal) := by
  have ha : (k0_pay8 (F := Ideal) v0 v14 x : EReal) = ((|z| : ℝ) : EReal) := by
    have e : (k0_pay8 (F := Ideal) v0 v14 x : EReal) = max (k0_pay7 (F := Ideal) v0 v14 x : EReal) (-(k0_pay7 (F := Ideal) v0 v14 x : EReal)) := rfl
    rw [e, h, coe_abs']
  have hs : (k0_pay9 (F := Ideal) v0 v14 x : EReal) = ((stepR |z| : ℝ) : EReal) := by
    have e : (k0_pay9 (F := Ideal) v0 v14 x : EReal) = Scalar.select (BitVec.ofBool (decide ((k0_pay8 (F := Ideal) v0 v14 x : EReal) < Ideal.ofBits .f32 0x40000000#32))) (Ideal.ofBits .f32 0x3F000000#32)
        (Scalar.select (BitVec.ofBool (decide ((k0_pay8 (F := Ideal) v0 v14 x : EReal) < Ideal.ofBits .f32 0x40800000#32))) (Ideal.ofBits .f32 0x3F800000#32) (Ideal.ofBits .f32 0x40000000#32)) := rfl
    rw [e, ha, bits_2, bits_4, bits_1, bits_half]
    simp only [select_ofBool, EReal.coe_lt_coe_iff, decide_eq_true_eq]
    unfold stepR
    split_ifs <;> rfl
  have hp : stepR |z| ≠ 0 := by unfold stepR; split_ifs <;> norm_num
  have e : (k0_pay1 (F := Ideal) (k0_pay7 v0 v14) (k0_pay8 v0 v14) (k0_pay9 v0 v14) k0_pay10 x : EReal)
      = Scalar.select (BitVec.ofBool (decide ((k0_pay7 (F := Ideal) v0 v14 x : EReal) < Ideal.ofBits .f32 0x00000000#32))) (Ideal.ofBits .f32 0xBF800000#32)
          (Scalar.select (BitVec.ofBool (decide (Ideal.ofBits .f32 0x00000000#32 < (k0_pay7 (F := Ideal) v0 v14 x : EReal)))) (Ideal.ofBits .f32 0x3F800000#32) (Ideal.ofBits .f32 0x00000000#32))
        * (k0_pay9 (F := Ideal) v0 v14 x : EReal)
        * Ideal.liftRound Ideal.roundHalfEven ((k0_pay8 (F := Ideal) v0 v14 x : EReal) * Ideal.div (Ideal.ofBits .f32 0x3F800000#32) (k0_pay9 (F := Ideal) v0 v14 x : EReal)) := rfl
  rw [e, h, ha, hs, bits_0, bits_1, bits_m1, Ideal.div_coe hp, ← roundR_eq, ← EReal.coe_mul, one_mul, ← EReal.coe_mul]
  simp only [select_ofBool, EReal.coe_lt_coe_iff, decide_eq_true_eq]
  by_cases h1 : z < 0
  · simp only [if_pos h1, ← EReal.coe_mul]; rfl
  · by_cases h2 : 0 < z
    · simp only [if_neg h1, if_pos h2, ← EReal.coe_mul]; rfl
    · simp only [if_neg h1, if_neg h2, ← EReal.coe_mul]; rfl

include h0 h14 ht in
/-- The entry, quantised. -/
theorem quantised (x : S128x32x11008.Idx) :
    (k0_pay1 (F := Ideal) (k0_pay7 v0 v14) (k0_pay8 v0 v14) (k0_pay9 v0 v14) k0_pay10 x : EReal)
      = ((quantR (A (x 2).val) (32 * (x 0).val + (x 1).val) : ℝ) : EReal) :=
  rounded x _ (clipped h0 h14 ht x)

end Cert.QuantWRefIdeal.Body

end
-- ==== Proof.QuantWRefValue.lean ====
/-
  The value of the reference's quantiser of the weights at the ideal instance, whole arrays: on a tame argument its four results are
  the same functions of the Hadamard transform of the argument's columns.
-/
module

public import proofs.«01_k».proof.Proof.QuantWRefBody
public import proofs.«01_k».proof.Proof.QuantXRefValue
public import Idealize.ShloMosaic.Lib.Pipeline.ValueKit.Geometry
public import Idealize.ShloMosaic.Lib.WordSum

@[expose] public section

set_option maxRecDepth 16384

noncomputable section

namespace Cert.QuantWRefIdeal.Whole

open Cert.QuantWRefIdeal Cert.QuantWRefIdeal.Gen Cert.Quantiser Idealize.ShloMosaic Idealize.ShloMosaic.TcCoe Idealize.SL.Sem
open Cert.QuantWIdeal.Value (colsOf Tame colsOf_eq colsOf_tame outCodes outScales outMasks outDeq)
open Cert.QuantWRefIdeal.Entry (args col)

variable (m : (ℓ : Loc nD τ sig) → Buf (Elt Ideal) ℓ) (ρ : Dev nD → PrngReg)

/-! ## The region's arrays -/

theorem blk0 (c : Dev nD) : (iblk m c 0 t0_0 : Vec Ideal S128x32x11008 .f32) = V m c main_v17 := funext fun j =>
  congrArg (V m c main_v17) (funext fun a => Fin.ext (by
    match a with
    | ⟨0, _⟩ => show 0 * _ + 1 * (j 0).val = (j 0).val; rw [Nat.zero_mul, Nat.zero_add, Nat.one_mul]
    | ⟨1, _⟩ => show 0 * _ + 1 * (j 1).val = (j 1).val; rw [Nat.zero_mul, Nat.zero_add, Nat.one_mul]
    | ⟨2, _⟩ => show 0 * _ + 1 * (j 2).val = (j 2).val; rw [Nat.zero_mul, Nat.zero_add, Nat.one_mul]))
theorem blk1 (c : Dev nD) : (iblk m c 1 t0_0 : Vec Ideal S128x1x11008 .f32) = V m c main_v23 := funext fun j =>
  congrArg (V m c main_v23) (funext fun a => Fin.ext (by
    match a with
    | ⟨0, _⟩ => show 0 * _ + 1 * (j 0).val = (j 0).val; rw [Nat.zero_mul, Nat.zero_add, Nat.one_mul]
    | ⟨1, _⟩ => show 0 * _ + 1 * (j 1).val = (j 1).val; rw [Nat.zero_mul, Nat.zero_add, Nat.one_mul]
    | ⟨2, _⟩ => show 0 * _ + 1 * (j 2).val = (j 2).val; rw [Nat.zero_mul, Nat.zero_add, Nat.one_mul]))
theorem emb0 (y : S128x1x11008.Idx) : r0_0.emb y = y := funext fun a => Fin.ext (by
    match a with
    | ⟨0, _⟩ => show 0 + 1 * (y 0).val = (y 0).val; rw [Nat.zero_add, Nat.one_mul]
    | ⟨1, _⟩ => show 0 + 1 * (y 1).val = (y 1).val; rw [Nat.zero_add, Nat.one_mul]
    | ⟨2, _⟩ => show 0 + 1 * (y 2).val = (y 2).val; rw [Nat.zero_add, Nat.one_mul])
theorem emb1 (y : S128x32x11008.Idx) : r0_1.emb y = y := funext fun a => Fin.ext (by
    match a with
    | ⟨0, _⟩ => show 0 + 1 * (y 0).val = (y 0).val; rw [Nat.zero_add, Nat.one_mul]
    | ⟨1, _⟩ => show 0 + 1 * (y 1).val = (y 1).val; rw [Nat.zero_add, Nat.one_mul]
    | ⟨2, _⟩ => show 0 + 1 * (y 2).val = (y 2).val; rw [Nat.zero_add, Nat.one_mul])
theorem ld0 (x : Vec Ideal S128x1x11008 .f32) : View.ld x r0_0 = x := funext fun y => congrArg x (emb0 y)
theorem ld1 (x : Vec Ideal S128x32x11008 .f32) : View.ld x r0_1 = x := funext fun y => congrArg x (emb1 y)

/-- One store of a whole buffer leaves its payload. -/
theorem canon0 {e : EltTy} (p : Vec Ideal S128x1x11008 e) (y : S128x1x11008.Idx) :
    View.canon (Val := Elt Ideal) (e := e) [⟨r0_0, p⟩] y = p y :=
  View.canon_apply_of_pieces (Val := Elt Ideal) (e := e) p _ (fun q hq x => by
    obtain rfl := List.mem_singleton.1 hq
    exact congrArg p (emb0 x).symm) y ⟨_, List.mem_singleton.2 rfl, by
      show y ∈ r0_0.set
      rw [Rect.mem_set_unit]
      exact fun a => ⟨by match a with
        | ⟨0, _⟩ => exact Nat.zero_le _
        | ⟨1, _⟩ => exact Nat.zero_le _
        | ⟨2, _⟩ => exact Nat.zero_le _, by match a with
        | ⟨0, _⟩ => show (y 0).val < 0 + 128; rw [Nat.zero_add]; exact (y 0).isLt
        | ⟨1, _⟩ => show (y 1).val < 0 + 1; rw [Nat.zero_add]; exact (y 1).isLt
        | ⟨2, _⟩ => show (y 2).val < 0 + 11008; rw [Nat.zero_add]; exact (y 2).isLt⟩⟩
theorem canon1 {e : EltTy} (p : Vec Ideal S128x32x11008 e) (y : S128x32x11008.Idx) :
    View.canon (Val := Elt Ideal) (e := e) [⟨r0_1, p⟩] y = p y :=
  View.canon_apply_of_pieces (Val := Elt Ideal) (e := e) p _ (fun q hq x => by
    obtain rfl := List.mem_singleton.1 hq
    exact congrArg p (emb1 x).symm) y ⟨_, List.mem_singleton.2 rfl, by
      show y ∈ r0_1.set
      rw [Rect.mem_set_unit]
      exact fun a => ⟨by match a with
        | ⟨0, _⟩ => exact Nat.zero_le _
        | ⟨1, _⟩ => exact Nat.zero_le _
        | ⟨2, _⟩ => exact Nat.zero_le _, by match a with
        | ⟨0, _⟩ => show (y 0).val < 0 + 128; rw [Nat.zero_add]; exact (y 0).isLt
        | ⟨1, _⟩ => show (y 1).val < 0 + 32; rw [Nat.zero_add]; exact (y 1).isLt
        | ⟨2, _⟩ => show (y 2).val < 0 + 11008; rw [Nat.zero_add]; exact (y 2).isLt⟩⟩

variable {m}
variable {c : Dev nD} (hx : Tame (args m c))

include hx in
theorem tame (r b : ℕ) : TameBlock (col m c r) b := colsOf_tame hx r b

include hx in
theorem reg0 (x : S128x32x11008.Idx) : (Value.reg_main_v24_0 m c x : EReal) = ((quantR (col m c (x 2).val) (32 * (x 0).val + (x 1).val) : ℝ) : EReal) := by
  refine ((dats m 0 c).arrAt_emb_eq_after_last 2 t0_0 (by decide +kernel) x).trans ?_
  show (dats m 0 c).after 2 t0_0 x = _
  rw [after0_2, blk0, blk1]
  unfold out0_2 k0_pay11 k0_pay12 k0_pay13 k0_pay14
  rw [canon1, ld0, ld1]
  exact Body.quantised (Entry.v23_real hx) (Entry.v17_real hx) (tame hx) x

include hx in
theorem reg1 (x : S128x32x11008.Idx) : (Value.reg_main_v24_1 m c x : EReal) = ((quantR (col m c (x 2).val) (32 * (x 0).val + (x 1).val) : ℝ) : EReal) := by
  refine ((dats m 0 c).arrAt_emb_eq_after_last 3 t0_0 (by decide +kernel) x).trans ?_
  show (dats m 0 c).after 3 t0_0 x = _
  rw [after0_3, blk0, blk1]
  unfold out0_3 k0_pay11 k0_pay12 k0_pay13 k0_pay14
  rw [canon1, ld0, ld1]
  exact Body.quantised (Entry.v23_real hx) (Entry.v17_real hx) (tame hx) x

include hx in
theorem reg2 (x : S128x32x11008.Idx) : Value.reg_main_v24_2 m c x = (BitVec.ofBool (keptR (col m c (x 2).val) (32 * (x 0).val + (x 1).val))).setWidth 32 := by
  refine ((dats m 0 c).arrAt_emb_eq_after_last 4 t0_0 (by decide +kernel) x).trans ?_
  show (dats m 0 c).after 4 t0_0 x = _
  rw [after0_4, blk0, blk1]
  unfold out0_4
  rw [canon1, ld0, ld1]
  exact congrArg (BitVec.setWidth 32) (Body.kept (Entry.v23_real hx) (Entry.v17_real hx) (tame hx) x)

include hx in
theorem reg3 (y : S128x1x11008.Idx) : (Value.reg_main_v24_3 m c y : EReal) = (((expR (col m c (y 2).val) (y 0).val : ℤ) : ℝ) : EReal) := by
  refine ((dats m 0 c).arrAt_emb_eq_after_last 5 t0_0 (by decide +kernel) y).trans ?_
  show (dats m 0 c).after 5 t0_0 y = _
  rw [after0_5, blk0, blk1]
  unfold out0_5
  rw [canon0, ld0]
  exact Body.exponent (Entry.v23_real hx) (tame hx) y

/-! ## The results -/

include hx in
theorem codes : Read.val_main_v48 (F := Ideal) (Value.reg_main_v24_0 m c) = outCodes (args m c) := by
  funext i
  have h0 : (i 0).val < 4096 := (i 0).isLt
  have h1 : (i 1).val < 11008 := (i 1).isLt
  rw [Read.val_main_v48_apply]
  refine (reg0 hx _).trans ?_
  show ((quantR (col m c (((i 0).val * 11008 + (i 1).val) % 11008)) (32 * (((i 0).val * 11008 + (i 1).val) / 352256) + ((i 0).val * 11008 + (i 1).val) / 11008 % 32) : ℝ) : EReal)
    = ((quantR (col m c (i 1).val) (i 0).val : ℝ) : EReal)
  rw [show ((i 0).val * 11008 + (i 1).val) % 11008 = (i 1).val by omega,
    show 32 * (((i 0).val * 11008 + (i 1).val) / 352256) + ((i 0).val * 11008 + (i 1).val) / 11008 % 32 = (i 0).val by omega]

include hx in
theorem scales : Read.val_main_v29 (F := Ideal) (Value.reg_main_v24_3 m c) = outScales (args m c) := by
  funext i
  have h0 : (i 0).val < 128 := (i 0).isLt
  have h1 : (i 1).val < 11008 := (i 1).isLt
  rw [Read.val_main_v29_apply]
  refine (congrArg (fun a : EReal => (Ideal.fptosi 32 (a + Ideal.ofBits .f32 0x42FE0000#32)).setWidth 8) (reg3 hx (Read.idx_main_v29 i))).trans ?_
  rw [bits_127, ← EReal.coe_add]
  show (Ideal.fptosi 32 ((((expR (col m c (((i 0).val * 11008 + (i 1).val) % 11008)) (((i 0).val * 11008 + (i 1).val) / 11008) : ℤ) : ℝ) + 127 : ℝ) : EReal)).setWidth 8
    = BitVec.ofNat 8 (codeR (col m c (i 1).val) (i 0).val)
  rw [show ((i 0).val * 11008 + (i 1).val) % 11008 = (i 1).val by omega, show ((i 0).val * 11008 + (i 1).val) / 11008 = (i 0).val by omega]
  obtain ⟨k1, k2, k3⟩ := codeR_cast (tame hx (i 1).val (i 0).val)
  rw [show (((expR (col m c (i 1).val) (i 0).val : ℤ) : ℝ) + 127) = (((codeR (col m c (i 1).val) (i 0).val : ℕ) : ℤ) : ℝ) by rw [k1]; push_cast; ring]
  exact fptosi_byte _ k3

include hx in
theorem deq : Read.val_main_v49 (F := Ideal) (Value.reg_main_v24_1 m c) (Value.reg_main_v24_3 m c) = outDeq (args m c) := by
  funext i
  have h0 : (i 0).val < 4096 := (i 0).isLt
  have h1 : (i 1).val < 11008 := (i 1).isLt
  rw [Read.val_main_v49_apply, Read.val_main_v47_apply, Read.val_main_v46_apply, Read.val_main_v45_apply, Read.val_main_v44_apply, Read.val_main_v43_apply, Read.val_main_v42_apply,
    Read.val_main_v41_apply, Read.val_main_v40_apply, Read.val_main_v39_apply, Read.val_main_v38_apply, scales hx]
  refine (congrArg (fun a : EReal => a * Ideal.pow (Ideal.ofBits .f32 0x40000000#32) (FloatOps.sitofp (F := Ideal) .f32 ((BitVec.ofNat 8
    (codeR (col m c (((i 0).val * 11008 + (i 1).val) % 11008)) (((i 0).val * 11008 + (i 1).val) / 352256))).setWidth 32 - 127#32)))
    (reg1 hx (Read.idx_main_v49 i))).trans ?_
  have hb := codeR_cast (tame hx (((i 0).val * 11008 + (i 1).val) % 11008) (((i 0).val * 11008 + (i 1).val) / 352256))
  rw [bits_2, sitofp_code _ hb.2.2, hb.1, add_sub_cancel_right]
  show ((quantR (col m c (((i 0).val * 11008 + (i 1).val) % 11008)) (32 * (((i 0).val * 11008 + (i 1).val) / 352256) + ((i 0).val * 11008 + (i 1).val) / 11008 % 32) : ℝ) : EReal)
      * (((2 : ℝ) ^ (((expR (col m c (((i 0).val * 11008 + (i 1).val) % 11008)) (((i 0).val * 11008 + (i 1).val) / 352256) : ℤ) : ℝ)) : ℝ) : EReal)
    = ((deqR (col m c (i 1).val) (i 0).val : ℝ) : EReal)
  rw [show ((i 0).val * 11008 + (i 1).val) % 11008 = (i 1).val by omega,
    show 32 * (((i 0).val * 11008 + (i 1).val) / 352256) + ((i 0).val * 11008 + (i 1).val) / 11008 % 32 = (i 0).val by omega,
    show ((i 0).val * 11008 + (i 1).val) / 352256 = (i 0).val / 32 by omega, ← EReal.coe_mul, Real.rpow_intCast]
  rfl

include hx in
theorem masks : Read.val_main_v37 (F := Ideal) (Value.reg_main_v24_2 m c) = outMasks (args m c) := by
  funext i
  have h0 : (i 0).val < 512 := (i 0).isLt
  have h1 : (i 1).val < 11008 := (i 1).isLt
  rw [Read.val_main_v37_apply]
  unfold Read.val_main_v36
  rw [Host.reduce_eq_fold, fold_addi, Shape.ReducesTo.sum_fiber_r3_a1]
  show (0#32 + _).setWidth 8 = packed fun k => keptR (col m c (i 1).val) (8 * (i 0).val + k)
  rw [← shifted_packed]
  refine congrArg (fun s : BitVec 32 => (0#32 + s).setWidth 8) (Finset.sum_congr rfl fun k _ => ?_)
  have hk : k.val < 8 := k.isLt
  rw [Read.val_main_v35_apply, Read.val_main_v34_apply, Read.val_main_v33_apply, Read.val_main_v32_apply, Read.val_main_v31_apply, Read.val_main_v30_apply]
  show IntOp.shli .host _ (BitVec.ofNat 32 (k.val * 1 + 0)) = _
  rw [Nat.mul_one, Nat.add_zero]
  refine congrArg (fun b : BitVec 32 => IntOp.shli .host b (BitVec.ofNat 32 k.val)) ((reg2 hx _).trans ?_)
  show (BitVec.ofBool (keptR (col m c ((((i 0).val * 8 + k.val) * 11008 + (i 1).val) % 11008))
    (32 * ((((i 0).val * 8 + k.val) * 11008 + (i 1).val) / 352256) + (((i 0).val * 8 + k.val) * 11008 + (i 1).val) / 11008 % 32))).setWidth 32 = _
  rw [show (((i 0).val * 8 + k.val) * 11008 + (i 1).val) % 11008 = (i 1).val by omega,
    show 32 * ((((i 0).val * 8 + k.val) * 11008 + (i 1).val) / 352256) + (((i 0).val * 8 + k.val) * 11008 + (i 1).val) / 11008 % 32 = 8 * (i 0).val + k.val by omega]

/-- The run, read. -/
theorem run (hx : ∀ c : Dev nD, Tame (args m c)) : θ_run defs (onTc (τ := τ) (main (F := Ideal))) ⟨m, fun _ => 0, ρ⟩ fun r => ∀ c : Dev nD,
      r.2.mem ((c : Thread nD τ).loc main_v48) = outCodes (args m c)
      ∧ r.2.mem ((c : Thread nD τ).loc main_v29) = outScales (args m c)
      ∧ r.2.mem ((c : Thread nD τ).loc main_v37) = outMasks (args m c)
      ∧ r.2.mem ((c : Thread nD τ).loc main_v49) = outDeq (args m c)
      ∧ r.2.mem ((c : Thread nD τ).loc main_arg0) = m ((c : Thread nD τ).loc main_arg0) :=
  (θ_run defs _ _).mono (fun _ h c => ⟨(h c).1.trans (codes (hx c)), (h c).2.1.trans (scales (hx c)), (h c).2.2.1.trans (masks (hx c)),
    (h c).2.2.2.1.trans (deq (hx c)), (h c).2.2.2.2⟩) (Value.run (F := Ideal) m ρ)

end Cert.QuantWRefIdeal.Whole

end
-- ==== Proof.lean ====
/-
  The proof of `Cert.Claim`: the frames, the idealization's ledger, and the equality of kernel and reference over the
  extended reals.
-/
module

public import proofs.«01_k».proof.Defs
public import proofs.«01_k».proof.Proof.Gen.Matmul
public import proofs.«01_k».proof.Proof.Gen.QuantX
public import proofs.«01_k».proof.Proof.Gen.QuantX.Frame
public import proofs.«01_k».proof.Proof.Gen.QuantXIdeal
public import proofs.«01_k».proof.Proof.Gen.QuantXIdeal.Frame
public import proofs.«01_k».proof.Proof.Gen.QuantXIdeal.Value
public import proofs.«01_k».proof.Proof.Gen.QuantXRefIdeal
public import proofs.«01_k».proof.Proof.Gen.QuantXRefIdeal.Read
public import proofs.«01_k».proof.Proof.Gen.QuantW
public import proofs.«01_k».proof.Proof.Gen.QuantW.Frame
public import proofs.«01_k».proof.Proof.Gen.QuantWIdeal
public import proofs.«01_k».proof.Proof.Gen.QuantWIdeal.Frame
public import proofs.«01_k».proof.Proof.Gen.QuantWIdeal.Value
public import proofs.«01_k».proof.Proof.Gen.QuantWRefIdeal
public import proofs.«01_k».proof.Proof.Gen.QuantWRefIdeal.Read
public import proofs.«01_k».proof.Proof.Gen.Matmul.Frame
public import proofs.«01_k».proof.Proof.Gen.MatmulIdeal
public import proofs.«01_k».proof.Proof.Gen.MatmulIdeal.Frame
public import proofs.«01_k».proof.Proof.Gen.MatmulIdeal.Value
public import proofs.«01_k».proof.Proof.Gen.MatmulRefIdeal
public import proofs.«01_k».proof.Proof.Gen.MatmulRefIdeal.Read
public import proofs.«01_k».proof.Proof.MatmulValue
public import proofs.«01_k».proof.Proof.QuantXValue
public import proofs.«01_k».proof.Proof.QuantXRefValue
public import proofs.«01_k».proof.Proof.QuantWValue
public import proofs.«01_k».proof.Proof.QuantWRefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference of the product runs and leaves its arguments unchanged; it declares no semaphore. -/
theorem frame_matmulRef : Cert.quiescent_MatmulRefIdeal := fun m ρ _ =>
  (θ_run Cert.MatmulRefIdeal.defs _ _).mono (fun r h => ⟨fun c => ⟨(h c).2.1, (h c).2.2⟩,
      Idealize.ShloMosaic.sem_eq_zero_of_no_sems (by decide) r.2⟩)
    (Cert.MatmulRefIdeal.Value.run (F := Ideal) m ρ)

/-- The pipelined product and the one whole product are the same function over the extended reals. -/
theorem algebraic_matmul : Cert.algebraic_MatmulIdeal_MatmulRefIdeal := fun m ρ m' ρ' _ hag =>
  ⟨fun c => Cert.MatmulIdeal.Product.G (m ((c.tc : Thread Cert.MatmulIdeal.nD Cert.MatmulIdeal.τ).loc Cert.MatmulIdeal.main_arg0))
      (m ((c.tc : Thread Cert.MatmulIdeal.nD Cert.MatmulIdeal.τ).loc Cert.MatmulIdeal.main_arg1)),
    Cert.MatmulIdeal.Product.run m ρ,
    (θ_run Cert.MatmulRefIdeal.defs _ _).mono (fun _ h c => ⟨(h c).1.trans (by rw [(hag c).1, (hag c).2]; rfl), (h c).2⟩)
      (Cert.MatmulRefIdeal.Value.run (F := Ideal) m' ρ')⟩

/-- The precondition, read at each entry of the argument. -/
theorem tame_of_pre [Cert.Pre_tame.Facts] {m : (ℓ : Loc Cert.QuantXIdeal.nD Cert.QuantXIdeal.τ Cert.QuantXIdeal.sig) → Buf (Elt Ideal) ℓ}
    (h : Cert.Pre_QuantXIdeal_tame m) (c : Dev Cert.QuantXIdeal.nD) : Cert.QuantXIdeal.Value.Tame (Cert.QuantXIdeal.Value.args m c) :=
  fun _ => Cert.Quantiser.tame_entry _ (congrFun (h c) _)

/-- The pipelined quantiser and the whole-array quantiser compute the same codes, scales, masks and dequantised values. -/
theorem algebraic_quantX [hPre_tame : Cert.Pre_tame.Facts] : Cert.algebraic_QuantXIdeal_QuantXRefIdeal_pre_tame :=
  fun m ρ m' ρ' hp hag =>
  have e : ∀ c, Cert.QuantXRefIdeal.Entry.args m' c = Cert.QuantXIdeal.Value.args m c := fun c =>
    congrArg (fun a => shapeCast _ a Cert.QuantXIdeal.Gen.shapeCasts_S8x1536x4096_S12288x4096) (hag c)
  have hx : ∀ c, Cert.QuantXIdeal.Value.Tame (Cert.QuantXIdeal.Value.args m c) := fun c => tame_of_pre hp c
  ⟨fun c => Cert.QuantXIdeal.Value.outCodes (Cert.QuantXIdeal.Value.args m c),
    fun c => Cert.QuantXIdeal.Value.outScales (Cert.QuantXIdeal.Value.args m c),
    fun c => Cert.QuantXIdeal.Value.outMasks (Cert.QuantXIdeal.Value.args m c),
    fun c => Cert.QuantXIdeal.Value.outDeq (Cert.QuantXIdeal.Value.args m c),
    Cert.QuantXIdeal.Value.run ρ hx,
    (θ_run Cert.QuantXRefIdeal.defs _ _).mono (fun _ h c =>
      ⟨(h c).1.trans (congrArg _ (e c)), (h c).2.1.trans (congrArg _ (e c)), (h c).2.2.1.trans (congrArg _ (e c)),
        (h c).2.2.2.1.trans (congrArg _ (e c)), (h c).2.2.2.2⟩)
      (Cert.QuantXRefIdeal.Whole.run ρ' fun c => (e c).symm ▸ hx c)⟩

/-- The weights' precondition, read at each entry of the argument. -/
theorem tame_of_pre_w [Cert.Pre_tame_w.Facts] {m : (ℓ : Loc Cert.QuantWIdeal.nD Cert.QuantWIdeal.τ Cert.QuantWIdeal.sig) → Buf (Elt Ideal) ℓ}
    (h : Cert.Pre_QuantWIdeal_tame_w m) (c : Dev Cert.QuantWIdeal.nD) : Cert.QuantWIdeal.Value.Tame (Cert.QuantWIdeal.Value.args m c) :=
  fun _ => Cert.Quantiser.tame_entry _ (congrFun (h c) _)

/-- The pipelined quantiser of the weights and the whole-array one compute the same codes, scales, masks and dequantised values. -/
theorem algebraic_quantW [hPre_tame_w : Cert.Pre_tame_w.Facts] : Cert.algebraic_QuantWIdeal_QuantWRefIdeal_pre_tame_w :=
  fun m ρ m' ρ' hp hag =>
  have e : ∀ c, Cert.QuantWRefIdeal.Entry.args m' c = Cert.QuantWIdeal.Value.args m c := fun c => hag c
  have hx : ∀ c, Cert.QuantWIdeal.Value.Tame (Cert.QuantWIdeal.Value.args m c) := fun c => tame_of_pre_w hp c
  ⟨fun c => Cert.QuantWIdeal.Value.outCodes (Cert.QuantWIdeal.Value.args m c),
    fun c => Cert.QuantWIdeal.Value.outScales (Cert.QuantWIdeal.Value.args m c),
    fun c => Cert.QuantWIdeal.Value.outMasks (Cert.QuantWIdeal.Value.args m c),
    fun c => Cert.QuantWIdeal.Value.outDeq (Cert.QuantWIdeal.Value.args m c),
    Cert.QuantWIdeal.Value.run ρ hx,
    (θ_run Cert.QuantWRefIdeal.defs _ _).mono (fun _ h c =>
      ⟨(h c).1.trans (congrArg _ (e c)), (h c).2.1.trans (congrArg _ (e c)), (h c).2.2.1.trans (congrArg _ (e c)),
        (h c).2.2.2.1.trans (congrArg _ (e c)), (h c).2.2.2.2⟩)
      (Cert.QuantWRefIdeal.Whole.run ρ' fun c => (e c).symm ▸ hx c)⟩

/-- The one shape fact of the precondition on x. -/
theorem facts_tame : Cert.Pre_tame.Facts := ⟨by decide⟩

/-- The one shape fact of the precondition on w. -/
theorem facts_tame_w : Cert.Pre_tame_w.Facts := ⟨by decide⟩

theorem claim : Cert.Claim :=
  ⟨Cert.QuantX.Gen.facts, Cert.QuantXIdeal.Gen.facts, Cert.QuantXRefIdeal.Gen.facts, Cert.QuantW.Gen.facts, Cert.QuantWIdeal.Gen.facts,
    Cert.QuantWRefIdeal.Gen.facts, Cert.Matmul.Gen.facts, Cert.MatmulIdeal.Gen.facts, Cert.MatmulRefIdeal.Gen.facts, facts_tame, facts_tame_w,
    fun m ρ _ => Cert.QuantX.Gen.frame m ρ, fun m ρ _ => Cert.QuantXIdeal.Gen.frame m ρ,
    fun m ρ _ => Cert.QuantXIdeal.Gen.frame m ρ,
    fun m ρ _ => Cert.QuantXRefIdeal.Gen.frame m ρ, fun m ρ _ => Cert.QuantXRefIdeal.Gen.frame m ρ,
    fun m ρ _ => Cert.QuantW.Gen.frame m ρ, fun m ρ _ => Cert.QuantWIdeal.Gen.frame m ρ,
    fun m ρ _ => Cert.QuantWIdeal.Gen.frame m ρ,
    fun m ρ _ => Cert.QuantWRefIdeal.Gen.frame m ρ, fun m ρ _ => Cert.QuantWRefIdeal.Gen.frame m ρ,
    fun m ρ _ => Cert.Matmul.Gen.frame m ρ, fun m ρ _ => Cert.MatmulIdeal.Gen.frame m ρ, frame_matmulRef, trivial,
    @algebraic_quantX facts_tame, trivial, @algebraic_quantW facts_tame_w, trivial, algebraic_matmul⟩

end Cert.Proof

end
